-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_in_range [hPre_logits_in_range : Cert.Pre_logits_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_logits_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_in_range [hPre_logits_in_range : Cert.Pre_logits_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_in_range [hKernelIdeal : Cert.KernelIdeal.Facts] [hPre_logits_in_range : Cert.Pre_logits_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_in_range [hReferenceIdeal : Cert.ReferenceIdeal.Facts] [hPre_logits_in_range : Cert.Pre_logits_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_logits_in_range [hKernelIdeal : Cert.KernelIdeal.Facts] [hReferenceIdeal : Cert.ReferenceIdeal.Facts] [hPre_logits_in_range : Cert.Pre_logits_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v99) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v33) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v185) = v0 c
          ∧ r.2.mem ((c.tc : Thread Cert.Reference7Ideal.nD Cert.Reference7Ideal.τ).loc Cert.Reference7Ideal.main_v186) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_logits_in_range : Cert.Pre_logits_in_range.Facts),
    quiescent_Kernel (hKernel := hKernel)
    ∧ quiescent_KernelIdeal (hKernelIdeal := hKernelIdeal)
    ∧ quiescent_KernelIdeal_pre_logits_in_range (hKernelIdeal := hKernelIdeal) (hPre_logits_in_range := hPre_logits_in_range)
    ∧ quiescent_ReferenceIdeal (hReferenceIdeal := hReferenceIdeal)
    ∧ quiescent_ReferenceIdeal_pre_logits_in_range (hReferenceIdeal := hReferenceIdeal) (hPre_logits_in_range := hPre_logits_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_logits_in_range (hKernelIdeal := hKernelIdeal) (hReferenceIdeal := hReferenceIdeal) (hPre_logits_in_range := hPre_logits_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_logits_in_range.lean ====
abbrev S8x2048x1024 : Shape := ⟨3, ![8, 2048, 1024]⟩
abbrev S8x8x1024x256 : Shape := ⟨4, ![8, 8, 1024, 256]⟩
abbrev S16 : Shape := ⟨1, ![16]⟩
abbrev S8x2048x16x64 : Shape := ⟨4, ![8, 2048, 16, 64]⟩
abbrev S8x16x2048x2048 : Shape := ⟨4, ![8, 16, 2048, 2048]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S1x1x2048x2048 : Shape := ⟨4, ![1, 1, 2048, 2048]⟩

class Facts : Prop where
  bitsLt_bf16_f32 : FTy.bits .bf16 < FTy.bits .f32
  shapeCasts_S8x2048x1024_S8x2048x16x64 : S8x2048x1024.ShapeCasts S8x2048x16x64
  bcast_S16_S1x16x1x1_1 : S16.BroadcastsInDim S1x16x1x1 (![1] : Fin 1 → Fin S1x16x1x1.rank)
  bcast_S1x16x1x1_S8x16x2048x2048_0_1_2_3 : S1x16x1x1.BroadcastsInDim S8x16x2048x2048 (![0, 1, 2, 3] : Fin 4 → Fin S8x16x2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S8x16x2048x2048 : S_.BroadcastsInDim S8x16x2048x2048 (![] : Fin 0 → Fin S8x16x2048x2048.rank)
  bcast_S2048x2048_S1x1x2048x2048_2_3 : S2048x2048.BroadcastsInDim S1x1x2048x2048 (![2, 3] : Fin 2 → Fin S1x1x2048x2048.rank)
  bcast_S1x1x2048x2048_S8x16x2048x2048_0_1_2_3 : S1x1x2048x2048.BroadcastsInDim S8x16x2048x2048 (![0, 1, 2, 3] : Fin 4 → Fin S8x16x2048x2048.rank)
  dot_S8x2048x16x64_S8x2048x16x64_S8x16x2048x2048_3_3_1_1_02_02_wf : DotDims.WF S8x2048x16x64 S8x2048x16x64 S8x16x2048x2048 [3] [3] [1] [1] [0, 2] [0, 2]

variable [Facts]

def dot_S8x2048x16x64_S8x2048x16x64_S8x16x2048x2048_3_3_1_1_02_02 : DotDims S8x2048x16x64 S8x2048x16x64 S8x16x2048x2048 where
  lhsContracting := [3]
  rhsContracting := [3]
  lhsNonContracting := [1]
  rhsNonContracting := [1]
  lhsBatch := [0, 2]
  rhsBatch := [0, 2]
  wf := dot_S8x2048x16x64_S8x2048x16x64_S8x16x2048x2048_3_3_1_1_02_02_wf
def fn {F : FTy → Type} [FloatOps F] (main_arg0 : FVec F S8x2048x1024 .bf16) (main_arg1 : FVec F S8x2048x1024 .bf16) (main_arg2 : FVec F S8x8x1024x256 .bf16) (main_arg3 : FVec F S16 .f32) : IVec S8x16x2048x2048 1 :=
  let main_v0 : FVec F S8x2048x1024 .f32 := (extf .f32 · bitsLt_bf16_f32) main_arg0
  let main_v1 : FVec F S8x2048x16x64 .f32 := shapeCast S8x2048x16x64 main_v0 shapeCasts_S8x2048x1024_S8x2048x16x64
  let main_v2 : FVec F S8x2048x1024 .f32 := (extf .f32 · bitsLt_bf16_f32) main_arg1
  let main_v3 : FVec F S8x2048x16x64 .f32 := shapeCast S8x2048x16x64 main_v2 shapeCasts_S8x2048x1024_S8x2048x16x64
  let main_v4 : FVec F S8x16x2048x2048 .f32 := (fun l r => Host.dotGeneral dot_S8x2048x16x64_S8x2048x16x64_S8x16x2048x2048_3_3_1_1_02_02 none l r) main_v1 main_v3
  let main_v5 : FVec F S1x16x1x1 .f32 := broadcastInDim S1x16x1x1 ![1] bcast_S16_S1x16x1x1_1 main_arg3
  let main_v6 : FVec F S8x16x2048x2048 .f32 := broadcastInDim S8x16x2048x2048 ![0, 1, 2, 3] bcast_S1x16x1x1_S8x16x2048x2048_0_1_2_3 main_v5
  let main_v7 : FVec F S8x16x2048x2048 .f32 := addf main_v4 main_v6
  let main_v8 : IVec S2048 32 := iotaInDim S2048 32 0
  let main_v9 : IVec S1x2048 32 := broadcastInDim S1x2048 ![1] bcast_S2048_S1x2048_1 main_v8
  let main_v10 : IVec S2048x1 32 := broadcastInDim S2048x1 ![0] bcast_S2048_S2048x1_0 main_v8
  let main_v11 : IVec S2048x2048 32 := broadcastInDim S2048x2048 ![0, 1] bcast_S1x2048_S2048x2048_0_1 main_v9
  let main_v12 : IVec S2048x2048 32 := broadcastInDim S2048x2048 ![0, 1] bcast_S2048x1_S2048x2048_0_1 main_v10
  let main_v13 : IVec S2048x2048 1 := cmpi .sge main_v11 main_v12
  let main_cst : FVec F S_ .f32 := constant S_ .f32 0xFF800000#32
  let main_v14 : FVec F S8x16x2048x2048 .f32 := broadcastInDim S8x16x2048x2048 ![] bcast_S_S8x16x2048x2048 main_cst
  let main_v15 : IVec S8x16x2048x2048 1 := cmpf .ogt main_v7 main_v14
  let main_cst_0 : FVec F S_ .f32 := constant S_ .f32 0x41F00000#32
  let main_v16 : FVec F S8x16x2048x2048 .f32 := broadcastInDim S8x16x2048x2048 ![] bcast_S_S8x16x2048x2048 main_cst_0
  let main_v17 : IVec S8x16x2048x2048 1 := cmpf .ole main_v7 main_v16
  let main_v18 : IVec S8x16x2048x2048 1 := andi main_v15 main_v17
  let main_v19 : IVec S1x1x2048x2048 1 := broadcastInDim S1x1x2048x2048 ![2, 3] bcast_S2048x2048_S1x1x2048x2048_2_3 main_v13
  let main_v20 : IVec S8x16x2048x2048 1 := broadcastInDim S8x16x2048x2048 ![0, 1, 2, 3] bcast_S1x1x2048x2048_S8x16x2048x2048_0_1_2_3 main_v19
  let main_v21 : IVec S8x16x2048x2048 1 := ori main_v20 main_v18
  main_v21
-- ==== Kernel.lean ====
abbrev S8x2048x1024 : Shape := ⟨3, ![8, 2048, 1024]⟩
abbrev S8x8x1024x256 : Shape := ⟨4, ![8, 8, 1024, 256]⟩
abbrev S16 : Shape := ⟨1, ![16]⟩
abbrev S1x256x1024 : Shape := ⟨3, ![1, 256, 1024]⟩
abbrev S1x2048x1024 : Shape := ⟨3, ![1, 2048, 1024]⟩
abbrev S1x8x1024x256 : Shape := ⟨4, ![1, 8, 1024, 256]⟩
abbrev S1x128 : Shape := ⟨2, ![1, 128]⟩
abbrev S256x256 : Shape := ⟨2, ![256, 256]⟩
abbrev S1x256x128 : Shape := ⟨3, ![1, 256, 128]⟩
abbrev S256x128 : Shape := ⟨2, ![256, 128]⟩
abbrev S1 : Shape := ⟨1, ![1]⟩
abbrev S1x256 : Shape := ⟨2, ![1, 256]⟩
abbrev S64x256 : Shape := ⟨2, ![64, 256]⟩
abbrev S1x1x64x256 : Shape := ⟨4, ![1, 1, 64, 256]⟩
abbrev S128x256 : Shape := ⟨2, ![128, 256]⟩

abbrev nBuf : Space → Nat
  | .hbm => 5
  | .vmem => 8
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x8x1024x256, .bf16⟩
  | .hbm, ⟨3, _⟩ => ⟨S16, .f32⟩
  | .hbm, ⟨4, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x8x1024x256, .bf16⟩
  | .local _ .vmem, ⟨5, _⟩ => ⟨S1x8x1024x256, .bf16⟩
  | .local _ .vmem, ⟨6, _⟩ => ⟨S1x256x1024, .bf16⟩
  | .local _ .vmem, ⟨7, _⟩ => ⟨S1x256x1024, .bf16⟩
  | .local _ .smem, ⟨0, _⟩ => ⟨S16, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 8], ![false, false, false]⟩

def k0_off1 (i : grid0.Coords) (c0_i32_4 : BitVec 32) (c0_i32_5 : BitVec 32) : Fin 1 → Nat :=
  let arg1 : BitVec 32 := BitVec.ofNat 32 (i 1).val
  let c8_i32 : BitVec 32 := 8#32
  let v22 : BitVec 32 := Scalar.muli arg1 c8_i32
  let v23 : BitVec 32 := Scalar.addi v22 c0_i32_4
  let c2_i32 : BitVec 32 := 2#32
  let v24 : BitVec 32 := Scalar.muli v23 c2_i32
  let v25 : BitVec 32 := Scalar.addi v24 c0_i32_5
  let v26 : Index := Scalar.indexCast v25
  ![v26.toNat]
def k0_mult1 (i : grid0.Coords) : BitVec 32 :=
  let arg2 : BitVec 32 := BitVec.ofNat 32 (i 2).val
  let c256_i32 : BitVec 32 := 256#32
  let v315 : BitVec 32 := Scalar.muli arg2 c256_i32
  v315
def k0_off2 (i : grid0.Coords) : Fin 3 → Nat :=
  let c0_174 : Index := 0#32
  let arg2 : BitVec 32 := BitVec.ofNat 32 (i 2).val
  let c256_i32 : BitVec 32 := 256#32
  let v315 : BitVec 32 := Scalar.muli arg2 c256_i32
  let v316 : BitVec 32 := v315
  let v317 : Index := Scalar.indexCast v316
  let c0_175 : Index := 0#32
  ![0, v317.toNat, 0]
def k0_off3 (i : grid0.Coords) : Fin 3 → Nat :=
  let c0_180 : Index := 0#32
  let arg2 : BitVec 32 := BitVec.ofNat 32 (i 2).val
  let c256_i32 : BitVec 32 := 256#32
  let v315 : BitVec 32 := Scalar.muli arg2 c256_i32
  let v316 : BitVec 32 := v315
  let v329 : Index := Scalar.indexCast v316
  let c128_181 : Index := 128#32
  ![0, v329.toNat, 128]
def k0_off4 (i : grid0.Coords) : Fin 3 → Nat :=
  let c0_186 : Index := 0#32
  let arg2 : BitVec 32 := BitVec.ofNat 32 (i 2).val
  let c256_i32 : BitVec 32 := 256#32
  let v315 : BitVec 32 := Scalar.muli arg2 c256_i32
  let v316 : BitVec 32 := v315
  let v341 : Index := Scalar.indexCast v316
  let c256_187 : Index := 256#32
  ![0, v341.toNat, 256]
def k0_off5 (i : grid0.Coords) : Fin 3 → Nat :=
  let c0_192 : Index := 0#32
  let arg2 : BitVec 32 := BitVec.ofNat 32 (i 2).val
  let c256_i32 : BitVec 32 := 256#32
  let v315 : BitVec 32 := Scalar.muli arg2 c256_i32
  let v316 : BitVec 32 := v315
  let v353 : Index := Scalar.indexCast v316
  let c384_193 : Index := 384#32
  ![0, v353.toNat, 384]
def k0_off6 (i : grid0.Coords) : Fin 3 → Nat :=
  let c0_198 : Index := 0#32
  let arg2 : BitVec 32 := BitVec.ofNat 32 (i 2).val
  let c256_i32 : BitVec 32 := 256#32
  let v315 : BitVec 32 := Scalar.muli arg2 c256_i32
  let v316 : BitVec 32 := v315
  let v365 : Index := Scalar.indexCast v316
  let c512_199 : Index := 512#32
  ![0, v365.toNat, 512]
def k0_off7 (i : grid0.Coords) : Fin 3 → Nat :=
  let c0_204 : Index := 0#32
  let arg2 : BitVec 32 := BitVec.ofNat 32 (i 2).val
  let c256_i32 : BitVec 32 := 256#32
  let v315 : BitVec 32 := Scalar.muli arg2 c256_i32
  let v316 : BitVec 32 := v315
  let v377 : Index := Scalar.indexCast v316
  let c640_205 : Index := 640#32
  ![0, v377.toNat, 640]
def k0_off8 (i : grid0.Coords) : Fin 3 → Nat :=
  let c0_210 : Index := 0#32
  let arg2 : BitVec 32 := BitVec.ofNat 32 (i 2).val
  let c256_i32 : BitVec 32 := 256#32
  let v315 : BitVec 32 := Scalar.muli arg2 c256_i32
  let v316 : BitVec 32 := v315
  let v389 : Index := Scalar.indexCast v316
  let c768_211 : Index := 768#32
  ![0, v389.toNat, 768]
def k0_off9 (i : grid0.Coords) : Fin 3 → Nat :=
  let c0_216 : Index := 0#32
  let arg2 : BitVec 32 := BitVec.ofNat 32 (i 2).val
  let c256_i32 : BitVec 32 := 256#32
  let v315 : BitVec 32 := Scalar.muli arg2 c256_i32
  let v316 : BitVec 32 := v315
  let v401 : Index := Scalar.indexCast v316
  let c896_217 : Index := 896#32
  ![0, v401.toNat, 896]
def k0_off10 (i : grid0.Coords) : Fin 4 → Nat :=
  let c0_302 : Index := 0#32
  let arg2 : BitVec 32 := BitVec.ofNat 32 (i 2).val
  let v717 : Index := Scalar.indexCast arg2
  let c0_303 : Index := 0#32
  let c0_304 : Index := 0#32
  ![0, v717.toNat, 0, 0]
def k0_off11 (i : grid0.Coords) : Fin 4 → Nat :=
  let c0_306 : Index := 0#32
  let arg2 : BitVec 32 := BitVec.ofNat 32 (i 2).val
  let v726 : Index := Scalar.indexCast arg2
  let c64 : Index := 64#32
  let c0_307 : Index := 0#32
  ![0, v726.toNat, 64, 0]
def k0_off12 (i : grid0.Coords) : Fin 4 → Nat :=
  let c0_309 : Index := 0#32
  let arg2 : BitVec 32 := BitVec.ofNat 32 (i 2).val
  let v735 : Index := Scalar.indexCast arg2
  let c128_310 : Index := 128#32
  let c0_311 : Index := 0#32
  ![0, v735.toNat, 128, 0]
def k0_off13 (i : grid0.Coords) : Fin 4 → Nat :=
  let c0_313 : Index := 0#32
  let arg2 : BitVec 32 := BitVec.ofNat 32 (i 2).val
  let v744 : Index := Scalar.indexCast arg2
  let c192 : Index := 192#32
  let c0_314 : Index := 0#32
  ![0, v744.toNat, 192, 0]
def k0_off14 (i : grid0.Coords) : Fin 4 → Nat :=
  let c0_316 : Index := 0#32
  let arg2 : BitVec 32 := BitVec.ofNat 32 (i 2).val
  let v753 : Index := Scalar.indexCast arg2
  let c256_317 : Index := 256#32
  let c0_318 : Index := 0#32
  ![0, v753.toNat, 256, 0]
def k0_off15 (i : grid0.Coords) : Fin 4 → Nat :=
  let c0_320 : Index := 0#32
  let arg2 : BitVec 32 := BitVec.ofNat 32 (i 2).val
  let v762 : Index := Scalar.indexCast arg2
  let c320 : Index := 320#32
  let c0_321 : Index := 0#32
  ![0, v762.toNat, 320, 0]
def k0_off16 (i : grid0.Coords) : Fin 4 → Nat :=
  let c0_323 : Index := 0#32
  let arg2 : BitVec 32 := BitVec.ofNat 32 (i 2).val
  let v771 : Index := Scalar.indexCast arg2
  let c384_324 : Index := 384#32
  let c0_325 : Index := 0#32
  ![0, v771.toNat, 384, 0]
def k0_off17 (i : grid0.Coords) : Fin 4 → Nat :=
  let c0_327 : Index := 0#32
  let arg2 : BitVec 32 := BitVec.ofNat 32 (i 2).val
  let v780 : Index := Scalar.indexCast arg2
  let c448 : Index := 448#32
  let c0_328 : Index := 0#32
  ![0, v780.toNat, 448, 0]
def k0_off18 (i : grid0.Coords) : Fin 4 → Nat :=
  let c0_330 : Index := 0#32
  let arg2 : BitVec 32 := BitVec.ofNat 32 (i 2).val
  let v789 : Index := Scalar.indexCast arg2
  let c512_331 : Index := 512#32
  let c0_332 : Index := 0#32
  ![0, v789.toNat, 512, 0]
def k0_off19 (i : grid0.Coords) : Fin 4 → Nat :=
  let c0_334 : Index := 0#32
  let arg2 : BitVec 32 := BitVec.ofNat 32 (i 2).val
  let v798 : Index := Scalar.indexCast arg2
  let c576 : Index := 576#32
  let c0_335 : Index := 0#32
  ![0, v798.toNat, 576, 0]
def k0_off20 (i : grid0.Coords) : Fin 4 → Nat :=
  let c0_337 : Index := 0#32
  let arg2 : BitVec 32 := BitVec.ofNat 32 (i 2).val
  let v807 : Index := Scalar.indexCast arg2
  let c640_338 : Index := 640#32
  let c0_339 : Index := 0#32
  ![0, v807.toNat, 640, 0]
def k0_off21 (i : grid0.Coords) : Fin 4 → Nat :=
  let c0_341 : Index := 0#32
  let arg2 : BitVec 32 := BitVec.ofNat 32 (i 2).val
  let v816 : Index := Scalar.indexCast arg2
  let c704 : Index := 704#32
  let c0_342 : Index := 0#32
  ![0, v816.toNat, 704, 0]
def k0_off22 (i : grid0.Coords) : Fin 4 → Nat :=
  let c0_344 : Index := 0#32
  let arg2 : BitVec 32 := BitVec.ofNat 32 (i 2).val
  let v825 : Index := Scalar.indexCast arg2
  let c768_345 : Index := 768#32
  let c0_346 : Index := 0#32
  ![0, v825.toNat, 768, 0]
def k0_off23 (i : grid0.Coords) : Fin 4 → Nat :=
  let c0_348 : Index := 0#32
  let arg2 : BitVec 32 := BitVec.ofNat 32 (i 2).val
  let v834 : Index := Scalar.indexCast arg2
  let c832 : Index := 832#32
  let c0_349 : Index := 0#32
  ![0, v834.toNat, 832, 0]
def k0_off24 (i : grid0.Coords) : Fin 4 → Nat :=
  let c0_351 : Index := 0#32
  let arg2 : BitVec 32 := BitVec.ofNat 32 (i 2).val
  let v843 : Index := Scalar.indexCast arg2
  let c896_352 : Index := 896#32
  let c0_353 : Index := 0#32
  ![0, v843.toNat, 896, 0]
def k0_off25 (i : grid0.Coords) : Fin 4 → Nat :=
  let c0_355 : Index := 0#32
  let arg2 : BitVec 32 := BitVec.ofNat 32 (i 2).val
  let v852 : Index := Scalar.indexCast arg2
  let c960 : Index := 960#32
  let c0_356 : Index := 0#32
  ![0, v852.toNat, 960, 0]
@[reducible] def k0_t1_loop (i : grid0.Coords) : Scf.Loop 32 :=
  let c0_i32_358 : BitVec 32 := 0#32
  let arg2 : BitVec 32 := BitVec.ofNat 32 (i 2).val
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_360 : BitVec 32 := 1#32
  ⟨c0_i32_358, v865, c1_i32_360⟩
def k0_mult2 (i : grid0.Coords) (k0_t1 : Fin (k0_t1_loop i).trips) : BitVec 32 :=
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  v918
def k0_off26 (i : grid0.Coords) (k0_t1 : Fin (k0_t1_loop i).trips) : Fin 3 → Nat :=
  let c0_388 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v920 : Index := Scalar.indexCast v919
  let c0_389 : Index := 0#32
  ![0, v920.toNat, 0]
def k0_off27 (i : grid0.Coords) (k0_t1 : Fin (k0_t1_loop i).trips) : Fin 3 → Nat :=
  let c0_394 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v932 : Index := Scalar.indexCast v919
  let c128_395 : Index := 128#32
  ![0, v932.toNat, 128]
def k0_off28 (i : grid0.Coords) (k0_t1 : Fin (k0_t1_loop i).trips) : Fin 3 → Nat :=
  let c0_400 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v944 : Index := Scalar.indexCast v919
  let c256_401 : Index := 256#32
  ![0, v944.toNat, 256]
def k0_off29 (i : grid0.Coords) (k0_t1 : Fin (k0_t1_loop i).trips) : Fin 3 → Nat :=
  let c0_406 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v956 : Index := Scalar.indexCast v919
  let c384_407 : Index := 384#32
  ![0, v956.toNat, 384]
def k0_off30 (i : grid0.Coords) (k0_t1 : Fin (k0_t1_loop i).trips) : Fin 3 → Nat :=
  let c0_412 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v968 : Index := Scalar.indexCast v919
  let c512_413 : Index := 512#32
  ![0, v968.toNat, 512]
def k0_off31 (i : grid0.Coords) (k0_t1 : Fin (k0_t1_loop i).trips) : Fin 3 → Nat :=
  let c0_418 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v980 : Index := Scalar.indexCast v919
  let c640_419 : Index := 640#32
  ![0, v980.toNat, 640]
def k0_off32 (i : grid0.Coords) (k0_t1 : Fin (k0_t1_loop i).trips) : Fin 3 → Nat :=
  let c0_424 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v992 : Index := Scalar.indexCast v919
  let c768_425 : Index := 768#32
  ![0, v992.toNat, 768]
def k0_off33 (i : grid0.Coords) (k0_t1 : Fin (k0_t1_loop i).trips) : Fin 3 → Nat :=
  let c0_430 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let c256_i32_387 : BitVec 32 := 256#32
  let v918 : BitVec 32 := Scalar.muli v917 c256_i32_387
  let v919 : BitVec 32 := v918
  let v1004 : Index := Scalar.indexCast v919
  let c896_431 : Index := 896#32
  ![0, v1004.toNat, 896]
def k0_off34 (i : grid0.Coords) (k0_t1 : Fin (k0_t1_loop i).trips) : Fin 4 → Nat :=
  let c0_484 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1256 : Index := Scalar.indexCast v917
  let c0_485 : Index := 0#32
  let c0_486 : Index := 0#32
  ![0, v1256.toNat, 0, 0]
def k0_off35 (i : grid0.Coords) (k0_t1 : Fin (k0_t1_loop i).trips) : Fin 4 → Nat :=
  let c0_488 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1265 : Index := Scalar.indexCast v917
  let c64_489 : Index := 64#32
  let c0_490 : Index := 0#32
  ![0, v1265.toNat, 64, 0]
def k0_off36 (i : grid0.Coords) (k0_t1 : Fin (k0_t1_loop i).trips) : Fin 4 → Nat :=
  let c0_492 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1274 : Index := Scalar.indexCast v917
  let c128_493 : Index := 128#32
  let c0_494 : Index := 0#32
  ![0, v1274.toNat, 128, 0]
def k0_off37 (i : grid0.Coords) (k0_t1 : Fin (k0_t1_loop i).trips) : Fin 4 → Nat :=
  let c0_496 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1283 : Index := Scalar.indexCast v917
  let c192_497 : Index := 192#32
  let c0_498 : Index := 0#32
  ![0, v1283.toNat, 192, 0]
def k0_off38 (i : grid0.Coords) (k0_t1 : Fin (k0_t1_loop i).trips) : Fin 4 → Nat :=
  let c0_500 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1292 : Index := Scalar.indexCast v917
  let c256_501 : Index := 256#32
  let c0_502 : Index := 0#32
  ![0, v1292.toNat, 256, 0]
def k0_off39 (i : grid0.Coords) (k0_t1 : Fin (k0_t1_loop i).trips) : Fin 4 → Nat :=
  let c0_504 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1301 : Index := Scalar.indexCast v917
  let c320_505 : Index := 320#32
  let c0_506 : Index := 0#32
  ![0, v1301.toNat, 320, 0]
def k0_off40 (i : grid0.Coords) (k0_t1 : Fin (k0_t1_loop i).trips) : Fin 4 → Nat :=
  let c0_508 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1310 : Index := Scalar.indexCast v917
  let c384_509 : Index := 384#32
  let c0_510 : Index := 0#32
  ![0, v1310.toNat, 384, 0]
def k0_off41 (i : grid0.Coords) (k0_t1 : Fin (k0_t1_loop i).trips) : Fin 4 → Nat :=
  let c0_512 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1319 : Index := Scalar.indexCast v917
  let c448_513 : Index := 448#32
  let c0_514 : Index := 0#32
  ![0, v1319.toNat, 448, 0]
def k0_off42 (i : grid0.Coords) (k0_t1 : Fin (k0_t1_loop i).trips) : Fin 4 → Nat :=
  let c0_516 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1328 : Index := Scalar.indexCast v917
  let c512_517 : Index := 512#32
  let c0_518 : Index := 0#32
  ![0, v1328.toNat, 512, 0]
def k0_off43 (i : grid0.Coords) (k0_t1 : Fin (k0_t1_loop i).trips) : Fin 4 → Nat :=
  let c0_520 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1337 : Index := Scalar.indexCast v917
  let c576_521 : Index := 576#32
  let c0_522 : Index := 0#32
  ![0, v1337.toNat, 576, 0]
def k0_off44 (i : grid0.Coords) (k0_t1 : Fin (k0_t1_loop i).trips) : Fin 4 → Nat :=
  let c0_524 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1346 : Index := Scalar.indexCast v917
  let c640_525 : Index := 640#32
  let c0_526 : Index := 0#32
  ![0, v1346.toNat, 640, 0]
def k0_off45 (i : grid0.Coords) (k0_t1 : Fin (k0_t1_loop i).trips) : Fin 4 → Nat :=
  let c0_528 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1355 : Index := Scalar.indexCast v917
  let c704_529 : Index := 704#32
  let c0_530 : Index := 0#32
  ![0, v1355.toNat, 704, 0]
def k0_off46 (i : grid0.Coords) (k0_t1 : Fin (k0_t1_loop i).trips) : Fin 4 → Nat :=
  let c0_532 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1364 : Index := Scalar.indexCast v917
  let c768_533 : Index := 768#32
  let c0_534 : Index := 0#32
  ![0, v1364.toNat, 768, 0]
def k0_off47 (i : grid0.Coords) (k0_t1 : Fin (k0_t1_loop i).trips) : Fin 4 → Nat :=
  let c0_536 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1373 : Index := Scalar.indexCast v917
  let c832_537 : Index := 832#32
  let c0_538 : Index := 0#32
  ![0, v1373.toNat, 832, 0]
def k0_off48 (i : grid0.Coords) (k0_t1 : Fin (k0_t1_loop i).trips) : Fin 4 → Nat :=
  let c0_540 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1382 : Index := Scalar.indexCast v917
  let c896_541 : Index := 896#32
  let c0_542 : Index := 0#32
  ![0, v1382.toNat, 896, 0]
def k0_off49 (i : grid0.Coords) (k0_t1 : Fin (k0_t1_loop i).trips) : Fin 4 → Nat :=
  let c0_544 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let c1_i32_360 : BitVec 32 := 1#32
  let arg8 : BitVec 32 := Scf.iv c0_i32_358 c1_i32_360 k0_t1
  let v917 : BitVec 32 := Scalar.subi v916 arg8
  let v1391 : Index := Scalar.indexCast v917
  let c960_545 : Index := 960#32
  let c0_546 : Index := 0#32
  ![0, v1391.toNat, 960, 0]
@[reducible] def k0_t2_loop (i : grid0.Coords) : Scf.Loop 32 :=
  let c0_i32_358 : BitVec 32 := 0#32
  let arg2 : BitVec 32 := BitVec.ofNat 32 (i 2).val
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let v862 : BitVec 32 := Scalar.addi c0_i32_358 v861
  let c1_i32_361 : BitVec 32 := 1#32
  ⟨v865, v862, c1_i32_361⟩
def k0_mult3 (i : grid0.Coords) (k0_t2 : Fin (k0_t2_loop i).trips) : BitVec 32 :=
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  v918
def k0_off50 (i : grid0.Coords) (k0_t2 : Fin (k0_t2_loop i).trips) : Fin 3 → Nat :=
  let c0_388 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v920 : Index := Scalar.indexCast v919
  let c0_389 : Index := 0#32
  ![0, v920.toNat, 0]
def k0_off51 (i : grid0.Coords) (k0_t2 : Fin (k0_t2_loop i).trips) : Fin 3 → Nat :=
  let c0_394 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v932 : Index := Scalar.indexCast v919
  let c128_395 : Index := 128#32
  ![0, v932.toNat, 128]
def k0_off52 (i : grid0.Coords) (k0_t2 : Fin (k0_t2_loop i).trips) : Fin 3 → Nat :=
  let c0_400 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v944 : Index := Scalar.indexCast v919
  let c256_401 : Index := 256#32
  ![0, v944.toNat, 256]
def k0_off53 (i : grid0.Coords) (k0_t2 : Fin (k0_t2_loop i).trips) : Fin 3 → Nat :=
  let c0_406 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v956 : Index := Scalar.indexCast v919
  let c384_407 : Index := 384#32
  ![0, v956.toNat, 384]
def k0_off54 (i : grid0.Coords) (k0_t2 : Fin (k0_t2_loop i).trips) : Fin 3 → Nat :=
  let c0_412 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v968 : Index := Scalar.indexCast v919
  let c512_413 : Index := 512#32
  ![0, v968.toNat, 512]
def k0_off55 (i : grid0.Coords) (k0_t2 : Fin (k0_t2_loop i).trips) : Fin 3 → Nat :=
  let c0_418 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v980 : Index := Scalar.indexCast v919
  let c640_419 : Index := 640#32
  ![0, v980.toNat, 640]
def k0_off56 (i : grid0.Coords) (k0_t2 : Fin (k0_t2_loop i).trips) : Fin 3 → Nat :=
  let c0_424 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v992 : Index := Scalar.indexCast v919
  let c768_425 : Index := 768#32
  ![0, v992.toNat, 768]
def k0_off57 (i : grid0.Coords) (k0_t2 : Fin (k0_t2_loop i).trips) : Fin 3 → Nat :=
  let c0_430 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let c256_i32_387 : BitVec 32 := 256#32
  let v918 : BitVec 32 := Scalar.muli v917 c256_i32_387
  let v919 : BitVec 32 := v918
  let v1004 : Index := Scalar.indexCast v919
  let c896_431 : Index := 896#32
  ![0, v1004.toNat, 896]
def k0_off58 (i : grid0.Coords) (k0_t2 : Fin (k0_t2_loop i).trips) : Fin 4 → Nat :=
  let c0_484 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1256 : Index := Scalar.indexCast v917
  let c0_485 : Index := 0#32
  let c0_486 : Index := 0#32
  ![0, v1256.toNat, 0, 0]
def k0_off59 (i : grid0.Coords) (k0_t2 : Fin (k0_t2_loop i).trips) : Fin 4 → Nat :=
  let c0_488 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1265 : Index := Scalar.indexCast v917
  let c64_489 : Index := 64#32
  let c0_490 : Index := 0#32
  ![0, v1265.toNat, 64, 0]
def k0_off60 (i : grid0.Coords) (k0_t2 : Fin (k0_t2_loop i).trips) : Fin 4 → Nat :=
  let c0_492 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1274 : Index := Scalar.indexCast v917
  let c128_493 : Index := 128#32
  let c0_494 : Index := 0#32
  ![0, v1274.toNat, 128, 0]
def k0_off61 (i : grid0.Coords) (k0_t2 : Fin (k0_t2_loop i).trips) : Fin 4 → Nat :=
  let c0_496 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1283 : Index := Scalar.indexCast v917
  let c192_497 : Index := 192#32
  let c0_498 : Index := 0#32
  ![0, v1283.toNat, 192, 0]
def k0_off62 (i : grid0.Coords) (k0_t2 : Fin (k0_t2_loop i).trips) : Fin 4 → Nat :=
  let c0_500 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1292 : Index := Scalar.indexCast v917
  let c256_501 : Index := 256#32
  let c0_502 : Index := 0#32
  ![0, v1292.toNat, 256, 0]
def k0_off63 (i : grid0.Coords) (k0_t2 : Fin (k0_t2_loop i).trips) : Fin 4 → Nat :=
  let c0_504 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1301 : Index := Scalar.indexCast v917
  let c320_505 : Index := 320#32
  let c0_506 : Index := 0#32
  ![0, v1301.toNat, 320, 0]
def k0_off64 (i : grid0.Coords) (k0_t2 : Fin (k0_t2_loop i).trips) : Fin 4 → Nat :=
  let c0_508 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1310 : Index := Scalar.indexCast v917
  let c384_509 : Index := 384#32
  let c0_510 : Index := 0#32
  ![0, v1310.toNat, 384, 0]
def k0_off65 (i : grid0.Coords) (k0_t2 : Fin (k0_t2_loop i).trips) : Fin 4 → Nat :=
  let c0_512 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1319 : Index := Scalar.indexCast v917
  let c448_513 : Index := 448#32
  let c0_514 : Index := 0#32
  ![0, v1319.toNat, 448, 0]
def k0_off66 (i : grid0.Coords) (k0_t2 : Fin (k0_t2_loop i).trips) : Fin 4 → Nat :=
  let c0_516 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1328 : Index := Scalar.indexCast v917
  let c512_517 : Index := 512#32
  let c0_518 : Index := 0#32
  ![0, v1328.toNat, 512, 0]
def k0_off67 (i : grid0.Coords) (k0_t2 : Fin (k0_t2_loop i).trips) : Fin 4 → Nat :=
  let c0_520 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1337 : Index := Scalar.indexCast v917
  let c576_521 : Index := 576#32
  let c0_522 : Index := 0#32
  ![0, v1337.toNat, 576, 0]
def k0_off68 (i : grid0.Coords) (k0_t2 : Fin (k0_t2_loop i).trips) : Fin 4 → Nat :=
  let c0_524 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1346 : Index := Scalar.indexCast v917
  let c640_525 : Index := 640#32
  let c0_526 : Index := 0#32
  ![0, v1346.toNat, 640, 0]
def k0_off69 (i : grid0.Coords) (k0_t2 : Fin (k0_t2_loop i).trips) : Fin 4 → Nat :=
  let c0_528 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1355 : Index := Scalar.indexCast v917
  let c704_529 : Index := 704#32
  let c0_530 : Index := 0#32
  ![0, v1355.toNat, 704, 0]
def k0_off70 (i : grid0.Coords) (k0_t2 : Fin (k0_t2_loop i).trips) : Fin 4 → Nat :=
  let c0_532 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1364 : Index := Scalar.indexCast v917
  let c768_533 : Index := 768#32
  let c0_534 : Index := 0#32
  ![0, v1364.toNat, 768, 0]
def k0_off71 (i : grid0.Coords) (k0_t2 : Fin (k0_t2_loop i).trips) : Fin 4 → Nat :=
  let c0_536 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1373 : Index := Scalar.indexCast v917
  let c832_537 : Index := 832#32
  let c0_538 : Index := 0#32
  ![0, v1373.toNat, 832, 0]
def k0_off72 (i : grid0.Coords) (k0_t2 : Fin (k0_t2_loop i).trips) : Fin 4 → Nat :=
  let c0_540 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1382 : Index := Scalar.indexCast v917
  let c896_541 : Index := 896#32
  let c0_542 : Index := 0#32
  ![0, v1382.toNat, 896, 0]
def k0_off73 (i : grid0.Coords) (k0_t2 : Fin (k0_t2_loop i).trips) : Fin 4 → Nat :=
  let c0_544 : Index := 0#32
  let arg2 : BitVec 32 := BitVec.ofNat 32 (i 2).val
  let c1_i32_386 : BitVec 32 := 1#32
  let v916 : BitVec 32 := Scalar.subi arg2 c1_i32_386
  let c0_i32_358 : BitVec 32 := 0#32
  let v861 : BitVec 32 := Scalar.subi arg2 c0_i32_358
  let c1_i32_359 : BitVec 32 := 1#32
  let v863 : BitVec 32 := Scalar.divsi v861 c1_i32_359
  let v864 : BitVec 32 := Scalar.muli v863 c1_i32_359
  let v865 : BitVec 32 := Scalar.addi c0_i32_358 v864
  let c1_i32_361 : BitVec 32 := 1#32
  let arg8 : BitVec 32 := Scf.iv v865 c1_i32_361 k0_t2
  let v917 : BitVec 32 := Scalar.subi v916 arg8
  let v1391 : Index := Scalar.indexCast v917
  let c960_545 : Index := 960#32
  let c0_546 : Index := 0#32
  ![0, v1391.toNat, 960, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x2048x1024 : Shape := ⟨3, ![8, 2048, 1024]⟩
abbrev S8x8x1024x256 : Shape := ⟨4, ![8, 8, 1024, 256]⟩
abbrev S16 : Shape := ⟨1, ![16]⟩
abbrev S8x2048x16x64 : Shape := ⟨4, ![8, 2048, 16, 64]⟩
abbrev S8x8x256x1024 : Shape := ⟨4, ![8, 8, 256, 1024]⟩
abbrev S8x16x2048x2048 : Shape := ⟨4, ![8, 16, 2048, 2048]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x16x64x2048 : Shape := ⟨4, ![8, 16, 64, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x8x1024x256, .bf16⟩
  | .hbm, ⟨3, _⟩ => ⟨S16, .f32⟩
  | .hbm, ⟨4, _⟩ => ⟨S8x2048x1024, .f32⟩
  | .hbm, ⟨5, _⟩ => ⟨S8x2048x16x64, .f32⟩
  | .hbm, ⟨6, _⟩ => ⟨S8x2048x1024, .f32⟩
  | .hbm, ⟨7, _⟩ => ⟨S8x2048x16x64, .f32⟩
  | .hbm, ⟨8, _⟩ => ⟨S8x8x1024x256, .f32⟩
  | .hbm, ⟨9, _⟩ => ⟨S8x8x256x1024, .f32⟩
  | .hbm, ⟨10, _⟩ => ⟨S8x2048x16x64, .f32⟩
  | .hbm, ⟨11, _⟩ => ⟨S8x16x2048x2048, .f32⟩
  | .hbm, ⟨12, _⟩ => ⟨S1x16x1x1, .f32⟩
  | .hbm, ⟨13, _⟩ => ⟨S8x16x2048x2048, .f32⟩
  | .hbm, ⟨14, _⟩ => ⟨S8x16x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x16x2048x2048, .f32⟩
  | .hbm, ⟨22, _⟩ => ⟨S_, .f32⟩
  | .hbm, ⟨23, _⟩ => ⟨S8x16x2048x2048, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .i1⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S_, .f32⟩
  | .hbm, ⟨39, _⟩ => ⟨S_, .f32⟩
  | .hbm, ⟨40, _⟩ => ⟨S8x16x2048x2048, .i1⟩
  | .hbm, ⟨41, _⟩ => ⟨S8x16x2048x2048, .f32⟩
  | .hbm, ⟨42, _⟩ => ⟨S8x16x2048x2048, .f32⟩
  | .hbm, ⟨43, _⟩ => ⟨S_, .f32⟩
  | .hbm, ⟨44, _⟩ => ⟨S_, .f32⟩
  | .hbm, ⟨45, _⟩ => ⟨S8x16x2048x2048, .f32⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S_, .f32⟩
  | .hbm, ⟨50, _⟩ => ⟨S_, .f32⟩
  | .hbm, ⟨51, _⟩ => ⟨S8x16x2048x2048, .i1⟩
  | .hbm, ⟨52, _⟩ => ⟨S8x16x2048x2048, .f32⟩
  | .hbm, ⟨53, _⟩ => ⟨S8x16x2048x2048, .f32⟩
  | .hbm, ⟨54, _⟩ => ⟨S8x16x64x2048, .f32⟩
  | .hbm, ⟨55, _⟩ => ⟨S8x2048x16x64, .f32⟩
  | .hbm, ⟨56, _⟩ => ⟨S8x2048x1024, .f32⟩
  | .hbm, ⟨57, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x296x6144 : Shape := ⟨3, ![2, 296, 6144]⟩
abbrev S1x1024x1024 : Shape := ⟨3, ![1, 1024, 1024]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x296x6144, .f32⟩
  | .hbm, ⟨3, _⟩ => ⟨S1x1024x1024, .bf16⟩
  | .hbm, ⟨4, _⟩ => ⟨S4x1x1024, .f32⟩
  | .hbm, ⟨5, _⟩ => ⟨S4x1x1024, .f32⟩
  | .hbm, ⟨6, _⟩ => ⟨S2x1024x4096, .bf16⟩
  | .hbm, ⟨7, _⟩ => ⟨S2x4096x1024, .bf16⟩
  | .hbm, ⟨8, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x8x1024, .f32⟩
  | .local _ .vmem, ⟨5, _⟩ => ⟨S1x8x1024, .f32⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0_14 : Index := 0#32
  let arg0 : BitVec 32 := BitVec.ofNat 32 (i 0).val
  let c1_i32 : BitVec 32 := 1#32
  let v9 : BitVec 32 := Scalar.muli arg0 c1_i32
  let c8_i32 : BitVec 32 := 8#32
  let c0_i32 : BitVec 32 := 0#32
  let v10 : BitVec 1 := Scalar.cmpi .eq c8_i32 c0_i32
  let c1_i32_9 : BitVec 32 := 1#32
  let v11 : BitVec 32 := Scalar.select v10 c1_i32_9 c8_i32
  let v12 : BitVec 32 := Scalar.remsi v9 v11
  let c0_i32_11 : BitVec 32 := 0#32
  let v14 : BitVec 1 := Scalar.cmpi .slt v12 c0_i32_11
  let c0_i32_12 : BitVec 32 := 0#32
  let v15 : BitVec 1 := Scalar.cmpi .slt v11 c0_i32_12
  let v16 : BitVec 1 := Scalar.xori v14 v15
  let c0_i32_10 : BitVec 32 := 0#32
  let v13 : BitVec 1 := Scalar.cmpi .ne v12 c0_i32_10
  let v17 : BitVec 1 := Scalar.andi v16 v13
  let v18 : BitVec 32 := Scalar.addi v12 v11
  let v19 : BitVec 32 := Scalar.select v17 v18 v12
  let c0_i32_13 : BitVec 32 := 0#32
  let v20 : BitVec 32 := Scalar.addi v19 c0_i32_13
  let v21 : Index := Scalar.indexCast v20
  let c0_15 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c2_i32 : BitVec 32 := 2#32
  let c0_i32_5 : BitVec 32 := 0#32
  ![c1_i32_4.toNat, v17.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c3_i32 : BitVec 32 := 3#32
  let c0_i32_5 : BitVec 32 := 0#32
  ![c1_i32_4.toNat, v17.toNat, c3_i32.toNat]

def cc0_transform_7 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c4_i32 : BitVec 32 := 4#32
  let c0_i32_5 : BitVec 32 := 0#32
  ![c1_i32_4.toNat, v17.toNat, c4_i32.toNat]

def cc0_transform_8 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c5_i32 : BitVec 32 := 5#32
  let c0_i32_5 : BitVec 32 := 0#32
  ![c1_i32_4.toNat, v17.toNat, c5_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x2048x1024 : Shape := ⟨3, ![8, 2048, 1024]⟩
abbrev S2x296x6144 : Shape := ⟨3, ![2, 296, 6144]⟩
abbrev S1x1024x1024 : Shape := ⟨3, ![1, 1024, 1024]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x296x6144, .f32⟩
  | .hbm, ⟨3, _⟩ => ⟨S1x1024x1024, .bf16⟩
  | .hbm, ⟨4, _⟩ => ⟨S4x1x1024, .f32⟩
  | .hbm, ⟨5, _⟩ => ⟨S4x1x1024, .f32⟩
  | .hbm, ⟨6, _⟩ => ⟨S2x1024x4096, .bf16⟩
  | .hbm, ⟨7, _⟩ => ⟨S2x4096x1024, .bf16⟩
  | .hbm, ⟨8, _⟩ => ⟨S1x8x6144, .f32⟩
  | .hbm, ⟨9, _⟩ => ⟨S8x6144, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S1024x1024, .bf16⟩
  | .hbm, ⟨24, _⟩ => ⟨S1024x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x1x1024, .f32⟩
  | .hbm, ⟨67, _⟩ => ⟨S8x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S1x1024x4096, .bf16⟩
  | .hbm, ⟨73, _⟩ => ⟨S1024x4096, .bf16⟩
  | .hbm, ⟨74, _⟩ => ⟨S1024x4096, .f32⟩
  | .hbm, ⟨75, _⟩ => ⟨S8x2048x4096, .f32⟩
  | .hbm, ⟨76, _⟩ => ⟨S_, .f32⟩
  | .hbm, ⟨77, _⟩ => ⟨S8x2048x4096, .f32⟩
  | .hbm, ⟨78, _⟩ => ⟨S8x2048x4096, .f32⟩
  | .hbm, ⟨79, _⟩ => ⟨S8x2048x4096, .f32⟩
  | .hbm, ⟨80, _⟩ => ⟨S1x4096x1024, .bf16⟩
  | .hbm, ⟨81, _⟩ => ⟨S4096x1024, .bf16⟩
  | .hbm, ⟨82, _⟩ => ⟨S4096x1024, .f32⟩
  | .hbm, ⟨83, _⟩ => ⟨S8x2048x1024, .f32⟩
  | .hbm, ⟨84, _⟩ => ⟨S_, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S1024, .f32⟩
  | .hbm, ⟨92, _⟩ => ⟨S1x1x1024, .f32⟩
  | .hbm, ⟨93, _⟩ => ⟨S1024, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S_, .f32⟩
  | .hbm, ⟨104, _⟩ => ⟨S8x2048, .f32⟩
  | .hbm, ⟨105, _⟩ => ⟨S8x2048x1, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S_, .f32⟩
  | .hbm, ⟨112, _⟩ => ⟨S8x2048x1, .f32⟩
  | .hbm, ⟨113, _⟩ => ⟨S8x2048x1, .f32⟩
  | .hbm, ⟨114, _⟩ => ⟨S8x2048x1, .f32⟩
  | .hbm, ⟨115, _⟩ => ⟨S8x2048x1024, .f32⟩
  | .hbm, ⟨116, _⟩ => ⟨S8x2048x1024, .f32⟩
  | .hbm, ⟨117, _⟩ => ⟨S1x1x1024, .f32⟩
  | .hbm, ⟨118, _⟩ => ⟨S8x2048x1024, .f32⟩
  | .hbm, ⟨119, _⟩ => ⟨S8x2048x1024, .f32⟩
  | .hbm, ⟨120, _⟩ => ⟨S1x1x1024, .f32⟩
  | .hbm, ⟨121, _⟩ => ⟨S8x2048x1024, .f32⟩
  | .hbm, ⟨122, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_cst : Ref sig .tc := ⟨.hbm, 76, rfl⟩
abbrev main_call0_v0 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_9 : Ref sig .tc := ⟨.hbm, 103, rfl⟩
abbrev main_v83 : Ref sig .tc := ⟨.hbm, 104, rfl⟩
abbrev main_v84 : Ref sig .tc := ⟨.hbm, 105, rfl⟩
abbrev main_cst_10 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x296x6144 : Shape := ⟨3, ![2, 296, 6144]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x512x1024 : Shape := ⟨3, ![1, 512, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S512x1024 : Shape := ⟨2, ![512, 1024]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S2x296x6144, .f32⟩
  | .hbm, ⟨2, _⟩ => ⟨S4x1x1024, .f32⟩
  | .hbm, ⟨3, _⟩ => ⟨S4x1x1024, .f32⟩
  | .hbm, ⟨4, _⟩ => ⟨S2x1024x4096, .bf16⟩
  | .hbm, ⟨5, _⟩ => ⟨S2x4096x1024, .bf16⟩
  | .hbm, ⟨6, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0_7 : Index := 0#32
  let arg0 : BitVec 32 := BitVec.ofNat 32 (i 0).val
  let c1_i32 : BitVec 32 := 1#32
  let v2 : BitVec 32 := Scalar.muli arg0 c1_i32
  let c8_i32 : BitVec 32 := 8#32
  let c0_i32 : BitVec 32 := 0#32
  let v3 : BitVec 1 := Scalar.cmpi .eq c8_i32 c0_i32
  let c1_i32_2 : BitVec 32 := 1#32
  let v4 : BitVec 32 := Scalar.select v3 c1_i32_2 c8_i32
  let v5 : BitVec 32 := Scalar.remsi v2 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let c0_i32_6 : BitVec 32 := 0#32
  let v13 : BitVec 32 := Scalar.addi v12 c0_i32_6
  let v14 : Index := Scalar.indexCast v13
  let c0_8 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![c0_i32_4.toNat, v17.toNat, c3_i32.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![c0_i32_4.toNat, v17.toNat, c4_i32.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![c0_i32_4.toNat, v17.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x2048x1024 : Shape := ⟨3, ![8, 2048, 1024]⟩
abbrev S2x296x6144 : Shape := ⟨3, ![2, 296, 6144]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x296x6144, .f32⟩
  | .hbm, ⟨2, _⟩ => ⟨S4x1x1024, .f32⟩
  | .hbm, ⟨3, _⟩ => ⟨S4x1x1024, .f32⟩
  | .hbm, ⟨4, _⟩ => ⟨S2x1024x4096, .bf16⟩
  | .hbm, ⟨5, _⟩ => ⟨S2x4096x1024, .bf16⟩
  | .hbm, ⟨6, _⟩ => ⟨S1x8x6144, .f32⟩
  | .hbm, ⟨7, _⟩ => ⟨S8x6144, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024x4096, .bf16⟩
  | .hbm, ⟨28, _⟩ => ⟨S1024x4096, .bf16⟩
  | .hbm, ⟨29, _⟩ => ⟨S1024x4096, .f32⟩
  | .hbm, ⟨30, _⟩ => ⟨S8x2048x4096, .f32⟩
  | .hbm, ⟨31, _⟩ => ⟨S_, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S1x4096x1024, .bf16⟩
  | .hbm, ⟨36, _⟩ => ⟨S4096x1024, .bf16⟩
  | .hbm, ⟨37, _⟩ => ⟨S4096x1024, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S1024, .f32⟩
  | .hbm, ⟨47, _⟩ => ⟨S1x1x1024, .f32⟩
  | .hbm, ⟨48, _⟩ => ⟨S1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_cst : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x296x6144 : Shape := ⟨3, ![2, 296, 6144]⟩
abbrev S1024x2048 : Shape := ⟨2, ![1024, 2048]⟩
abbrev S1x1024x1024 : Shape := ⟨3, ![1, 1024, 1024]⟩
abbrev S8x8x1024x256 : Shape := ⟨4, ![8, 8, 1024, 256]⟩
abbrev S1x512x1024 : Shape := ⟨3, ![1, 512, 1024]⟩
abbrev S1x8x1024 : Shape := ⟨3, ![1, 8, 1024]⟩
abbrev S1x2x1024x256 : Shape := ⟨4, ![1, 2, 1024, 256]⟩
abbrev S512x1024 : Shape := ⟨2, ![512, 1024]⟩
abbrev S512x2048 : Shape := ⟨2, ![512, 2048]⟩
abbrev S256x1024 : Shape := ⟨2, ![256, 1024]⟩
abbrev S1024x256 : Shape := ⟨2, ![1024, 256]⟩
abbrev S1x1x1024x256 : Shape := ⟨4, ![1, 1, 1024, 256]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S2x296x6144, .f32⟩
  | .hbm, ⟨2, _⟩ => ⟨S1024x2048, .bf16⟩
  | .hbm, ⟨3, _⟩ => ⟨S1x1024x1024, .bf16⟩
  | .hbm, ⟨4, _⟩ => ⟨S8x2048x1024, .f32⟩
  | .hbm, ⟨5, _⟩ => ⟨S8x2048x1024, .f32⟩
  | .hbm, ⟨6, _⟩ => ⟨S8x2048x1024, .bf16⟩
  | .hbm, ⟨7, _⟩ => ⟨S8x8x1024x256, .bf16⟩
  | .hbm, ⟨8, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x2048, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x2x1024x256, .bf16⟩
  | .local _ .vmem, ⟨15, _⟩ => ⟨S1x2x1024x256, .bf16⟩
  | .local _ .vmem, ⟨16, _⟩ => ⟨S1x512x1024, .bf16⟩
  | .local _ .vmem, ⟨17, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0_25 : Index := 0#32
  let arg0 : BitVec 32 := BitVec.ofNat 32 (i 0).val
  let c1_i32 : BitVec 32 := 1#32
  let v29 : BitVec 32 := Scalar.muli arg0 c1_i32
  let c8_i32 : BitVec 32 := 8#32
  let c0_i32 : BitVec 32 := 0#32
  let v30 : BitVec 1 := Scalar.cmpi .eq c8_i32 c0_i32
  let c1_i32_20 : BitVec 32 := 1#32
  let v31 : BitVec 32 := Scalar.select v30 c1_i32_20 c8_i32
  let v32 : BitVec 32 := Scalar.remsi v29 v31
  let c0_i32_22 : BitVec 32 := 0#32
  let v34 : BitVec 1 := Scalar.cmpi .slt v32 c0_i32_22
  let c0_i32_23 : BitVec 32 := 0#32
  let v35 : BitVec 1 := Scalar.cmpi .slt v31 c0_i32_23
  let v36 : BitVec 1 := Scalar.xori v34 v35
  let c0_i32_21 : BitVec 32 := 0#32
  let v33 : BitVec 1 := Scalar.cmpi .ne v32 c0_i32_21
  let v37 : BitVec 1 := Scalar.andi v36 v33
  let v38 : BitVec 32 := Scalar.addi v32 v31
  let v39 : BitVec 32 := Scalar.select v37 v38 v32
  let c0_i32_24 : BitVec 32 := 0#32
  let v40 : BitVec 32 := Scalar.addi v39 c0_i32_24
  let v41 : Index := Scalar.indexCast v40
  let c0_26 : Index := 0#32
  ![0, v41.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, v17.toNat, c0_i32_5.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c1_i32_5 : BitVec 32 := 1#32
  let c0_i32_6 : BitVec 32 := 0#32
  ![c1_i32_4.toNat, v17.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x2048x1024 : Shape := ⟨3, ![8, 2048, 1024]⟩
abbrev S2x296x6144 : Shape := ⟨3, ![2, 296, 6144]⟩
abbrev S1024x2048 : Shape := ⟨2, ![1024, 2048]⟩
abbrev S1x1024x1024 : Shape := ⟨3, ![1, 1024, 1024]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S8x2048x2048 : Shape := ⟨3, ![8, 2048, 2048]⟩
abbrev S_ : Shape := ⟨0, ![]⟩
abbrev S1024x1024 : Shape := ⟨2, ![1024, 1024]⟩
abbrev S8x8x256x1024 : Shape := ⟨4, ![8, 8, 256, 1024]⟩
abbrev S8x8x1024x256 : Shape := ⟨4, ![8, 8, 1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x296x6144, .f32⟩
  | .hbm, ⟨2, _⟩ => ⟨S1024x2048, .bf16⟩
  | .hbm, ⟨3, _⟩ => ⟨S1x1024x1024, .bf16⟩
  | .hbm, ⟨4, _⟩ => ⟨S1x8x6144, .f32⟩
  | .hbm, ⟨5, _⟩ => ⟨S8x6144, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1024x2048, .f32⟩
  | .hbm, ⟨19, _⟩ => ⟨S8x2048x2048, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S1024x1024, .bf16⟩
  | .hbm, ⟨30, _⟩ => ⟨S1024x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x8x256x1024, .f32⟩
  | .hbm, ⟨36, _⟩ => ⟨S8x8x1024x256, .f32⟩
  | .hbm, ⟨37, _⟩ => ⟨S8x2048x1024, .bf16⟩
  | .hbm, ⟨38, _⟩ => ⟨S8x8x1024x256, .bf16⟩
  | .hbm, ⟨39, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel5.lean ====
abbrev S1x256x1024 : Shape := ⟨3, ![1, 256, 1024]⟩
abbrev S2x296x6144 : Shape := ⟨3, ![2, 296, 6144]⟩
abbrev S1024x2048 : Shape := ⟨2, ![1024, 2048]⟩
abbrev S1x1024x1024 : Shape := ⟨3, ![1, 1024, 1024]⟩
abbrev S1x1024x256 : Shape := ⟨3, ![1, 1024, 256]⟩
abbrev S256x1024 : Shape := ⟨2, ![256, 1024]⟩
abbrev S256x2048 : Shape := ⟨2, ![256, 2048]⟩
abbrev S1024x256 : Shape := ⟨2, ![1024, 256]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S2x296x6144, .f32⟩
  | .hbm, ⟨2, _⟩ => ⟨S1024x2048, .bf16⟩
  | .hbm, ⟨3, _⟩ => ⟨S1x1024x1024, .bf16⟩
  | .hbm, ⟨4, _⟩ => ⟨S1x256x1024, .f32⟩
  | .hbm, ⟨5, _⟩ => ⟨S1x256x1024, .f32⟩
  | .hbm, ⟨6, _⟩ => ⟨S1x1024x256, .f32⟩
  | .hbm, ⟨7, _⟩ => ⟨S1x1024x256, .f32⟩
  | .hbm, ⟨8, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1024x2048, .bf16⟩
  | .local _ .vmem, ⟨4, _⟩ => ⟨S1x1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x1024x256, .f32⟩
  | .local _ .vmem, ⟨8, _⟩ => ⟨S1x1024x256, .f32⟩
  | .local _ .vmem, ⟨9, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== Reference5Ideal.lean ====
abbrev S1x256x1024 : Shape := ⟨3, ![1, 256, 1024]⟩
abbrev S2x296x6144 : Shape := ⟨3, ![2, 296, 6144]⟩
abbrev S1024x2048 : Shape := ⟨2, ![1024, 2048]⟩
abbrev S1x1024x1024 : Shape := ⟨3, ![1, 1024, 1024]⟩
abbrev S1x256x6144 : Shape := ⟨3, ![1, 256, 6144]⟩
abbrev S256x6144 : Shape := ⟨2, ![256, 6144]⟩
abbrev S256x1024 : Shape := ⟨2, ![256, 1024]⟩
abbrev S1x256x2048 : Shape := ⟨3, ![1, 256, 2048]⟩
abbrev S_ : Shape := ⟨0, ![]⟩
abbrev S1024x1024 : Shape := ⟨2, ![1024, 1024]⟩
abbrev S1x1024x256 : Shape := ⟨3, ![1, 1024, 256]⟩

abbrev nBuf : Space → Nat
  | .hbm => 35
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S2x296x6144, .f32⟩
  | .hbm, ⟨2, _⟩ => ⟨S1024x2048, .bf16⟩
  | .hbm, ⟨3, _⟩ => ⟨S1x1024x1024, .bf16⟩
  | .hbm, ⟨4, _⟩ => ⟨S1x256x6144, .f32⟩
  | .hbm, ⟨5, _⟩ => ⟨S256x6144, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S1024x2048, .f32⟩
  | .hbm, ⟨19, _⟩ => ⟨S1x256x2048, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S1024x1024, .bf16⟩
  | .hbm, ⟨28, _⟩ => ⟨S1024x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x1024x256, .f32⟩
  | .hbm, ⟨34, _⟩ => ⟨S1x1024x256, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel6.lean ====
abbrev S1x256x1024 : Shape := ⟨3, ![1, 256, 1024]⟩
abbrev S2x296x6144 : Shape := ⟨3, ![2, 296, 6144]⟩
abbrev S1x1024x1024 : Shape := ⟨3, ![1, 1024, 1024]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .bf16⟩
  | .hbm, ⟨2, _⟩ => ⟨S2x296x6144, .f32⟩
  | .hbm, ⟨3, _⟩ => ⟨S1x1024x1024, .bf16⟩
  | .hbm, ⟨4, _⟩ => ⟨S4x1x1024, .f32⟩
  | .hbm, ⟨5, _⟩ => ⟨S4x1x1024, .f32⟩
  | .hbm, ⟨6, _⟩ => ⟨S2x1024x4096, .bf16⟩
  | .hbm, ⟨7, _⟩ => ⟨S2x4096x1024, .bf16⟩
  | .hbm, ⟨8, _⟩ => ⟨S1x256x1024, .f32⟩
  | .local _ .vmem, ⟨0, _⟩ => ⟨S1x256x1024, .f32⟩
  | .local _ .vmem, ⟨1, _⟩ => ⟨S1x256x1024, .bf16⟩
  | .local _ .vmem, ⟨2, _⟩ => ⟨S1x256x1024, .f32⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x256x1024, .f32⟩
  | .local _ .vmem, ⟨14, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== Reference6Ideal.lean ====
abbrev S1x256x1024 : Shape := ⟨3, ![1, 256, 1024]⟩
abbrev S2x296x6144 : Shape := ⟨3, ![2, 296, 6144]⟩
abbrev S1x1024x1024 : Shape := ⟨3, ![1, 1024, 1024]⟩
abbrev S4x1x1024 : Shape := ⟨3, ![4, 1, 1024]⟩
abbrev S2x1024x4096 : Shape := ⟨3, ![2, 1024, 4096]⟩
abbrev S2x4096x1024 : Shape := ⟨3, ![2, 4096, 1024]⟩
abbrev S1x256x6144 : Shape := ⟨3, ![1, 256, 6144]⟩
abbrev S256x6144 : Shape := ⟨2, ![256, 6144]⟩
abbrev S256x1024 : Shape := ⟨2, ![256, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S1x256 : Shape := ⟨2, ![1, 256]⟩
abbrev S1x256x1 : Shape := ⟨3, ![1, 256, 1]⟩
abbrev S1x1024x4096 : Shape := ⟨3, ![1, 1024, 4096]⟩
abbrev S1024x4096 : Shape := ⟨2, ![1024, 4096]⟩
abbrev S1x256x4096 : Shape := ⟨3, ![1, 256, 4096]⟩
abbrev S1x4096x1024 : Shape := ⟨3, ![1, 4096, 1024]⟩
abbrev S4096x1024 : Shape := ⟨2, ![4096, 1024]⟩

abbrev nBuf : Space → Nat
  | .hbm => 119
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .bf16⟩
  | .hbm, ⟨2, _⟩ => ⟨S2x296x6144, .f32⟩
  | .hbm, ⟨3, _⟩ => ⟨S1x1024x1024, .bf16⟩
  | .hbm, ⟨4, _⟩ => ⟨S4x1x1024, .f32⟩
  | .hbm, ⟨5, _⟩ => ⟨S4x1x1024, .f32⟩
  | .hbm, ⟨6, _⟩ => ⟨S2x1024x4096, .bf16⟩
  | .hbm, ⟨7, _⟩ => ⟨S2x4096x1024, .bf16⟩
  | .hbm, ⟨8, _⟩ => ⟨S1x256x6144, .f32⟩
  | .hbm, ⟨9, _⟩ => ⟨S256x6144, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S1024x1024, .bf16⟩
  | .hbm, ⟨24, _⟩ => ⟨S1024x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S1024, .f32⟩
  | .hbm, ⟨35, _⟩ => ⟨S_, .f32⟩
  | .hbm, ⟨36, _⟩ => ⟨S1x256, .f32⟩
  | .hbm, ⟨37, _⟩ => ⟨S1x256x1, .f32⟩
  | .hbm, ⟨38, _⟩ => ⟨S_, .f32⟩
  | .hbm, ⟨39, _⟩ => ⟨S1x256x1, .f32⟩
  | .hbm, ⟨40, _⟩ => ⟨S1x256x1, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256, .f32⟩
  | .hbm, ⟨46, _⟩ => ⟨S1x256x1, .f32⟩
  | .hbm, ⟨47, _⟩ => ⟨S_, .f32⟩
  | .hbm, ⟨48, _⟩ => ⟨S1x256x1, .f32⟩
  | .hbm, ⟨49, _⟩ => ⟨S1x256x1, .f32⟩
  | .hbm, ⟨50, _⟩ => ⟨S1x256x1024, .f32⟩
  | .hbm, ⟨51, _⟩ => ⟨S1x256x1024, .f32⟩
  | .hbm, ⟨52, _⟩ => ⟨S_, .f32⟩
  | .hbm, ⟨53, _⟩ => ⟨S1x256x1, .f32⟩
  | .hbm, ⟨54, _⟩ => ⟨S1x256x1, .f32⟩
  | .hbm, ⟨55, _⟩ => ⟨S1x256x1, .f32⟩
  | .hbm, ⟨56, _⟩ => ⟨S1x256x1024, .f32⟩
  | .hbm, ⟨57, _⟩ => ⟨S1x256x1024, .f32⟩
  | .hbm, ⟨58, _⟩ => ⟨S1x1x1024, .f32⟩
  | .hbm, ⟨59, _⟩ => ⟨S1x256x1024, .f32⟩
  | .hbm, ⟨60, _⟩ => ⟨S1x256x1024, .f32⟩
  | .hbm, ⟨61, _⟩ => ⟨S1x1x1024, .f32⟩
  | .hbm, ⟨62, _⟩ => ⟨S1x256x1024, .f32⟩
  | .hbm, ⟨63, _⟩ => ⟨S1x256x1024, .f32⟩
  | .hbm, ⟨64, _⟩ => ⟨S_, .f32⟩
  | .hbm, ⟨65, _⟩ => ⟨S1x256x1024, .f32⟩
  | .hbm, ⟨66, _⟩ => ⟨S1x256x1024, .f32⟩
  | .hbm, ⟨67, _⟩ => ⟨S1x256x1024, .f32⟩
  | .hbm, ⟨68, _⟩ => ⟨S1x256x1024, .f32⟩
  | .hbm, ⟨69, _⟩ => ⟨S1x1024x4096, .bf16⟩
  | .hbm, ⟨70, _⟩ => ⟨S1024x4096, .bf16⟩
  | .hbm, ⟨71, _⟩ => ⟨S1024x4096, .f32⟩
  | .hbm, ⟨72, _⟩ => ⟨S1x256x4096, .f32⟩
  | .hbm, ⟨73, _⟩ => ⟨S_, .f32⟩
  | .hbm, ⟨74, _⟩ => ⟨S1x256x4096, .f32⟩
  | .hbm, ⟨75, _⟩ => ⟨S1x256x4096, .f32⟩
  | .hbm, ⟨76, _⟩ => ⟨S1x256x4096, .f32⟩
  | .hbm, ⟨77, _⟩ => ⟨S1x4096x1024, .bf16⟩
  | .hbm, ⟨78, _⟩ => ⟨S4096x1024, .bf16⟩
  | .hbm, ⟨79, _⟩ => ⟨S4096x1024, .f32⟩
  | .hbm, ⟨80, _⟩ => ⟨S1x256x1024, .f32⟩
  | .hbm, ⟨81, _⟩ => ⟨S_, .f32⟩
  | .hbm, ⟨82, _⟩ => ⟨S1x256x1024, .f32⟩
  | .hbm, ⟨83, _⟩ => ⟨S1x256x1024, .f32⟩
  | .hbm, ⟨84, _⟩ => ⟨S1x256x1024, .f32⟩
  | .hbm, ⟨85, _⟩ => ⟨S1x256x1024, .f32⟩
  | .hbm, ⟨86, _⟩ => ⟨S1x1x1024, .f32⟩
  | .hbm, ⟨87, _⟩ => ⟨S1024, .f32⟩
  | .hbm, ⟨88, _⟩ => ⟨S1x1x1024, .f32⟩
  | .hbm, ⟨89, _⟩ => ⟨S1024, .f32⟩
  | .hbm, ⟨90, _⟩ => ⟨S_, .f32⟩
  | .hbm, ⟨91, _⟩ => ⟨S1x256, .f32⟩
  | .hbm, ⟨92, _⟩ => ⟨S1x256x1, .f32⟩
  | .hbm, ⟨93, _⟩ => ⟨S_, .f32⟩
  | .hbm, ⟨94, _⟩ => ⟨S1x256x1, .f32⟩
  | .hbm, ⟨95, _⟩ => ⟨S1x256x1, .f32⟩
  | .hbm, ⟨96, _⟩ => ⟨S1x256x1024, .f32⟩
  | .hbm, ⟨97, _⟩ => ⟨S1x256x1024, .f32⟩
  | .hbm, ⟨98, _⟩ => ⟨S1x256x1024, .f32⟩
  | .hbm, ⟨99, _⟩ => ⟨S_, .f32⟩
  | .hbm, ⟨100, _⟩ => ⟨S1x256, .f32⟩
  | .hbm, ⟨101, _⟩ => ⟨S1x256x1, .f32⟩
  | .hbm, ⟨102, _⟩ => ⟨S_, .f32⟩
  | .hbm, ⟨103, _⟩ => ⟨S1x256x1, .f32⟩
  | .hbm, ⟨104, _⟩ => ⟨S1x256x1, .f32⟩
  | .hbm, ⟨105, _⟩ => ⟨S1x256x1024, .f32⟩
  | .hbm, ⟨106, _⟩ => ⟨S1x256x1024, .f32⟩
  | .hbm, ⟨107, _⟩ => ⟨S_, .f32⟩
  | .hbm, ⟨108, _⟩ => ⟨S1x256x1, .f32⟩
  | .hbm, ⟨109, _⟩ => ⟨S1x256x1, .f32⟩
  | .hbm, ⟨110, _⟩ => ⟨S1x256x1, .f32⟩
  | .hbm, ⟨111, _⟩ => ⟨S1x256x1024, .f32⟩
  | .hbm, ⟨112, _⟩ => ⟨S1x256x1024, .f32⟩
  | .hbm, ⟨113, _⟩ => ⟨S1x1x1024, .f32⟩
  | .hbm, ⟨114, _⟩ => ⟨S1x256x1024, .f32⟩
  | .hbm, ⟨115, _⟩ => ⟨S1x256x1024, .f32⟩
  | .hbm, ⟨116, _⟩ => ⟨S1x1x1024, .f32⟩
  | .hbm, ⟨117, _⟩ => ⟨S1x256x1024, .f32⟩
  | .hbm, ⟨118, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_cst : Ref sig .tc := ⟨.hbm, 73, rfl⟩
abbrev main_call0_v0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩

abbrev nD : Nat := 1
abbrev τ : Topo := Topo.v7x

variable {F : FTy → Type} [FloatOps F]
-- ==== Kernel7.lean ====
abbrev S32x8x1024 : Shape := ⟨3, ![32, 8, 1024]⟩
abbrev S32x15x1024 : Shape := ⟨3, ![32, 15, 1024]⟩
abbrev S2x296x6144 : Shape := ⟨3, ![2, 296, 6144]⟩
abbrev S1x4x256x256 : Shape := ⟨4, ![1, 4, 256, 256]⟩
abbrev S1x1024 : Shape := ⟨2, ![1, 1024]⟩
abbrev S4x1x1024 : Shape := ⟨3, ![4, 1, 1024]⟩
abbrev S8x8x1024 : Shape := ⟨3, ![8, 8, 1024]⟩
abbrev S8x15x1024 : Shape := ⟨3, ![8, 15, 1024]⟩
abbrev S1x8x1024 : Shape := ⟨3, ![1, 8, 1024]⟩
abbrev S1x1x1024 : Shape := ⟨3, ![1, 1, 1024]⟩
abbrev S320x1024 : Shape := ⟨2, ![320, 1024]⟩
abbrev S320x768 : Shape := ⟨2, ![320, 768]⟩
abbrev S320x512 : Shape := ⟨2, ![320, 512]⟩
abbrev S17x1024 : Shape := ⟨2, ![17, 1024]⟩
abbrev S1x15x1024 : Shape := ⟨3, ![1, 15, 1024]⟩
abbrev S15x1024 : Shape := ⟨2, ![15, 1024]⟩
abbrev S8x1024 : Shape := ⟨2, ![8, 1024]⟩
abbrev S312x768 : Shape := ⟨2, ![312, 768]⟩
abbrev S304x768 : Shape := ⟨2, ![304, 768]⟩
abbrev S296x512 : Shape := ⟨2, ![296, 512]⟩
abbrev S8x1 : Shape := ⟨2, ![8, 1]⟩
abbrev S8x256 : Shape := ⟨2, ![8, 256]⟩
abbrev S64x256 : Shape := ⟨2, ![64, 256]⟩
abbrev S1x1x256x256 : Shape := ⟨4, ![1, 1, 256, 256]⟩
abbrev S256x256 : Shape := ⟨2, ![256, 256]⟩
abbrev S64x1024 : Shape := ⟨2, ![64, 1024]⟩
abbrev S8 : Shape := ⟨1, ![8]⟩
abbrev S32x1024 : Shape := ⟨2, ![32, 1024]⟩

abbrev nBuf : Space → Nat
  | .hbm => 9
  | .vmem => 22
  | .smem => 0
  | _ => 0

abbrev bufTy : (tb : Table) → Fin (tcTables nBuf tb) → BufTy
  | .hbm, ⟨0, _⟩ => ⟨S32x8x1024, .f32⟩
  | .hbm, ⟨1, _⟩ => ⟨S32x15x1024, .f32⟩
  | .hbm, ⟨2, _⟩ => ⟨S2x296x6144, .f32⟩
  | .hbm, ⟨3, _⟩ => ⟨S1x4x256x256, .bf16⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S32x8x1024, .f32⟩
  | .hbm, ⟨8, _⟩ => ⟨S32x15x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x15x1024, .f32⟩
  | .local _ .vmem, ⟨3, _⟩ => ⟨S8x15x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x4x256x256, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S8x8x1024, .f32⟩
  | .local _ .vmem, ⟨15, _⟩ => ⟨S8x8x1024, .f32⟩
  | .local _ .vmem, ⟨16, _⟩ => ⟨S8x15x1024, .f32⟩
  | .local _ .vmem, ⟨17, _⟩ => ⟨S8x15x1024, .f32⟩
  | .local _ .vmem, ⟨18, _⟩ => ⟨S320x1024, .f32⟩
  | .local _ .vmem, ⟨19, _⟩ => ⟨S320x768, .f32⟩
  | .local _ .vmem, ⟨20, _⟩ => ⟨S320x768, .f32⟩
  | .local _ .vmem, ⟨21, _⟩ => ⟨S320x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 1], ![false, false]⟩

def k0_off1 (i : grid0.Coords) (c0_i32_8 : BitVec 32) : Fin 3 → Nat :=
  let c0_9 : Index := 0#32
  let arg0 : BitVec 32 := BitVec.ofNat 32 (i 0).val
  let c8_i32 : BitVec 32 := 8#32
  let v5 : BitVec 32 := Scalar.muli arg0 c8_i32
  let c8_i32_3 : BitVec 32 := 8#32
  let c0_i32_4 : BitVec 32 := 0#32
  let v6 : BitVec 1 := Scalar.cmpi .eq c8_i32_3 c0_i32_4
  let c1_i32 : BitVec 32 := 1#32
  let v7 : BitVec 32 := Scalar.select v6 c1_i32 c8_i32_3
  let v8 : BitVec 32 := Scalar.remsi v5 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let v16 : BitVec 32 := Scalar.addi v15 c0_i32_8
  let v17 : Index := Scalar.indexCast v16
  let c0_10 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c264_i32 : BitVec 32 := 264#32
  let v1 : BitVec 32 := Scalar.addi c264_i32 v0
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c264_i32 : BitVec 32 := 264#32
  let v1 : BitVec 32 := Scalar.addi c264_i32 v0
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c1_i32_6 : BitVec 32 := 1#32
  let c0_i32_7 : BitVec 32 := 0#32
  ![c0_i32_5.toNat, v18.toNat, c1_i32_6.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c264_i32 : BitVec 32 := 264#32
  let v1 : BitVec 32 := Scalar.addi c264_i32 v0
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c2_i32 : BitVec 32 := 2#32
  let c0_i32_6 : BitVec 32 := 0#32
  ![c0_i32_5.toNat, v18.toNat, c2_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x15x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S32x8x1024 : Shape := ⟨3, ![32, 8, 1024]⟩
abbrev S32x15x1024 : Shape := ⟨3, ![32, 15, 1024]⟩
abbrev S2x296x6144 : Shape := ⟨3, ![2, 296, 6144]⟩
abbrev S1x4x256x256 : Shape := ⟨4, ![1, 4, 256, 256]⟩
abbrev S1x1024 : Shape := ⟨2, ![1, 1024]⟩
abbrev S4x1x1024 : Shape := ⟨3, ![4, 1, 1024]⟩
abbrev S1x32x6144 : Shape := ⟨3, ![1, 32, 6144]⟩
abbrev S32x6144 : Shape := ⟨2, ![32, 6144]⟩
abbrev S32x1024 : Shape := ⟨2, ![32, 1024]⟩
abbrev S32x1x1024 : Shape := ⟨3, ![32, 1, 1024]⟩
abbrev S_ : Shape := ⟨0, ![]⟩
abbrev S32x23x1024 : Shape := ⟨3, ![32, 23, 1024]⟩
abbrev S8 : Shape := ⟨1, ![8]⟩
abbrev S32x23x256 : Shape := ⟨3, ![32, 23, 256]⟩
abbrev S32x8x256 : Shape := ⟨3, ![32, 8, 256]⟩
abbrev S1x8x1 : Shape := ⟨3, ![1, 8, 1]⟩
abbrev S1x1x256x256 : Shape := ⟨4, ![1, 1, 256, 256]⟩
abbrev S256x256 : Shape := ⟨2, ![256, 256]⟩
abbrev S1024 : Shape := ⟨1, ![1024]⟩
abbrev S1x1x1024 : Shape := ⟨3, ![1, 1, 1024]⟩
abbrev S32x8 : Shape := ⟨2, ![32, 8]⟩
abbrev S32x8x1 : Shape := ⟨3, ![32, 8, 1]⟩

abbrev nBuf : Space → Nat
  | .hbm => 214
  | .vmem => 0
  | .smem => 0
  | _ => 0

abbrev hbmTy0_0 (i : Nat) : BufTy := match i % 128 with
  | 0 => ⟨S32x8x1024, .f32⟩
  | 1 => ⟨S32x15x1024, .f32⟩
  | 2 => ⟨S2x296x6144, .f32⟩
  | 3 => ⟨S1x4x256x256, .bf16⟩
  | 4 => ⟨S1x1024, .f32⟩
  | 5 => ⟨S4x1x1024, .f32⟩
  | 6 => ⟨S4x1x1024, .f32⟩
  | 7 => ⟨S1x32x6144, .f32⟩
  | 8 => ⟨S32x6144, .f32⟩
  | 9 => ⟨S32x1024, .f32⟩
  | 10 => ⟨S32x1024, .f32⟩
  | 11 => ⟨S32x1024, .f32⟩
  | 12 => ⟨S32x1024, .f32⟩
  | 13 => ⟨S32x1024, .f32⟩
  | 14 => ⟨S32x1024, .f32⟩
  | 15 => ⟨S32x1x1024, .f32⟩
  | 16 => ⟨S32x1x1024, .f32⟩
  | 17 => ⟨S32x1x1024, .f32⟩
  | 18 => ⟨S32x1x1024, .f32⟩
  | 19 => ⟨S32x1x1024, .f32⟩
  | 20 => ⟨S32x1x1024, .f32⟩
  | 21 => ⟨S_, .f32⟩
  | 22 => ⟨S32x1x1024, .f32⟩
  | 23 => ⟨S32x1x1024, .f32⟩
  | 24 => ⟨S32x8x1024, .f32⟩
  | 25 => ⟨S32x8x1024, .f32⟩
  | 26 => ⟨S32x8x1024, .f32⟩
  | 27 => ⟨S32x8x1024, .f32⟩
  | 28 => ⟨S32x23x1024, .f32⟩
  | 29 => ⟨S8, .i32⟩
  | 30 => ⟨S_, .i32⟩
  | 31 => ⟨S8, .i32⟩
  | 32 => ⟨S8, .i32⟩
  | 33 => ⟨S32x23x256, .f32⟩
  | 34 => ⟨S32x8x256, .f32⟩
  | 35 => ⟨S_, .f32⟩
  | 36 => ⟨S32x8x256, .f32⟩
  | 37 => ⟨S32x8x256, .f32⟩
  | 38 => ⟨S32x8x256, .f32⟩
  | 39 => ⟨S32x8x256, .f32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .f32⟩
  | 47 => ⟨S1x8x1, .f32⟩
  | 48 => ⟨S32x8x256, .f32⟩
  | 49 => ⟨S32x8x256, .f32⟩
  | 50 => ⟨S32x8x256, .f32⟩
  | 51 => ⟨S32x8x256, .f32⟩
  | 52 => ⟨S1x1x256x256, .bf16⟩
  | 53 => ⟨S256x256, .bf16⟩
  | 54 => ⟨S256x256, .f32⟩
  | 55 => ⟨S32x8x256, .f32⟩
  | 56 => ⟨S32x23x256, .f32⟩
  | 57 => ⟨S32x8x256, .f32⟩
  | 58 => ⟨S_, .f32⟩
  | 59 => ⟨S32x8x256, .f32⟩
  | 60 => ⟨S32x8x256, .f32⟩
  | 61 => ⟨S32x8x256, .f32⟩
  | 62 => ⟨S32x8x256, .f32⟩
  | 63 => ⟨S32x8x256, .f32⟩
  | 64 => ⟨S32x8x256, .f32⟩
  | 65 => ⟨S32x8x256, .f32⟩
  | 66 => ⟨S32x8x256, .f32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S8, .f32⟩
  | 74 => ⟨S1x8x1, .f32⟩
  | 75 => ⟨S32x8x256, .f32⟩
  | 76 => ⟨S32x8x256, .f32⟩
  | 77 => ⟨S32x8x256, .f32⟩
  | 78 => ⟨S32x8x256, .f32⟩
  | 79 => ⟨S1x1x256x256, .bf16⟩
  | 80 => ⟨S256x256, .bf16⟩
  | 81 => ⟨S256x256, .f32⟩
  | 82 => ⟨S32x8x256, .f32⟩
  | 83 => ⟨S32x23x256, .f32⟩
  | 84 => ⟨S32x8x256, .f32⟩
  | 85 => ⟨S_, .f32⟩
  | 86 => ⟨S32x8x256, .f32⟩
  | 87 => ⟨S32x8x256, .f32⟩
  | 88 => ⟨S32x8x256, .f32⟩
  | 89 => ⟨S32x8x256, .f32⟩
  | 90 => ⟨S32x8x256, .f32⟩
  | 91 => ⟨S32x8x256, .f32⟩
  | 92 => ⟨S32x8x256, .f32⟩
  | 93 => ⟨S32x8x256, .f32⟩
  | 94 => ⟨S32x8x256, .f32⟩
  | 95 => ⟨S32x8x256, .f32⟩
  | 96 => ⟨S32x8x256, .f32⟩
  | 97 => ⟨S32x8x256, .f32⟩
  | 98 => ⟨S32x8x256, .f32⟩
  | 99 => ⟨S32x8x256, .f32⟩
  | 100 => ⟨S32x8x256, .f32⟩
  | 101 => ⟨S32x8x256, .f32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S8, .f32⟩
  | 109 => ⟨S1x8x1, .f32⟩
  | 110 => ⟨S32x8x256, .f32⟩
  | 111 => ⟨S32x8x256, .f32⟩
  | 112 => ⟨S32x8x256, .f32⟩
  | 113 => ⟨S32x8x256, .f32⟩
  | 114 => ⟨S1x1x256x256, .bf16⟩
  | 115 => ⟨S256x256, .bf16⟩
  | 116 => ⟨S256x256, .f32⟩
  | 117 => ⟨S32x8x256, .f32⟩
  | 118 => ⟨S32x23x256, .f32⟩
  | 119 => ⟨S32x8x256, .f32⟩
  | 120 => ⟨S_, .f32⟩
  | 121 => ⟨S32x8x256, .f32⟩
  | 122 => ⟨S32x8x256, .f32⟩
  | 123 => ⟨S32x8x256, .f32⟩
  | 124 => ⟨S32x8x256, .f32⟩
  | 125 => ⟨S32x8x256, .f32⟩
  | 126 => ⟨S32x8x256, .f32⟩
  | 127 => ⟨S32x8x256, .f32⟩
  | _ => ⟨S32x8x1024, .f32⟩

abbrev hbmTy0_1 (i : Nat) : BufTy := match i % 128 with
  | 0 => ⟨S32x8x256, .f32⟩
  | 1 => ⟨S32x8x256, .f32⟩
  | 2 => ⟨S32x8x256, .f32⟩
  | 3 => ⟨S32x8x256, .f32⟩
  | 4 => ⟨S32x8x256, .f32⟩
  | 5 => ⟨S32x8x256, .f32⟩
  | 6 => ⟨S32x8x256, .f32⟩
  | 7 => ⟨S32x8x256, .f32⟩
  | 8 => ⟨S32x8x256, .f32⟩
  | 9 => ⟨S32x8x256, .f32⟩
  | 10 => ⟨S32x8x256, .f32⟩
  | 11 => ⟨S32x8x256, .f32⟩
  | 12 => ⟨S32x8x256, .f32⟩
  | 13 => ⟨S32x8x256, .f32⟩
  | 14 => ⟨S32x8x256, .f32⟩
  | 15 => ⟨S32x8x256, .f32⟩
  | 16 => ⟨S32x8x256, .f32⟩
  | 17 => ⟨S32x8x256, .f32⟩
  | 18 => ⟨S32x8x256, .f32⟩
  | 19 => ⟨S32x8x256, .f32⟩
  | 20 => ⟨S32x8x256, .f32⟩
  | 21 => ⟨S32x8x256, .f32⟩
  | 22 => ⟨S32x8x256, .f32⟩
  | 23 => ⟨S32x8x256, .f32⟩
  | 24 => ⟨S32x8x256, .f32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .f32⟩
  | 32 => ⟨S1x8x1, .f32⟩
  | 33 => ⟨S32x8x256, .f32⟩
  | 34 => ⟨S32x8x256, .f32⟩
  | 35 => ⟨S32x8x256, .f32⟩
  | 36 => ⟨S32x8x256, .f32⟩
  | 37 => ⟨S1x1x256x256, .bf16⟩
  | 38 => ⟨S256x256, .bf16⟩
  | 39 => ⟨S256x256, .f32⟩
  | 40 => ⟨S32x8x256, .f32⟩
  | 41 => ⟨S32x8x1024, .f32⟩
  | 42 => ⟨S1024, .f32⟩
  | 43 => ⟨S1x1x1024, .f32⟩
  | 44 => ⟨S32x8x1024, .f32⟩
  | 45 => ⟨S32x8x1024, .f32⟩
  | 46 => ⟨S_, .f32⟩
  | 47 => ⟨S32x8x1024, .f32⟩
  | 48 => ⟨S32x8x1024, .f32⟩
  | 49 => ⟨S32x8x1024, .f32⟩
  | 50 => ⟨S32x8x1024, .f32⟩
  | 51 => ⟨S32x8x1024, .f32⟩
  | 52 => ⟨S1x1x1024, .f32⟩
  | 53 => ⟨S1024, .f32⟩
  | 54 => ⟨S1x1x1024, .f32⟩
  | 55 => ⟨S1024, .f32⟩
  | 56 => ⟨S_, .f32⟩
  | 57 => ⟨S32x8, .f32⟩
  | 58 => ⟨S32x8x1, .f32⟩
  | 59 => ⟨S_, .f32⟩
  | 60 => ⟨S32x8x1, .f32⟩
  | 61 => ⟨S32x8x1, .f32⟩
  | 62 => ⟨S32x8x1024, .f32⟩
  | 63 => ⟨S32x8x1024, .f32⟩
  | 64 => ⟨S32x8x1024, .f32⟩
  | 65 => ⟨S_, .f32⟩
  | 66 => ⟨S32x8, .f32⟩
  | 67 => ⟨S32x8x1, .f32⟩
  | 68 => ⟨S_, .f32⟩
  | 69 => ⟨S32x8x1, .f32⟩
  | 70 => ⟨S32x8x1, .f32⟩
  | 71 => ⟨S32x8x1024, .f32⟩
  | 72 => ⟨S32x8x1024, .f32⟩
  | 73 => ⟨S_, .f32⟩
  | 74 => ⟨S32x8x1, .f32⟩
  | 75 => ⟨S32x8x1, .f32⟩
  | 76 => ⟨S32x8x1, .f32⟩
  | 77 => ⟨S32x8x1024, .f32⟩
  | 78 => ⟨S32x8x1024, .f32⟩
  | 79 => ⟨S1x1x1024, .f32⟩
  | 80 => ⟨S32x8x1024, .f32⟩
  | 81 => ⟨S32x8x1024, .f32⟩
  | 82 => ⟨S1x1x1024, .f32⟩
  | 83 => ⟨S32x8x1024, .f32⟩
  | 84 => ⟨S32x8x1024, .f32⟩
  | 85 => ⟨S32x15x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_4 : Ref sig .tc := ⟨.hbm, 67, rfl⟩
abbrev main_v54 : Ref sig .tc := ⟨.hbm, 68, rfl⟩
abbrev main_v55 : Ref sig .tc := ⟨.hbm, 69, rfl⟩
abbrev main_c_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_c_7 : Ref sig .tc := ⟨.hbm, 102, rfl⟩
abbrev main_v86 : Ref sig .tc := ⟨.hbm, 103, rfl⟩
abbrev main_v87 : Ref sig .tc := ⟨.hbm, 104, rfl⟩
abbrev main_c_8 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_9 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_c_10 : Ref sig .tc := ⟨.hbm, 153, rfl⟩
abbrev main_v134 : Ref sig .tc := ⟨.hbm, 154, rfl⟩
abbrev main_v135 : Ref sig .tc := ⟨.hbm, 155, rfl⟩
abbrev main_c_11 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_cst_12 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_cst_13 : Ref sig .tc := ⟨.hbm, 184, rfl⟩
abbrev main_v162 : Ref sig .tc := ⟨.hbm, 185, rfl⟩
abbrev main_v163 : Ref sig .tc := ⟨.hbm, 186, rfl⟩
abbrev main_cst_14 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_15 : Ref sig .tc := ⟨.hbm, 193, rfl⟩
abbrev main_v169 : Ref sig .tc := ⟨.hbm, 194, rfl⟩
abbrev main_v170 : Ref sig .tc := ⟨.hbm, 195, rfl⟩
abbrev main_cst_16 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_cst_17 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩

abbrev nD : Nat := 1
abbrev τ : Topo := Topo.v7x

variable {F : FTy → Type} [FloatOps F]
-- ==== Proof.Heads.lean ====
module
public import proofs.«01_k».proof.Proof.Gen.KernelIdeal.Value

/-! # The sixteen heads of one grid step, one at a time

The body carries, for every one of the sixteen heads, a row of the negative log-keeps summed so far
and the output accumulated so far, and does the same thing to every head. Here that thing is written
once for a head: `diagHead` for the block on the diagonal, `stepHead` for a block below it, `rowHead`
for the whole walk. Every head of the body's carry is shown to be this walk over the head's own lanes,
so that the sixteen unrolled copies are spoken of only here. -/

set_option maxRecDepth 16384

namespace Cert.KernelIdeal.Attn

open Cert.KernelIdeal Cert.KernelIdeal.Gen Idealize.ShloMosaic Idealize.ShloMosaic.Pipeline

@[expose] public section

variable {F : FTy → Type} [FloatOps F]

/-- What one head carries: its running sum of negative log-keeps, and its accumulated output. -/
abbrev HeadSt (F : FTy → Type) [FloatOps F] := FVec F S1x256 .f32 × FVec F S64x256 .f32

/-- What the body carries: sixteen heads side by side. -/
abbrev Carry (F : FTy → Type) [FloatOps F] :=
  FVec F S1x256 .f32 × FVec F S64x256 .f32 × FVec F S1x256 .f32 × FVec F S64x256 .f32 × FVec F
  S1x256 .f32 × FVec F S64x256 .f32 × FVec F S1x256 .f32 × FVec F S64x256 .f32 × FVec F S1x256 .f32
  × FVec F S64x256 .f32 × FVec F S1x256 .f32 × FVec F S64x256 .f32 × FVec F S1x256 .f32 × FVec F
  S64x256 .f32 × FVec F S1x256 .f32 × FVec F S64x256 .f32 × FVec F S1x256 .f32 × FVec F S64x256 .f32
  × FVec F S1x256 .f32 × FVec F S64x256 .f32 × FVec F S1x256 .f32 × FVec F S64x256 .f32 × FVec F
  S1x256 .f32 × FVec F S64x256 .f32 × FVec F S1x256 .f32 × FVec F S64x256 .f32 × FVec F S1x256 .f32
  × FVec F S64x256 .f32 × FVec F S1x256 .f32 × FVec F S64x256 .f32 × FVec F S1x256 .f32 × FVec F
  S64x256 .f32

/-- One head out of the body's carry. -/
def getHead (t : Carry F) : Fin 16 → HeadSt F
  | 0 => (t.1, t.2.1)
  | 1 => (t.2.2.1, t.2.2.2.1)
  | 2 => (t.2.2.2.2.1, t.2.2.2.2.2.1)
  | 3 => (t.2.2.2.2.2.2.1, t.2.2.2.2.2.2.2.1)
  | 4 => (t.2.2.2.2.2.2.2.2.1, t.2.2.2.2.2.2.2.2.2.1)
  | 5 => (t.2.2.2.2.2.2.2.2.2.2.1, t.2.2.2.2.2.2.2.2.2.2.2.1)
  | 6 => (t.2.2.2.2.2.2.2.2.2.2.2.2.1, t.2.2.2.2.2.2.2.2.2.2.2.2.2.1)
  | 7 => (t.2.2.2.2.2.2.2.2.2.2.2.2.2.2.1, t.2.2.2.2.2.2.2.2.2.2.2.2.2.2.2.1)
  | 8 => (t.2.2.2.2.2.2.2.2.2.2.2.2.2.2.2.2.1, t.2.2.2.2.2.2.2.2.2.2.2.2.2.2.2.2.2.1)
  | 9 => (t.2.2.2.2.2.2.2.2.2.2.2.2.2.2.2.2.2.2.1, t.2.2.2.2.2.2.2.2.2.2.2.2.2.2.2.2.2.2.2.1)
  | 10 => (t.2.2.2.2.2.2.2.2.2.2.2.2.2.2.2.2.2.2.2.2.1, t.2.2.2.2.2.2.2.2.2.2.2.2.2.2.2.2.2.2.2.2.2.1)
  | 11 => (t.2.2.2.2.2.2.2.2.2.2.2.2.2.2.2.2.2.2.2.2.2.2.1, t.2.2.2.2.2.2.2.2.2.2.2.2.2.2.2.2.2.2.2.2.2.2.2.1)
  | 12 => (t.2.2.2.2.2.2.2.2.2.2.2.2.2.2.2.2.2.2.2.2.2.2.2.2.1, t.2.2.2.2.2.2.2.2.2.2.2.2.2.2.2.2.2.2.2.2.2.2.2.2.2.1)
  | 13 => (t.2.2.2.2.2.2.2.2.2.2.2.2.2.2.2.2.2.2.2.2.2.2.2.2.2.2.1, t.2.2.2.2.2.2.2.2.2.2.2.2.2.2.2.2.2.2.2.2.2.2.2.2.2.2.2.1)
  | 14 => (t.2.2.2.2.2.2.2.2.2.2.2.2.2.2.2.2.2.2.2.2.2.2.2.2.2.2.2.2.1, t.2.2.2.2.2.2.2.2.2.2.2.2.2.2.2.2.2.2.2.2.2.2.2.2.2.2.2.2.2.1)
  | _ => (t.2.2.2.2.2.2.2.2.2.2.2.2.2.2.2.2.2.2.2.2.2.2.2.2.2.2.2.2.2.2.1, t.2.2.2.2.2.2.2.2.2.2.2.2.2.2.2.2.2.2.2.2.2.2.2.2.2.2.2.2.2.2.2)

/-- The block `j` of keys, at the lanes of slab `s`. -/
def kOff (j : BitVec 32) (s : ℕ) : Fin 3 → ℕ :=
  ![0, (Scalar.indexCast (Scalar.muli j 256#32)).toNat, 128 * s]

/-- The block `j` of values, at the rows of head `h`. -/
def vOff (j : BitVec 32) (h : ℕ) : Fin 4 → ℕ := ![0, (Scalar.indexCast j).toNat, 64 * h, 0]

/-- The block the diagonal lies in. -/
def diagWord (i : grid0.Coords) : BitVec 32 := BitVec.ofNat 32 (i 2).val

/-- The block the trip `k` below the diagonal takes: they are taken from the diagonal downwards. -/
def tripWord (i : grid0.Coords) (k : ℕ) : BitVec 32 :=
  Scalar.subi (Scalar.subi (BitVec.ofNat 32 (i 2).val) 1#32) (Scf.iv 0#32 1#32 k)

theorem kOff_diag : ∀ (i : grid0.Coords) (s : Fin 8),
    kOff (diagWord i) s.val = ![0, 256 * (i 2).val, 128 * s.val] := by decide +kernel

theorem kOff_trip : ∀ (i : grid0.Coords) (k : Fin (k0_t1_loop i).trips) (s : Fin 8),
    kOff (tripWord i k.val) s.val = ![0, 256 * ((i 2).val - 1 - k.val), 128 * s.val] := by
  decide +kernel

theorem vOff_diag : ∀ (i : grid0.Coords) (h : Fin 16),
    vOff (diagWord i) h.val = ![0, (i 2).val, 64 * h.val, 0] := by decide +kernel

theorem vOff_trip : ∀ (i : grid0.Coords) (k : Fin (k0_t1_loop i).trips) (h : Fin 16),
    vOff (tripWord i k.val) h.val = ![0, (i 2).val - 1 - k.val, 64 * h.val, 0] := by
  decide +kernel

theorem trips_t1 : ∀ i : grid0.Coords, (k0_t1_loop i).trips = (i 2).val := by decide +kernel

theorem trips_t2 : ∀ i : grid0.Coords, (k0_t2_loop i).trips = 0 := by decide +kernel

theorem kOff_diag_inb : ∀ (i : grid0.Coords) (h : Fin 16), ∀ a,
    kOff (diagWord i) (h.val / 2) a + S1x256x128.size a ≤ S1x2048x1024.size a := by decide +kernel

theorem kOff_trip_inb : ∀ (i : grid0.Coords) (k : Fin (k0_t1_loop i).trips) (h : Fin 16), ∀ a,
    kOff (tripWord i k.val) (h.val / 2) a + S1x256x128.size a ≤ S1x2048x1024.size a := by
  decide +kernel

theorem vOff_diag_inb : ∀ (i : grid0.Coords) (h : Fin 16), ∀ a,
    vOff (diagWord i) h.val a + S1x1x64x256.size a ≤ S1x8x1024x256.size a := by decide +kernel

theorem vOff_trip_inb : ∀ (i : grid0.Coords) (k : Fin (k0_t1_loop i).trips) (h : Fin 16), ∀ a,
    vOff (tripWord i k.val) h.val a + S1x1x64x256.size a ≤ S1x8x1024x256.size a := by
  decide +kernel

/-- One block of keys below the diagonal, for one head: the logits of the block's keys (rows) against
the tile's queries (columns), their softplus, the sums of the softplus over the block's later keys,
the weights, and with them the new carry. -/
noncomputable def stepHead (tri : FVec F S256x256 .bf16) (q : FVec F S256x128 .bf16) (b : Elt F .f32)
    (kb : Vec F S1x256x128 .bf16) (vb : Vec F S1x1x64x256 .bf16) (s : HeadSt F) : HeadSt F :=
  (k0_pay106 s.1 (k0_pay57 (k0_pay23 (k0_pay4 q b kb))) (k0_pay73 tri (k0_pay23 (k0_pay4 q b kb))),
   k0_pay107 s.2 (k0_pay89 s.1 (k0_pay41 (k0_pay4 q b kb) (k0_pay23 (k0_pay4 q b kb)))
     (k0_pay73 tri (k0_pay23 (k0_pay4 q b kb)))) vb)

/-- The masked softplus of the block on the diagonal. -/
noncomputable def diagNk (q : FVec F S256x128 .bf16) (b : Elt F .f32) (kb : Vec F S1x256x128 .bf16) :
    FVec F S256x256 .f32 :=
  k0_pay350 k0_pay260 (k0_pay332 (k0_pay315 q b kb) (FloatOps.ofBits .f32 1106247680#32))

/-- The block on the diagonal, for one head: only the keys before the query count, and nothing is
carried yet. -/
noncomputable def diagHead (tri : FVec F S256x256 .bf16) (q : FVec F S256x128 .bf16) (b : Elt F .f32)
    (kb : Vec F S1x256x128 .bf16) (vb : Vec F S1x1x64x256 .bf16) : HeadSt F :=
  (k0_pay447 k0_pay283 (k0_pay382 (diagNk q b kb)) (k0_pay398 tri (diagNk q b kb)),
   k0_pay448 k0_pay284 (k0_pay431 k0_pay260 (k0_pay415 k0_pay283
     (k0_pay366 (k0_pay315 q b kb) (diagNk q b kb)) (k0_pay398 tri (diagNk q b kb)))) vb)

/-- The queries of the tile, the lanes of the other head of the slab made zero. -/
noncomputable def headQ (h : Fin 16) (slab : Vec F S1x256x128 .bf16) : FVec F S256x128 .bf16 :=
  if h.val % 2 = 0 then k0_pay262 slab else k0_pay263 slab

section Walk

variable (i : grid0.Coords)
  {arg3 : Memref sig .tc .smem S16 .f32} {arg4 : Memref sig .tc .vmem S1x256x1024 .bf16}
  {arg5 : Memref sig .tc .vmem S1x2048x1024 .bf16}
  {arg6 : Memref sig .tc .vmem S1x8x1024x256 .bf16}

/-- The keys of the trip `k`, read at head `h`'s slab. -/
noncomputable def tripK (X5 : BufTy.Contents (Elt F) arg5.view.ty) (k : Fin (k0_t1_loop i).trips) (h : Fin 16) :
    Vec F S1x256x128 .bf16 :=
  View.readAt (Elt F) arg5.view
    (Rect.unit (s := S1x2048x1024) (kOff (tripWord i k.val) (h.val / 2)) S1x256x128.size (kOff_trip_inb i k h)).toLoadRect X5

/-- The values of the trip `k`, read at head `h`. -/
noncomputable def tripV (X6 : BufTy.Contents (Elt F) arg6.view.ty) (k : Fin (k0_t1_loop i).trips) (h : Fin 16) :
    Vec F S1x1x64x256 .bf16 :=
  View.readAt (Elt F) arg6.view
    (Rect.unit (s := S1x8x1024x256) (vOff (tripWord i k.val) h.val) S1x1x64x256.size (vOff_trip_inb i k h)).toLoadRect X6

/-- One head's walk over the first `n` blocks below the diagonal. -/
noncomputable def walkHead (tri : FVec F S256x256 .bf16) (q : FVec F S256x128 .bf16) (b : Elt F .f32)
    (X5 : BufTy.Contents (Elt F) arg5.view.ty) (X6 : BufTy.Contents (Elt F) arg6.view.ty)
    (h : Fin 16) (s : HeadSt F) : ℕ → HeadSt F
  | 0 => s
  | n + 1 =>
    if hn : n < (k0_t1_loop i).trips then
      stepHead tri q b (tripK i X5 ⟨n, hn⟩ h) (tripV i X6 ⟨n, hn⟩ h)
        (walkHead tri q b X5 X6 h s n)
    else walkHead tri q b X5 X6 h s n

end Walk

section Loop

variable {𝒱 : Variants} {c : Dev nD} {bd : Option 𝒱.V} {i : grid0.Coords}
  {arg3 : Memref sig .tc .smem S16 .f32} {harg3 : arg3.IsWhole}
  {arg4 : Memref sig .tc .vmem S1x256x1024 .bf16} {harg4 : arg4.IsWhole}
  {arg5 : Memref sig .tc .vmem S1x2048x1024 .bf16} {harg5 : arg5.IsWhole}
  {arg6 : Memref sig .tc .vmem S1x8x1024x256 .bf16} {harg6 : arg6.IsWhole}
  {arg7 : Memref sig .tc .vmem S1x256x1024 .bf16} {harg7 : arg7.IsWhole}
  {arg2 : BitVec 32} {v10 : FVec F S256x256 .bf16}
  {v21 v38 v55 v72 v89 v106 v123 v140 v157 v174 v191 v208 v225 v242 v259 v276 :
    FVec F S256x128 .bf16}
  {v27 v44 v61 v78 v95 v112 v129 v146 v163 v180 v197 v214 v231 v248 v265 v282 : Elt F .f32}
  {v307 v309 v311 v313 v585 v586 v587 v588 v722 v731 v740 v749 v758 v767 v776 v785 v794 v803 v812
   v821 :
    FVec F S1x256 .f32}
  {v614 v616 v618 v620 v710 v712 v714 v716 : FVec F S256x256 .f32}
  {v308 v310 v312 v314 v725 v734 v743 v752 v761 v770 v779 v788 v797 v806 v815 v824 :
    FVec F S64x256 .f32}
  {X5 : BufTy.Contents (Elt F) arg5.view.ty} {X6 : BufTy.Contents (Elt F) arg6.view.ty}

set_option maxHeartbeats 0 in
/-- A trip of the loop takes every head one step. -/
theorem getHead_trip (k : Fin (k0_t1_loop i).trips) (t : Carry F) (h : Fin 16) :
    getHead (tripR_k0_t1 (F := F) 𝒱 c bd i arg3 harg3 arg4 harg4 arg5 harg5 arg6 harg6 arg7 harg7 arg2 v10 v21 v27 v38 v44 v55 v61 v72
      v78 v89 v95 v106 v112 v123 v129 v140 v146 v157 v163 v174 v180 v191 v197 v208 v214 v225 v231
      v242 v248 v259 v265 v276 v282 v307 v308 v309 v310 v311 v312 v313 v314 v585 v586 v587 v588 v614
      v616 v618 v620 v710 v712 v714 v716 v722 v725 v731 v734 v740 v743 v749 v752 v758 v761 v767 v770
      v776 v779 v785 v788 v794 v797 v803 v806 v812 v815 v821 v824 X5 X6 k t) h
      = stepHead v10 (![v21, v38, v55, v72, v89, v106, v123, v140, v157, v174, v191, v208, v225, v242, v259, v276] h)
        (![v27, v44, v61, v78, v95, v112, v129, v146, v163, v180, v197, v214, v231, v248, v265, v282] h)
        (tripK i X5 k h) (tripV i X6 k h) (getHead t h) := by
  delta tripR_k0_t1 trip_k0_t1
  revert h
  exact fun
    | 0 => rfl
    | 1 => rfl
    | 2 => rfl
    | 3 => rfl
    | 4 => rfl
    | 5 => rfl
    | 6 => rfl
    | 7 => rfl
    | 8 => rfl
    | 9 => rfl
    | 10 => rfl
    | 11 => rfl
    | 12 => rfl
    | 13 => rfl
    | 14 => rfl
    | 15 => rfl
    | ⟨n + 16, hn⟩ => absurd hn (by omega)

set_option maxHeartbeats 0 in
/-- After `n` trips every head has walked `n` blocks. -/
theorem getHead_loop (init : Carry F) (n : ℕ) (hle : n ≤ (k0_t1_loop i).trips) (h : Fin 16) :
    getHead (st_k0_t1 (F := F) 𝒱 c bd i arg3 harg3 arg4 harg4 arg5 harg5 arg6 harg6 arg7 harg7 arg2 v10 v21 v27 v38 v44 v55 v61 v72
      v78 v89 v95 v106 v112 v123 v129 v140 v146 v157 v163 v174 v180 v191 v197 v208 v214 v225 v231
      v242 v248 v259 v265 v276 v282 v307 v308 v309 v310 v311 v312 v313 v314 v585 v586 v587 v588 v614
      v616 v618 v620 v710 v712 v714 v716 v722 v725 v731 v734 v740 v743 v749 v752 v758 v761 v767 v770
      v776 v779 v785 v788 v794 v797 v803 v806 v812 v815 v821 v824 X5 X6 init n) h
      = walkHead i v10 (![v21, v38, v55, v72, v89, v106, v123, v140, v157, v174, v191, v208, v225, v242, v259, v276] h)
        (![v27, v44, v61, v78, v95, v112, v129, v146, v163, v180, v197, v214, v231, v248, v265, v282] h)
        X5 X6 h (getHead init h) n := by
  induction n with
  | zero => rfl
  | succ n ih =>
    have hn : n < (k0_t1_loop i).trips := hle
    rw [show n + 1 = (⟨n, hn⟩ : Fin (k0_t1_loop i).trips).val + 1 from rfl, st_k0_t1_succ,
      getHead_trip, ih (by omega)]
    simp only [walkHead, dif_pos hn]

end Loop

end

end Cert.KernelIdeal.Attn
-- ==== Proof.Maths.lean ====
module
public import Idealize.ShloMosaic.PureOps
public import Idealize.ShloMosaic.Lib.IdealHost
public import Idealize.ShloMosaic.PureOps.Ideal.Laws

/-! # Stick-breaking attention as a sum over keys

For one query `t` with logits `z s` the walk over the keys from `t` downwards breaks a stick: key `s`
takes the share `exp (z s - sp (z s))` of what the keys between it and the query have left over, and
each of those leaves the share `exp (- sp (z s'))`. `lossAt` is the loss `sp (z s)` of a key before the
query (and `0` of any other key), `lossFrom n` what the keys from `n` on take together, `weightAt` the
weight. Here the two ways of reaching those weights are brought to them: block by block with a running
sum, and over the whole sequence at once. -/

namespace Cert.Attn

open Idealize.ShloMosaic

@[expose] public section

/-- The softplus. -/
noncomputable def sp (x : ℝ) : ℝ := Real.log (1 + Real.exp x)

theorem one_add_exp_pos (x : ℝ) : 0 < 1 + Real.exp x := by positivity

theorem log_one_add_exp (x : ℝ) : Ideal.log (1 + Ideal.exp (x : EReal)) = (sp x : EReal) := by
  rw [Ideal.exp_coe, ← EReal.coe_one, ← EReal.coe_add, Ideal.log_coe,
    if_neg (not_le.mpr (one_add_exp_pos x)), sp]

theorem le_sp (x : ℝ) : x ≤ sp x := by
  rw [sp, Real.le_log_iff_exp_le (one_add_exp_pos x)]
  linarith

/-- The clamped softplus is the softplus up to the clamp. -/
theorem soft_clamped {x : ℝ} (h : x ≤ 30) :
    max (Ideal.log (1 + Ideal.exp (min (x : EReal) ((30 : ℝ) : EReal)))) (x : EReal) = (sp x : EReal) := by
  rw [min_eq_left (by exact_mod_cast h), log_one_add_exp, max_eq_left]
  exact_mod_cast le_sp x

theorem sp_neg (x : ℝ) : sp (-x) = sp x - x := by
  have h : (1 : ℝ) + Real.exp x = Real.exp x * (1 + Real.exp (-x)) := by
    rw [mul_add, ← Real.exp_add]; simp [add_comm]
  rw [sp, sp, h, Real.log_mul (Real.exp_ne_zero x) (one_add_exp_pos _).ne', Real.log_exp]
  ring

theorem max_add_sp (x : ℝ) : max x 0 + sp (-|x|) = sp x := by
  rcases le_total 0 x with h | h
  · rw [max_eq_left h, abs_of_nonneg h, sp_neg]; ring
  · rw [max_eq_right h, abs_of_nonpos h, neg_neg, zero_add]

/-- The log of the sigmoid, written with the larger of the exponents taken out. -/
theorem log_sigmoid (x : ℝ) :
    -(max (-(x : EReal)) 0
      + Ideal.log1p (Ideal.exp (-(max (-(x : EReal) - 0) (-(-(x : EReal) - 0))))))
      = ((x - sp x : ℝ) : EReal) := by
  have e : max (-(x : EReal) - 0) (-(-(x : EReal) - 0)) = ((|x| : ℝ) : EReal) := by
    rw [sub_zero, neg_neg, ← EReal.coe_neg, ← EReal.coe_strictMono.monotone.map_max, max_comm]; rfl
  have e0 : max (-(x : EReal)) 0 = ((max (-x) 0 : ℝ) : EReal) := by
    rw [← EReal.coe_neg, ← EReal.coe_zero, ← EReal.coe_strictMono.monotone.map_max]
  rw [e, e0, Ideal.log1p, ← EReal.coe_neg, log_one_add_exp, ← EReal.coe_add, ← EReal.coe_neg]
  have := max_add_sp (-x)
  rw [abs_neg] at this
  rw [this, sp_neg, neg_sub]

/-- A sum of reals is the sum of them as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section

variable (z : ℕ → EReal) (t : ℕ)

/-- What key `s` takes off the stick. -/
noncomputable def lossAt (s : ℕ) : ℝ := if s < t then sp (z s).toReal else 0

/-- What the keys from `n` on take together. -/
noncomputable def lossFrom (n : ℕ) : ℝ := ∑ s ∈ Finset.Ico n 2048, lossAt z t s

/-- The weight of key `s`. -/
noncomputable def weightAt (s : ℕ) : ℝ :=
  if s < t then Real.exp ((z s).toReal - lossAt z t s - lossFrom z t (s + 1)) else 0

/-- The logits the weights are made of are real and within the clamp. -/
def Tame : Prop := ∀ s < t, ⊥ < z s ∧ z s ≤ ((30 : ℝ) : EReal)

variable {z t}

theorem Tame.coe (h : Tame z t) {s : ℕ} (hs : s < t) : (((z s).toReal : ℝ) : EReal) = z s :=
  EReal.coe_toReal (ne_top_of_le_ne_top (EReal.coe_ne_top _) (h s hs).2) (h s hs).1.ne'

theorem Tame.le (h : Tame z t) {s : ℕ} (hs : s < t) : (z s).toReal ≤ 30 := by
  have := (h s hs).2
  rw [← h.coe hs] at this
  exact_mod_cast this

/-- The softplus of a logit is the loss. -/
theorem Tame.soft (h : Tame z t) {s : ℕ} (hs : s < t) :
    max (Ideal.log (1 + Ideal.exp (min (z s) ((30 : ℝ) : EReal)))) (z s) = (lossAt z t s : EReal) := by
  rw [← h.coe hs, soft_clamped (h.le hs), lossAt, if_pos hs]

theorem lossAt_of_le {s : ℕ} (hs : t ≤ s) : lossAt z t s = 0 := if_neg (by omega)

theorem lossFrom_of_le {n : ℕ} (hn : t ≤ n) : lossFrom z t n = 0 :=
  Finset.sum_eq_zero fun s hs => lossAt_of_le (hn.trans (Finset.mem_Ico.mp hs).1)

theorem lossFrom_succ {n : ℕ} (hn : n < 2048) : lossFrom z t n = lossAt z t n + lossFrom z t (n + 1) :=
  Finset.sum_eq_sum_Ico_succ_bot hn _

/-- The later keys of a block, summed with a triangle of ones. -/
theorem later_in_block {lo : ℕ} (hlo : lo + 256 ≤ 2048) (κ : Fin 256) (nk : Fin 256 → EReal)
    (hnk : ∀ κ, nk κ = (lossAt z t (lo + κ.val) : EReal)) :
    ∑ κ' : Fin 256, (if κ.val < κ'.val then 1 else 0 : EReal) * nk κ'
      = ((lossFrom z t (lo + κ.val + 1) - lossFrom z t (lo + 256) : ℝ) : EReal) := by
  have e : ∀ κ' : Fin 256, (if κ.val < κ'.val then 1 else 0 : EReal) * nk κ'
      = ((fun n => if κ.val < n then lossAt z t (lo + n) else 0 : ℕ → ℝ) κ'.val : EReal) := fun κ' => by
    rw [hnk]; dsimp only; split <;> simp
  rw [Finset.sum_congr rfl fun κ' _ => e κ', ← coe_sum,
    Fin.sum_univ_eq_sum_range (fun n => if κ.val < n then lossAt z t (lo + n) else 0) 256]
  congr 1
  rw [← Finset.sum_filter]
  have hf : (Finset.range 256).filter (fun n => κ.val < n) = Finset.Ico (κ.val + 1) 256 := by
    ext n; simp only [Finset.mem_filter, Finset.mem_range, Finset.mem_Ico]; omega
  rw [hf, Finset.sum_Ico_add (fun s => lossAt z t s) (κ.val + 1) 256 lo, lossFrom, lossFrom,
    ← Finset.sum_Ico_consecutive (fun s => lossAt z t s) (by omega : lo + κ.val + 1 ≤ lo + 256) hlo]
  rw [show κ.val + 1 + lo = lo + κ.val + 1 by omega, show 256 + lo = lo + 256 by omega]
  ring

/-- The running sum after a block. -/
theorem carry_block {lo : ℕ} (hlo : lo + 256 ≤ 2048) (nk : Fin 256 → EReal)
    (hnk : ∀ κ, nk κ = (lossAt z t (lo + κ.val) : EReal)) {c : EReal}
    (hc : c = (lossFrom z t (lo + 256) : EReal)) :
    c + ((∑ κ' : Fin 256, (if (0 : Fin 256).val < κ'.val then 1 else 0 : EReal) * nk κ') + nk 0)
      = (lossFrom z t lo : EReal) := by
  rw [later_in_block hlo 0 nk hnk, hnk, hc, lossFrom_succ (n := lo) (by omega)]
  simp only [Fin.val_zero, add_zero]
  norm_cast
  ring

/-- The weight a block gives a key before the query. -/
theorem weight_block (h : Tame z t) {lo : ℕ} (hlo : lo + 256 ≤ 2048) (nk : Fin 256 → EReal)
    (hnk : ∀ κ, nk κ = (lossAt z t (lo + κ.val) : EReal)) {c : EReal}
    (hc : c = (lossFrom z t (lo + 256) : EReal)) (κ : Fin 256) (hκ : lo + κ.val < t) :
    Ideal.exp (z (lo + κ.val) - nk κ
        - (∑ κ' : Fin 256, (if κ.val < κ'.val then 1 else 0 : EReal) * nk κ') - c)
      = (weightAt z t (lo + κ.val) : EReal) := by
  rw [later_in_block hlo κ nk hnk, hnk, hc, ← h.coe hκ, ← EReal.coe_sub, ← EReal.coe_sub,
    ← EReal.coe_sub, Ideal.exp_coe, weightAt, if_pos hκ]
  congr 2
  ring

/-- The block on the diagonal masks every key from the query on. -/
theorem diag_nk (h : Tame z t) {lo : ℕ} {r : ℕ} (hr : lo + r = t) (zb : Fin 256 → EReal)
    (hz : ∀ κ, zb κ = z (lo + κ.val)) (κ : Fin 256) :
    (if κ.val < r then max (Ideal.log (1 + Ideal.exp (min (zb κ) ((30 : ℝ) : EReal)))) (zb κ) else 0)
      = (lossAt z t (lo + κ.val) : EReal) := by
  split
  · rw [hz, h.soft (by omega)]
  · rw [lossAt_of_le (by omega), EReal.coe_zero]

/-- The keys of one block, added to those above it. -/
theorem output_block {lo : ℕ} (hlo : lo + 256 ≤ 2048) (f : ℕ → EReal) {a : EReal}
    (ha : a = ∑ s ∈ Finset.Ico (lo + 256) 2048, f s) :
    a + ∑ κ : Fin 256, f (lo + κ.val) = ∑ s ∈ Finset.Ico lo 2048, f s := by
  rw [ha, Fin.sum_univ_eq_sum_range (fun n => f (lo + n)) 256, add_comm,
    ← Finset.sum_Ico_consecutive f (by omega : lo ≤ lo + 256) hlo]
  congr 1
  rw [Finset.range_eq_Ico, Finset.sum_Ico_add f 0 256 lo, zero_add, add_comm 256 lo]

/-- The keys from `n` on, summed with the losses' signs turned. -/
theorem suffix_sum (n : Fin 2048) (f : ℕ → EReal) (hf : ∀ s < 2048, f s = (-(lossAt z t s) : ℝ)) :
    (∑ w : Fin 2048, if n.val + w.val < 2048 then f (n.val + w.val) else 0)
      = ((-(lossFrom z t n.val) : ℝ) : EReal) := by
  have e : ∀ w : Fin 2048, (if n.val + w.val < 2048 then f (n.val + w.val) else 0)
      = ((fun w => if n.val + w < 2048 then -(lossAt z t (n.val + w)) else 0 : ℕ → ℝ) w.val : EReal) :=
    fun w => by
      dsimp only
      split
      · next h => rw [hf _ h]
      · simp
  rw [Finset.sum_congr rfl fun w _ => e w, ← coe_sum,
    Fin.sum_univ_eq_sum_range (fun w => if n.val + w < 2048 then -(lossAt z t (n.val + w)) else 0) 2048]
  congr 1
  rw [← Finset.sum_filter]
  have hr : (Finset.range 2048).filter (fun w => n.val + w < 2048) = Finset.Ico 0 (2048 - n.val) := by
    ext w; simp only [Finset.mem_filter, Finset.mem_range, Finset.mem_Ico]; omega
  rw [hr, Finset.sum_Ico_add (fun s => -(lossAt z t s)) 0 (2048 - n.val) n.val, lossFrom,
    Finset.sum_neg_distrib, zero_add, Nat.sub_add_cancel n.isLt.le]

/-- The weight over the whole sequence at once: the log of the sigmoid, and the losses of the later keys
as the losses from the key on less its own. -/
theorem weight_whole (h : Tame z t) {s : ℕ} (hs : s < t) (hT : t ≤ 2048) :
    Ideal.exp ((((z s).toReal - sp (z s).toReal : ℝ) : EReal)
        + (((-(lossFrom z t s) : ℝ) : EReal) - ((-(lossAt z t s) : ℝ) : EReal)))
      = (weightAt z t s : EReal) := by
  rw [← EReal.coe_sub, ← EReal.coe_add, Ideal.exp_coe, weightAt, if_pos hs,
    lossFrom_succ (n := s) (by omega)]
  have : lossAt z t s = sp (z s).toReal := if_pos hs
  congr 2
  rw [this]
  ring

end

end

end Cert.Attn
-- ==== Proof.Elements.lean ====
module
public import proofs.«01_k».proof.Proof.Heads
public import proofs.«01_k».proof.Proof.Maths
public import Idealize.ShloMosaic.Lib.Pointwise
public import Idealize.ShloMosaic.Lib.WordCmp

/-! # One head's block, entry by entry

What a block of keys does to one head, read at an entry: rows are keys, columns are queries. -/

set_option maxRecDepth 16384

namespace Cert.KernelIdeal.Attn

open Cert.KernelIdeal Cert.KernelIdeal.Gen Cert.Attn Idealize.ShloMosaic Idealize.ShloMosaic.WordCmp

@[expose] public section

/-- The clamp of the softplus. -/
theorem ofBits_clamp : Ideal.ofBits .f32 0x41F00000#32 = ((30 : ℝ) : EReal) := by
  simp [Ideal.ofBits, Ideal.ieee, -EReal.coe_mul]; norm_num

/-- A logit: the key's lanes against the query's, and the bias. -/
theorem logit_apply (q : FVec Ideal S256x128 .bf16) (b : Elt Ideal .f32) (kb : Vec Ideal S1x256x128 .bf16)
    (κ r : Fin 256) :
    k0_pay4 q b kb (ix2 κ r) = (∑ l : Fin 128, kb (ix3 0 κ l) * q (ix2 r l)) + b := by
  pointwise [k0_pay4]

theorem soft_apply (z : FVec Ideal S256x256 .f32) (κ r : Fin 256) :
    k0_pay23 z (ix2 κ r)
      = max (Ideal.log (1 + Ideal.exp (min (z (ix2 κ r)) ((30 : ℝ) : EReal)))) (z (ix2 κ r)) := by
  pointwise [k0_pay23]
  rw [ofBits_clamp]

/-- The product with the triangle sums the block's later keys. -/
theorem later_apply (nk : FVec Ideal S256x256 .f32) (κ r : Fin 256) :
    k0_pay73 k0_pay261 nk (ix2 κ r)
      = ∑ κ' : Fin 256, (if κ.val < κ'.val then 1 else 0 : EReal) * nk (ix2 κ' r) := by
  pointwise [k0_pay73, k0_pay261]
  refine Finset.sum_congr rfl fun κ' _ => ?_
  rw [cmpi_sgt_ofNat (by have := κ'.isLt; norm_num; omega) (by have := κ.isLt; norm_num; omega),
    select_decide]
  split <;> simp

/-- The lanes of the head itself are the query's, the other head's are zero. -/
theorem q_apply (h : Fin 16) (slab : Vec Ideal S1x256x128 .bf16) (r : Fin 256) (l : Fin 128) :
    headQ h slab (ix2 r l) = if l.val / 64 = h.val % 2 then slab (ix3 0 r l) else 0 := by
  have hl := l.isLt
  unfold headQ
  split
  · next h0 =>
    pointwise [k0_pay262]
    rw [h0, cmpi_sge_ofNat (by norm_num; omega) (by norm_num), cmpi_slt_ofNat (by norm_num; omega) (by norm_num)]
    by_cases hlt : l.val < 64
    · simp [hlt, Nat.div_eq_of_lt hlt, Scalar.select, IntOp.andi]
    · rw [if_neg (by omega)]
      simp [hlt, Scalar.select, IntOp.andi]
  · next h0 =>
    pointwise [k0_pay263]
    rw [show h.val % 2 = 1 by omega, cmpi_sge_ofNat (by norm_num; omega) (by norm_num), cmpi_slt_ofNat (by norm_num; omega) (by norm_num)]
    by_cases hlt : l.val < 64
    · rw [if_neg (by omega)]
      simp [show ¬ 64 ≤ l.val by omega, Scalar.select, IntOp.andi]
    · rw [if_pos (by omega)]
      simp [show 64 ≤ l.val by omega, hl, Scalar.select, IntOp.andi]

/-- A slab of the output: the first head's rows and then the second's, turned. -/
theorem out_apply (a b : FVec Ideal S64x256 .f32) (r : Fin 256) (l : Fin 128) :
    k0_pay502 a b (ix3 0 r l)
      = if h : l.val < 64 then a (ix2 ⟨l.val, h⟩ r) else b (ix2 ⟨l.val - 64, by omega⟩ r) := by
  pointwise [k0_pay502]

section Step

variable (q : FVec Ideal S256x128 .bf16) (b : Elt Ideal .f32) (kb : Vec Ideal S1x256x128 .bf16)
  (vb : Vec Ideal S1x1x64x256 .bf16)

theorem step_fst (tri : FVec Ideal S256x256 .bf16) (s : HeadSt Ideal) (r : Fin 256) :
    (stepHead tri q b kb vb s).1 (ix2 0 r)
      = s.1 (ix2 0 r) + (k0_pay73 tri (k0_pay23 (k0_pay4 q b kb)) (ix2 0 r)
          + (k0_pay23 (k0_pay4 q b kb)) (ix2 0 r)) := by
  unfold stepHead
  generalize k0_pay23 (k0_pay4 q b kb) = nk
  generalize k0_pay73 tri nk = ex
  pointwise [k0_pay106, k0_pay57]

theorem step_snd (tri : FVec Ideal S256x256 .bf16) (s : HeadSt Ideal) (d : Fin 64) (r : Fin 256) :
    (stepHead tri q b kb vb s).2 (ix2 d r)
      = s.2 (ix2 d r) + ∑ κ : Fin 256, vb (ix4 0 0 d κ) *
          Ideal.exp (k0_pay4 q b kb (ix2 κ r) - k0_pay23 (k0_pay4 q b kb) (ix2 κ r)
            - k0_pay73 tri (k0_pay23 (k0_pay4 q b kb)) (ix2 κ r) - s.1 (ix2 0 r)) := by
  unfold stepHead
  generalize k0_pay4 q b kb = z
  generalize k0_pay23 z = nk
  generalize k0_pay73 tri nk = ex
  pointwise [k0_pay107, k0_pay89, k0_pay41]

/-- The diagonal block's softplus, zero from the query on. -/
theorem diagNk_apply (κ r : Fin 256) :
    diagNk q b kb (ix2 κ r)
      = if κ.val < r.val then max (Ideal.log (1 + Ideal.exp (min (k0_pay4 q b kb (ix2 κ r)) ((30 : ℝ) : EReal))))
          (k0_pay4 q b kb (ix2 κ r)) else 0 := by
  unfold diagNk
  rw [show k0_pay315 q b kb = k0_pay4 q b kb from rfl]
  generalize k0_pay4 q b kb = z
  pointwise [k0_pay350, k0_pay260, k0_pay332]
  rw [ofBits_clamp, cmpi_slt_ofNat (by have := κ.isLt; norm_num; omega) (by have := r.isLt; norm_num; omega),
    select_decide]

theorem diag_fst (tri : FVec Ideal S256x256 .bf16) (r : Fin 256) :
    (diagHead tri q b kb vb).1 (ix2 0 r)
      = 0 + (k0_pay73 tri (diagNk q b kb) (ix2 0 r) + diagNk q b kb (ix2 0 r)) := by
  unfold diagHead
  rw [show k0_pay398 tri (diagNk q b kb) = k0_pay73 tri (diagNk q b kb) from rfl]
  generalize diagNk q b kb = nk
  generalize k0_pay73 tri nk = ex
  pointwise [k0_pay447, k0_pay283, k0_pay382]

theorem diag_snd (tri : FVec Ideal S256x256 .bf16) (d : Fin 64) (r : Fin 256) :
    (diagHead tri q b kb vb).2 (ix2 d r)
      = 0 + ∑ κ : Fin 256, vb (ix4 0 0 d κ) *
          (if κ.val < r.val then Ideal.exp (k0_pay4 q b kb (ix2 κ r) - diagNk q b kb (ix2 κ r)
            - k0_pay73 tri (diagNk q b kb) (ix2 κ r) - 0) else 0) := by
  unfold diagHead
  rw [show k0_pay398 tri (diagNk q b kb) = k0_pay73 tri (diagNk q b kb) from rfl,
    show k0_pay315 q b kb = k0_pay4 q b kb from rfl]
  generalize diagNk q b kb = nk
  generalize k0_pay4 q b kb = z
  generalize k0_pay73 tri nk = ex
  pointwise [k0_pay448, k0_pay284, k0_pay431, k0_pay260, k0_pay415, k0_pay283, k0_pay366]
  refine Finset.sum_congr rfl fun κ _ => ?_
  rw [cmpi_slt_ofNat (by have := κ.isLt; norm_num; omega) (by have := r.isLt; norm_num; omega),
    select_decide]
  split <;> simp

end Step

end

end Cert.KernelIdeal.Attn
-- ==== Proof.Sequence.lean ====
module
public import proofs.«01_k».proof.Proof.Maths
public import Idealize.ShloMosaic.Lib.Pointwise

/-! # The attention of a sequence

`logitOf` and `valueOf` are a query's logits and a head's values, over the arrays of the whole call;
`attendAt` is the attention they make. -/

namespace Cert.Attn

open Idealize.ShloMosaic

@[expose] public section

/-- The logits of query `t` of head `h`, over the keys. -/
noncomputable def logitOf (q k : (⟨3, ![8, 2048, 1024]⟩ : Shape).Idx → EReal)
    (b : (⟨1, ![16]⟩ : Shape).Idx → EReal) (n : Fin 8) (h : Fin 16) (t : Fin 2048) (s : ℕ) : EReal :=
  if hs : s < 2048 then
    (∑ d : Fin 64, q (ix3 n t ⟨64 * h.val + d.val, by omega⟩)
      * k (ix3 n ⟨s, hs⟩ ⟨64 * h.val + d.val, by omega⟩)) + b (ix1 h)
  else 0

/-- Lane `d` of head `h`'s values, over the keys. -/
noncomputable def valueOf (v : (⟨4, ![8, 8, 1024, 256]⟩ : Shape).Idx → EReal) (n : Fin 8) (h : Fin 16)
    (d : Fin 64) (s : ℕ) : EReal :=
  if hs : s < 2048 then
    v (ix4 n ⟨s / 256, by omega⟩ ⟨64 * h.val + d.val, by omega⟩ ⟨s % 256, Nat.mod_lt _ (by norm_num)⟩)
  else 0

/-- The attention of query `t` of head `h`, at lane `d`. -/
noncomputable def attendAt (q k : (⟨3, ![8, 2048, 1024]⟩ : Shape).Idx → EReal)
    (v : (⟨4, ![8, 8, 1024, 256]⟩ : Shape).Idx → EReal) (b : (⟨1, ![16]⟩ : Shape).Idx → EReal)
    (n : Fin 8) (h : Fin 16) (t : Fin 2048) (d : Fin 64) : EReal :=
  ∑ s ∈ Finset.Ico 0 2048, valueOf v n h d s * (weightAt (logitOf q k b n h t) t.val s : EReal)

end

end Cert.Attn
-- ==== Proof.PiecesDefs.lean ====
module
public import proofs.«01_k».proof.Proof.Heads

/-! # What one grid step stores

The step stores eight slabs of two heads each, and every head's rows are the head's own walk
(`headOut`): the diagonal block first, then all the blocks below it. -/

set_option maxRecDepth 16384

namespace Cert.KernelIdeal.Attn

open Cert.KernelIdeal Cert.KernelIdeal.Gen Idealize.ShloMosaic Idealize.ShloMosaic.Pipeline

@[expose] public section

variable {F : FTy → Type} [FloatOps F]

section Step

variable (i : grid0.Coords)
  {arg3 : Memref sig .tc .smem S16 .f32} (harg3 : arg3.IsWhole)
  {arg4 : Memref sig .tc .vmem S1x256x1024 .bf16} (harg4 : arg4.IsWhole)
  {arg5 : Memref sig .tc .vmem S1x2048x1024 .bf16} (harg5 : arg5.IsWhole)
  {arg6 : Memref sig .tc .vmem S1x8x1024x256 .bf16} (harg6 : arg6.IsWhole)
  (x0 : Vec F S16 .f32) (x1 : Vec F S1x256x1024 .bf16)
  (x2 : Vec F S1x2048x1024 .bf16) (x3 : Vec F S1x8x1024x256 .bf16)

/-- The slab of the query tile head `h` lies in. -/
noncomputable def slabQ (h : Fin 16) : Vec F S1x256x128 .bf16 :=
  View.readAt (Elt F) arg4.view
    (Rect.unit (s := S1x256x1024) ![0, 0, 128 * (h.val / 2)] S1x256x128.size
      (by revert h; decide +kernel)).toLoadRect (harg4.unread x1)

/-- The bias of head `h`. -/
noncomputable def headB (h : Fin 16) : Elt F .f32 :=
  View.readAt (Elt F) arg3.view
    (Rect.unit (s := S16) (k0_off1 i (BitVec.ofNat 32 (h.val / 2)) (BitVec.ofNat 32 (h.val % 2)))
      S1.size (k0_off1_inb i ⟨h.val / 2, by omega⟩ ⟨h.val % 2, by omega⟩)).toLoadRect
    (harg3.unread x0) (Shape.Idx.first (by change 0 < S1.numel; decide))

/-- The keys of the diagonal block, at head `h`'s slab. -/
noncomputable def diagK (h : Fin 16) : Vec F S1x256x128 .bf16 :=
  View.readAt (Elt F) arg5.view
    (Rect.unit (s := S1x2048x1024) (kOff (diagWord i) (h.val / 2)) S1x256x128.size
      (kOff_diag_inb i h)).toLoadRect (harg5.unread x2)

/-- The values of the diagonal block, of head `h`. -/
noncomputable def diagV (h : Fin 16) : Vec F S1x1x64x256 .bf16 :=
  View.readAt (Elt F) arg6.view
    (Rect.unit (s := S1x8x1024x256) (vOff (diagWord i) h.val) S1x1x64x256.size
      (vOff_diag_inb i h)).toLoadRect (harg6.unread x3)

/-- What head `h` accumulates: the diagonal block, then the blocks below it. -/
noncomputable def headOut (h : Fin 16) : FVec F S64x256 .f32 :=
  (walkHead i k0_pay261 (headQ h (slabQ harg4 x1 h)) (headB i harg3 x0 h)
    (harg5.unread x2) (harg6.unread x3) h
    (diagHead k0_pay261 (headQ h (slabQ harg4 x1 h)) (headB i harg3 x0 h)
      (diagK i harg5 x2 h) (diagV i harg6 x3 h)) (k0_t1_loop i).trips).2

/-- The eight stores, last first, of sixteen heads' rows. -/
noncomputable def outPieces (a : Fin 16 → FVec F S64x256 .f32) :
    List (View.Piece (Elt F) S1x256x1024 .bf16) :=
  [⟨Rect.unit ![0, 0, 896] S1x256x128.size inb_S1x256x1024_S1x256x128_0_0_896, k0_pay502 (a 14) (a 15)⟩,
   ⟨Rect.unit ![0, 0, 768] S1x256x128.size inb_S1x256x1024_S1x256x128_0_0_768, k0_pay502 (a 12) (a 13)⟩,
   ⟨Rect.unit ![0, 0, 640] S1x256x128.size inb_S1x256x1024_S1x256x128_0_0_640, k0_pay502 (a 10) (a 11)⟩,
   ⟨Rect.unit ![0, 0, 512] S1x256x128.size inb_S1x256x1024_S1x256x128_0_0_512, k0_pay502 (a 8) (a 9)⟩,
   ⟨Rect.unit ![0, 0, 384] S1x256x128.size inb_S1x256x1024_S1x256x128_0_0_384, k0_pay502 (a 6) (a 7)⟩,
   ⟨Rect.unit ![0, 0, 256] S1x256x128.size inb_S1x256x1024_S1x256x128_0_0_256, k0_pay502 (a 4) (a 5)⟩,
   ⟨Rect.unit ![0, 0, 128] S1x256x128.size inb_S1x256x1024_S1x256x128_0_0_128, k0_pay502 (a 2) (a 3)⟩,
   ⟨Rect.unit ![0, 0, 0] S1x256x128.size inb_S1x256x1024_S1x256x128_0_0_0, k0_pay502 (a 0) (a 1)⟩]

end Step

end

end Cert.KernelIdeal.Attn
-- ==== Proof.Walk.lean ====
module
public import proofs.«01_k».proof.Proof.Elements
public import proofs.«01_k».proof.Proof.Sequence
public import proofs.«01_k».proof.Proof.PiecesDefs

/-! # One head's walk is its attention

A head's walk over the blocks of one grid step leaves exactly the attention of `Sequence.lean`, at
every query whose logits before it are tame. -/

set_option maxRecDepth 16384

namespace Cert.Attn

open Idealize.ShloMosaic

@[expose] public section

/-- A sum over a slab's lanes that are zero outside one head is the sum over the head's lanes. -/
theorem sum_head_lanes (p : ℕ) (hp : p < 2) (f g : Fin 128 → EReal) :
    ∑ l : Fin 128, f l * (if l.val / 64 = p then g l else 0)
      = ∑ d : Fin 64, f ⟨64 * p + d.val, by omega⟩ * g ⟨64 * p + d.val, by omega⟩ := by
  rw [show (∑ l : Fin 128, f l * (if l.val / 64 = p then g l else 0))
    = ∑ l : Fin (64 + 64), f l * (if l.val / 64 = p then g l else 0) from rfl, Fin.sum_univ_add]
  obtain rfl | rfl : p = 0 ∨ p = 1 := by omega
  · rw [Finset.sum_eq_zero (s := Finset.univ) (f := fun i : Fin 64 => f (Fin.natAdd 64 i) * _) fun i _ => by
      rw [if_neg (by simp), mul_zero], add_zero]
    refine Finset.sum_congr rfl fun d _ => ?_
    rw [if_pos (by simp [Nat.div_eq_of_lt d.isLt])]
    congr 2 <;> simp [Fin.ext_iff]
  · rw [Finset.sum_eq_zero (s := Finset.univ) (f := fun i : Fin 64 => f (Fin.castAdd 64 i) * _) fun i _ => by
      rw [if_neg (by simp [Nat.div_eq_of_lt i.isLt]), mul_zero], zero_add]
    refine Finset.sum_congr rfl fun d _ => ?_
    rw [if_pos (by simp [Nat.add_div_left, Nat.div_eq_of_lt d.isLt])]
    congr 2

end

end Cert.Attn

namespace Cert.KernelIdeal.Attn

open Cert.KernelIdeal Cert.KernelIdeal.Gen Cert.Attn Idealize.ShloMosaic

@[expose] public section

section Loads

variable (i : grid0.Coords)
  {arg3 : Memref sig .tc .smem S16 .f32} (harg3 : arg3.IsWhole)
  {arg4 : Memref sig .tc .vmem S1x256x1024 .bf16} (harg4 : arg4.IsWhole)
  {arg5 : Memref sig .tc .vmem S1x2048x1024 .bf16} (harg5 : arg5.IsWhole)
  {arg6 : Memref sig .tc .vmem S1x8x1024x256 .bf16} (harg6 : arg6.IsWhole)
  (x0 : Vec Ideal S16 .f32) (x1 : Vec Ideal S1x256x1024 .bf16)
  (x2 : Vec Ideal S1x2048x1024 .bf16) (x3 : Vec Ideal S1x8x1024x256 .bf16)

theorem coord_lt (i : grid0.Coords) : (i 2).val < 8 := (i 2).isLt

theorem trip_lt (k : Fin (k0_t1_loop i).trips) : k.val < (i 2).val := by
  exact k.isLt.trans_eq (trips_t1 i)

theorem tripK_apply (k : Fin (k0_t1_loop i).trips) (h : Fin 16) (κ : Fin 256) (l : Fin 128) :
    tripK i (harg5.unread x2) k h (ix3 0 κ l)
      = x2 (ix3 0 ⟨256 * ((i 2).val - 1 - k.val) + κ.val, by have := coord_lt i; have := trip_lt i k; omega⟩
          ⟨128 * (h.val / 2) + l.val, by omega⟩) := by
  have e := kOff_trip i k ⟨h.val / 2, by omega⟩
  dsimp only at e
  unfold tripK
  rw [View.readAt_eq_ld, harg5.read_unread]
  pointwise
  simp [e]

theorem diagK_apply (h : Fin 16) (κ : Fin 256) (l : Fin 128) :
    diagK i harg5 x2 h (ix3 0 κ l)
      = x2 (ix3 0 ⟨256 * (i 2).val + κ.val, by have := coord_lt i; omega⟩
          ⟨128 * (h.val / 2) + l.val, by omega⟩) := by
  have e := kOff_diag i ⟨h.val / 2, by omega⟩
  dsimp only at e
  unfold diagK
  rw [View.readAt_eq_ld, harg5.read_unread]
  pointwise
  simp [e]

theorem tripV_apply (k : Fin (k0_t1_loop i).trips) (h : Fin 16) (d : Fin 64) (κ : Fin 256) :
    tripV i (harg6.unread x3) k h (ix4 0 0 d κ)
      = x3 (ix4 0 ⟨(i 2).val - 1 - k.val, by have := coord_lt i; omega⟩
          ⟨64 * h.val + d.val, by omega⟩ κ) := by
  have e := vOff_trip i k h
  unfold tripV
  rw [View.readAt_eq_ld, harg6.read_unread]
  pointwise
  simp [e]

theorem diagV_apply (h : Fin 16) (d : Fin 64) (κ : Fin 256) :
    diagV i harg6 x3 h (ix4 0 0 d κ)
      = x3 (ix4 0 ⟨(i 2).val, coord_lt i⟩ ⟨64 * h.val + d.val, by omega⟩ κ) := by
  have e := vOff_diag i h
  unfold diagV
  rw [View.readAt_eq_ld, harg6.read_unread]
  pointwise
  simp [e]

theorem slabQ_apply (h : Fin 16) (r : Fin 256) (l : Fin 128) :
    slabQ harg4 x1 h (ix3 0 r l) = x1 (ix3 0 r ⟨128 * (h.val / 2) + l.val, by omega⟩) := by
  unfold slabQ
  rw [View.readAt_eq_ld, harg4.read_unread]
  pointwise

theorem headB_apply (h : Fin 16) : headB i harg3 x0 h = x0 (ix1 h) := by
  have e := k0_off1_eq i ⟨h.val / 2, by omega⟩ ⟨h.val % 2, by omega⟩
  have h1 : (i 1).val = 0 := by have := (i 1).isLt; change _ < 1 at this; omega
  dsimp only at e
  unfold headB
  rw [View.readAt_eq_ld, harg3.read_unread]
  pointwise
  simp only [e, h1]
  congr 2
  apply Fin.ext
  simp only [Matrix.cons_val_zero]
  omega

end Loads

section Walk

variable (i : grid0.Coords)
  {arg3 : Memref sig .tc .smem S16 .f32} (harg3 : arg3.IsWhole)
  {arg4 : Memref sig .tc .vmem S1x256x1024 .bf16} (harg4 : arg4.IsWhole)
  {arg5 : Memref sig .tc .vmem S1x2048x1024 .bf16} (harg5 : arg5.IsWhole)
  {arg6 : Memref sig .tc .vmem S1x8x1024x256 .bf16} (harg6 : arg6.IsWhole)
  (x0 : Vec Ideal S16 .f32) (x1 : Vec Ideal S1x256x1024 .bf16)
  (x2 : Vec Ideal S1x2048x1024 .bf16) (x3 : Vec Ideal S1x8x1024x256 .bf16)
  (q k : (⟨3, ![8, 2048, 1024]⟩ : Shape).Idx → EReal) (v : (⟨4, ![8, 8, 1024, 256]⟩ : Shape).Idx → EReal)
  (b : (⟨1, ![16]⟩ : Shape).Idx → EReal) (n : Fin 8)
  (H0 : ∀ h, x0 (ix1 h) = b (ix1 h))
  (H1 : ∀ r l, x1 (ix3 0 r l) = q (ix3 n ⟨256 * (i 2).val + r.val, by have := coord_lt i; omega⟩ l))
  (H2 : ∀ s l, x2 (ix3 0 s l) = k (ix3 n s l))
  (H3 : ∀ j l κ, x3 (ix4 0 j l κ) = v (ix4 n j l κ))

/-- The tile's query `r`, as one of the whole sequence. -/
abbrev rowAt (i : grid0.Coords) (r : Fin 256) : Fin 2048 :=
  ⟨256 * (i 2).val + r.val, by have := coord_lt i; omega⟩

include H0 H1 H2 in
/-- A block's logits are the sequence's, whichever block's keys they are made of. -/
theorem logit_block (h : Fin 16) (r : Fin 256) (kb : Vec Ideal S1x256x128 .bf16) (lo : ℕ)
    (hlo : lo + 256 ≤ 2048)
    (hk : ∀ κ l, kb (ix3 0 κ l) = x2 (ix3 0 ⟨lo + κ.val, by omega⟩ ⟨128 * (h.val / 2) + l.val, by omega⟩))
    (κ : Fin 256) :
    k0_pay4 (headQ h (slabQ harg4 x1 h)) (headB i harg3 x0 h) kb (ix2 κ r)
      = logitOf q k b n h (rowAt i r) (lo + κ.val) := by
  rw [logit_apply, headB_apply, H0, logitOf, dif_pos (show lo + κ.val < 2048 by omega)]
  congr 1
  simp only [q_apply, slabQ_apply, H1, hk, H2]
  rw [sum_head_lanes _ (Nat.mod_lt _ (by norm_num))]
  refine Finset.sum_congr rfl fun d _ => ?_
  rw [mul_comm]
  have e : 128 * (h.val / 2) + (64 * (h.val % 2) + d.val) = 64 * h.val + d.val := by omega
  simp only [e]

include H3 in
/-- A block's values are the sequence's. -/
theorem value_block (h : Fin 16) (d : Fin 64) (vb : Vec Ideal S1x1x64x256 .bf16) (j : Fin 8)
    (hv : ∀ κ, vb (ix4 0 0 d κ) = x3 (ix4 0 j ⟨64 * h.val + d.val, by omega⟩ κ)) (κ : Fin 256) :
    vb (ix4 0 0 d κ) = valueOf v n h d (256 * j.val + κ.val) := by
  rw [hv, H3, valueOf, dif_pos (show 256 * j.val + κ.val < 2048 by omega)]
  congr 2 <;> simp only [Fin.ext_iff] <;> omega

include H0 H1 H2 H3 in
/-- The carry after the diagonal block and `m` blocks below it. -/
theorem walk_carry (h : Fin 16) (r : Fin 256) (ht : Tame (logitOf q k b n h (rowAt i r)) (rowAt i r).val)
    (m : ℕ) (hm : m ≤ (i 2).val) :
    (walkHead i k0_pay261 (headQ h (slabQ harg4 x1 h)) (headB i harg3 x0 h)
        (harg5.unread x2) (harg6.unread x3) h
        (diagHead k0_pay261 (headQ h (slabQ harg4 x1 h)) (headB i harg3 x0 h)
          (diagK i harg5 x2 h) (diagV i harg6 x3 h)) m).1 (ix2 0 r)
      = (lossFrom (logitOf q k b n h (rowAt i r)) (rowAt i r).val (256 * ((i 2).val - m)) : EReal)
    ∧ ∀ d : Fin 64, (walkHead i k0_pay261 (headQ h (slabQ harg4 x1 h)) (headB i harg3 x0 h)
        (harg5.unread x2) (harg6.unread x3) h
        (diagHead k0_pay261 (headQ h (slabQ harg4 x1 h)) (headB i harg3 x0 h)
          (diagK i harg5 x2 h) (diagV i harg6 x3 h)) m).2 (ix2 d r)
      = ∑ s ∈ Finset.Ico (256 * ((i 2).val - m)) 2048, valueOf v n h d s
          * (weightAt (logitOf q k b n h (rowAt i r)) (rowAt i r).val s : EReal) := by
  have h2 := coord_lt i
  have hr := r.isLt
  have hrow : (rowAt i r).val = 256 * (i 2).val + r.val := rfl
  induction m with
  | zero =>
    have hz := logit_block i harg3 harg4 x0 x1 x2 q k b n H0 H1 H2 h r (diagK i harg5 x2 h)
      (256 * (i 2).val) (by omega) (fun κ l => diagK_apply i harg5 x2 h κ l)
    have hnk : ∀ κ : Fin 256, diagNk (headQ h (slabQ harg4 x1 h)) (headB i harg3 x0 h)
        (diagK i harg5 x2 h) (ix2 κ r)
        = (lossAt (logitOf q k b n h (rowAt i r)) (rowAt i r).val (256 * (i 2).val + κ.val) : EReal) :=
      fun κ => by
        rw [diagNk_apply]
        exact diag_nk ht hrow.symm (fun κ => k0_pay4 (headQ h (slabQ harg4 x1 h)) (headB i harg3 x0 h)
          (diagK i harg5 x2 h) (ix2 κ r)) hz κ
    have hc : (0 : EReal) = (lossFrom (logitOf q k b n h (rowAt i r)) (rowAt i r).val
        (256 * (i 2).val + 256) : EReal) := by
      rw [lossFrom_of_le (by omega), EReal.coe_zero]
    simp only [walkHead, Nat.sub_zero]
    refine ⟨?_, fun d => ?_⟩
    · rw [diag_fst, later_apply]
      exact carry_block (by omega) (fun κ => diagNk (headQ h (slabQ harg4 x1 h)) (headB i harg3 x0 h)
        (diagK i harg5 x2 h) (ix2 κ r)) hnk hc
    · rw [diag_snd, ← output_block (lo := 256 * (i 2).val) (by omega) (fun s => valueOf v n h d s
          * (weightAt (logitOf q k b n h (rowAt i r)) (rowAt i r).val s : EReal)) (a := 0)
          (Finset.sum_eq_zero fun s hs => by
            rw [weightAt, if_neg (by have := (Finset.mem_Ico.mp hs).1; omega), EReal.coe_zero, mul_zero]).symm]
      congr 1
      refine Finset.sum_congr rfl fun κ _ => ?_
      rw [value_block x3 v n H3 h d _ ⟨(i 2).val, h2⟩ (diagV_apply i harg6 x3 h d)]
      congr 1
      split
      · next hκ =>
        rw [hz, later_apply]
        exact weight_block ht (by omega) (fun κ => diagNk (headQ h (slabQ harg4 x1 h)) (headB i harg3 x0 h)
          (diagK i harg5 x2 h) (ix2 κ r)) hnk hc κ (by omega)
      · rw [weightAt, if_neg (by omega), EReal.coe_zero]
  | succ m ih =>
    obtain ⟨ih1, ih2⟩ := ih (by omega)
    have hm' : m < (k0_t1_loop i).trips := (show m < (i 2).val from hm).trans_eq (trips_t1 i).symm
    have hlo : 256 * ((i 2).val - m) = 256 * ((i 2).val - (m + 1)) + 256 := by omega
    rw [hlo] at ih1
    simp only [hlo] at ih2
    have hsub : (i 2).val - 1 - m = (i 2).val - (m + 1) := by omega
    have hz := logit_block i harg3 harg4 x0 x1 x2 q k b n H0 H1 H2 h r
      (tripK i (harg5.unread x2) ⟨m, hm'⟩ h) (256 * ((i 2).val - (m + 1))) (by omega)
      (fun κ l => by rw [tripK_apply]; simp only [hsub])
    have hnk : ∀ κ : Fin 256, k0_pay23 (k0_pay4 (headQ h (slabQ harg4 x1 h)) (headB i harg3 x0 h)
        (tripK i (harg5.unread x2) ⟨m, hm'⟩ h)) (ix2 κ r)
        = (lossAt (logitOf q k b n h (rowAt i r)) (rowAt i r).val
            (256 * ((i 2).val - (m + 1)) + κ.val) : EReal) :=
      fun κ => by
        rw [soft_apply, hz]
        exact ht.soft (by omega)
    simp only [walkHead, dif_pos hm']
    refine ⟨?_, fun d => ?_⟩
    · rw [step_fst, later_apply]
      exact carry_block (by omega) (fun κ => k0_pay23 (k0_pay4 (headQ h (slabQ harg4 x1 h))
        (headB i harg3 x0 h) (tripK i (harg5.unread x2) ⟨m, hm'⟩ h)) (ix2 κ r)) hnk ih1
    · rw [step_snd, ← output_block (lo := 256 * ((i 2).val - (m + 1))) (by omega) (fun s => valueOf v n h d s
          * (weightAt (logitOf q k b n h (rowAt i r)) (rowAt i r).val s : EReal)) (ih2 d)]
      congr 1
      refine Finset.sum_congr rfl fun κ _ => ?_
      rw [value_block x3 v n H3 h d (tripV i (harg6.unread x3) ⟨m, hm'⟩ h) ⟨(i 2).val - (m + 1), by omega⟩
        (fun κ => by rw [tripV_apply]; simp only [hsub]), hz, later_apply]
      congr 1
      exact weight_block ht (by omega) (fun κ => k0_pay23 (k0_pay4 (headQ h (slabQ harg4 x1 h))
        (headB i harg3 x0 h) (tripK i (harg5.unread x2) ⟨m, hm'⟩ h)) (ix2 κ r)) hnk ih1 κ (by omega)

include H0 H1 H2 H3 in
/-- What a head stores is its attention. -/
theorem headOut_apply (h : Fin 16) (r : Fin 256) (d : Fin 64)
    (ht : Tame (logitOf q k b n h (rowAt i r)) (rowAt i r).val) :
    headOut i harg3 harg4 harg5 harg6 x0 x1 x2 x3 h (ix2 d r) = attendAt q k v b n h (rowAt i r) d := by
  have e := (walk_carry i harg3 harg4 harg5 harg6 x0 x1 x2 x3 q k v b n H0 H1 H2 H3 h r ht
    (k0_t1_loop i).trips (trips_t1 i).le).2 d
  rw [headOut, e, attendAt, trips_t1, Nat.sub_self, Nat.mul_zero]

end Walk

end

end Cert.KernelIdeal.Attn
-- ==== Proof.Blocks.lean ====
module
public import proofs.«01_k».proof.Proof.Walk
public import proofs.«01_k».proof.Proof.Gen.KernelIdeal.Value
public import Idealize.ShloMosaic.Lib.Pipeline.ValueKit

/-! # The grid's blocks are pieces of the whole arrays

What a grid step's windows hold, as elements of the call's arrays; and what the eight stores leave in
the output block, head by head. -/

set_option maxRecDepth 16384

namespace Cert.KernelIdeal.Attn

open Cert.KernelIdeal Cert.KernelIdeal.Gen Cert.Attn Idealize.ShloMosaic Idealize.ShloMosaic.Pipeline

@[expose] public section

/-! ## The stores -/

section Stores

variable (a : Fin 16 → FVec Ideal S64x256 .f32) (G : Fin 16 → Fin 256 → Fin 64 → EReal)

/-- What the output block holds when every head's rows are `G`. -/
noncomputable def blockOf (y : S1x256x1024.Idx) : EReal :=
  G ⟨(y 2).val / 64, by have : (y 2).val < 1024 := (y 2).isLt; omega⟩ (y 1)
    ⟨(y 2).val % 64, Nat.mod_lt _ (by norm_num)⟩

variable {a G} in
/-- One store, of two heads' rows. -/
theorem store_apply (ha : ∀ h d r, a h (ix2 d r) = G h r d) (k : Fin 8) (h₀ h₁ : Fin 16)
    (e₀ : h₀.val = 2 * k.val) (e₁ : h₁.val = 2 * k.val + 1) (r : Fin 256) (l : Fin 128) :
    k0_pay502 (a h₀) (a h₁) (ix3 0 r l)
      = blockOf G (ix3 0 r ⟨128 * k.val + l.val, by omega⟩) := by
  have hl := l.isLt
  rw [out_apply]
  change _ = G ⟨(128 * k.val + l.val) / 64, _⟩ r ⟨(128 * k.val + l.val) % 64, _⟩
  split <;> rw [ha] <;> congr 1 <;> simp only [Fin.ext_iff] <;> omega

variable {a G} in
/-- The same, at the place it is stored. -/
theorem store_piece (ha : ∀ h d r, a h (ix2 d r) = G h r d) (k : Fin 8) (h₀ h₁ : Fin 16)
    (e₀ : h₀.val = 2 * k.val) (e₁ : h₁.val = 2 * k.val + 1) (o : ℕ) (ho : o = 128 * k.val)
    (inb : ∀ b, (![0, 0, o] : Fin 3 → ℕ) b + S1x256x128.size b ≤ S1x256x1024.size b)
    (x : S1x256x128.Idx) :
    k0_pay502 (a h₀) (a h₁) x = blockOf G ((Rect.unit (s := S1x256x1024) ![0, 0, o] S1x256x128.size inb).emb x) := by
  subst ho
  obtain ⟨r, l, rfl⟩ : ∃ (r : Fin 256) (l : Fin 128), x = ix3 0 r l :=
    ⟨x 1, x 2, funext fun b => match b with
      | ⟨0, _⟩ => Subsingleton.elim (α := Fin 1) _ _
      | ⟨1, _⟩ => rfl
      | ⟨2, _⟩ => rfl⟩
  rw [store_apply ha k h₀ h₁ e₀ e₁]
  congr 1
  funext b
  match b with
  | ⟨0, _⟩ => rfl
  | ⟨1, _⟩ => exact Fin.ext (show r.val = 0 + 1 * r.val by omega)
  | ⟨2, _⟩ => exact Fin.ext (show 128 * k.val + l.val = 128 * k.val + 1 * l.val by omega)

variable {a G} in
/-- The eight stores together. -/
theorem canon_outPieces (ha : ∀ h d r, a h (ix2 d r) = G h r d) (y : S1x256x1024.Idx)
    (hy : ∃ p ∈ outPieces a, y ∈ p.1.set) : View.canon (outPieces a) y = blockOf G y := by
  refine View.canon_apply_of_pieces (blockOf G) (outPieces a) (fun p hp => ?_) y hy
  simp only [outPieces, List.mem_cons, List.not_mem_nil, or_false] at hp
  rcases hp with rfl | rfl | rfl | rfl | rfl | rfl | rfl | rfl
  · exact store_piece ha 7 14 15 rfl rfl 896 rfl inb_S1x256x1024_S1x256x128_0_0_896
  · exact store_piece ha 6 12 13 rfl rfl 768 rfl inb_S1x256x1024_S1x256x128_0_0_768
  · exact store_piece ha 5 10 11 rfl rfl 640 rfl inb_S1x256x1024_S1x256x128_0_0_640
  · exact store_piece ha 4 8 9 rfl rfl 512 rfl inb_S1x256x1024_S1x256x128_0_0_512
  · exact store_piece ha 3 6 7 rfl rfl 384 rfl inb_S1x256x1024_S1x256x128_0_0_384
  · exact store_piece ha 2 4 5 rfl rfl 256 rfl inb_S1x256x1024_S1x256x128_0_0_256
  · exact store_piece ha 1 2 3 rfl rfl 128 rfl inb_S1x256x1024_S1x256x128_0_0_128
  · exact store_piece ha 0 0 1 rfl rfl 0 rfl inb_S1x256x1024_S1x256x128_0_0_0

end Stores

/-! ## The windows -/

section Windows

theorem index0 : ∀ t : Fin cfg0.N, win0_0.index t = ![0] :=
  (by decide +kernel : ∀ t : Fin grid0.N, win0_0.index t = ![0])

theorem index1 : ∀ t : Fin cfg0.N, win0_1.index t
    = ![(grid0.coords t 0).val, (grid0.coords t 2).val, 0] :=
  (by decide +kernel : ∀ t : Fin grid0.N, win0_1.index t = ![(grid0.coords t 0).val, (grid0.coords t 2).val, 0])

theorem index2 : ∀ t : Fin cfg0.N, win0_2.index t = ![(grid0.coords t 0).val, 0, 0] :=
  (by decide +kernel : ∀ t : Fin grid0.N, win0_2.index t = ![(grid0.coords t 0).val, 0, 0])

theorem index3 : ∀ t : Fin cfg0.N, win0_3.index t = ![(grid0.coords t 0).val, 0, 0, 0] :=
  (by decide +kernel : ∀ t : Fin grid0.N, win0_3.index t = ![(grid0.coords t 0).val, 0, 0, 0])

theorem index4 : ∀ t : Fin cfg0.N, win0_4.index t
    = ![(grid0.coords t 0).val, (grid0.coords t 2).val, 0] :=
  (by decide +kernel : ∀ t : Fin grid0.N, win0_4.index t = ![(grid0.coords t 0).val, (grid0.coords t 2).val, 0])

variable (m : (ℓ : Loc nD τ sig) → Buf (Elt Ideal) ℓ) (c : Dev nD) (t : Fin cfg0.N)

/-- The batch row of a grid point. -/
abbrev batchAt (t : Fin cfg0.N) : Fin 8 := grid0.coords t 0

theorem bias_block (h : Fin 16) :
    iblk m c 0 t (ix1 h) = m (c.tc.loc main_arg3) (ix1 h) := by
  refine congrArg (m (c.tc.loc main_arg3)) (funext fun a => Fin.ext ?_)
  match a with
  | ⟨0, _⟩ =>
    blk_simp [index0]

theorem query_block (r : Fin 256) (l : Fin 1024) :
    iblk m c 1 t (ix3 0 r l)
      = m (c.tc.loc main_arg0) (ix3 (batchAt t) (rowAt (grid0.coords t) r) l) := by
  refine congrArg (m (c.tc.loc main_arg0)) (funext fun a => Fin.ext ?_)
  match a with
  | ⟨0, _⟩ =>
    blk_simp [index1]
    rfl
  | ⟨1, _⟩ =>
    blk_simp [index1]
    exact congrArg (· + r.val) (Nat.mul_comm _ _)
  | ⟨2, _⟩ =>
    blk_simp [index1]

theorem key_block (s : Fin 2048) (l : Fin 1024) :
    iblk m c 2 t (ix3 0 s l) = m (c.tc.loc main_arg1) (ix3 (batchAt t) s l) := by
  refine congrArg (m (c.tc.loc main_arg1)) (funext fun a => Fin.ext ?_)
  match a with
  | ⟨0, _⟩ =>
    blk_simp [index2]
    rfl
  | ⟨1, _⟩ =>
    blk_simp [index2]
  | ⟨2, _⟩ =>
    blk_simp [index2]

theorem value_window (j : Fin 8) (l : Fin 1024) (κ : Fin 256) :
    iblk m c 3 t (ix4 0 j l κ) = m (c.tc.loc main_arg2) (ix4 (batchAt t) j l κ) := by
  refine congrArg (m (c.tc.loc main_arg2)) (funext fun a => Fin.ext ?_)
  match a with
  | ⟨0, _⟩ =>
    blk_simp [index3]
    rfl
  | ⟨1, _⟩ =>
    blk_simp [index3]
  | ⟨2, _⟩ =>
    blk_simp [index3]
  | ⟨3, _⟩ =>
    blk_simp [index3]

end Windows

end

end Cert.KernelIdeal.Attn
-- ==== Proof.Pieces.lean ====
module
public import proofs.«01_k».proof.Proof.PiecesDefs

/-! # The stores of one grid step

After the run of one grid step the eight stores are the carry of its loops, head by head. -/

set_option maxRecDepth 16384

namespace Cert.KernelIdeal.Attn

open Cert.KernelIdeal Cert.KernelIdeal.Gen Idealize.ShloMosaic Idealize.ShloMosaic.Pipeline

@[expose] public section

variable {F : FTy → Type} [FloatOps F]

section Step

variable (i : grid0.Coords)
  {arg3 : Memref sig .tc .smem S16 .f32} (harg3 : arg3.IsWhole)
  {arg4 : Memref sig .tc .vmem S1x256x1024 .bf16} (harg4 : arg4.IsWhole)
  {arg5 : Memref sig .tc .vmem S1x2048x1024 .bf16} (harg5 : arg5.IsWhole)
  {arg6 : Memref sig .tc .vmem S1x8x1024x256 .bf16} (harg6 : arg6.IsWhole)
  (x0 : Vec F S16 .f32) (x1 : Vec F S1x256x1024 .bf16)
  (x2 : Vec F S1x2048x1024 .bf16) (x3 : Vec F S1x8x1024x256 .bf16)

/-- A walk is a function of its query, its bias and its start. -/
theorem walk_congr {h : Fin 16} {n : ℕ} {v : FVec F S256x256 .bf16}
    {q q' : FVec F S256x128 .bf16} {b b' : Elt F .f32} {s s' : HeadSt F}
    (X5 : BufTy.Contents (Elt F) arg5.view.ty) (X6 : BufTy.Contents (Elt F) arg6.view.ty)
    (hq : q = q') (hb : b = b') (hs : s = s') :
    walkHead i v q b X5 X6 h s n = walkHead i v q' b' X5 X6 h s' n := by
  rw [hq, hb, hs]

variable {c : Dev nD} {arg7 : Memref sig .tc .vmem S1x256x1024 .bf16} {harg7 : arg7.IsWhole}

set_option maxHeartbeats 0 in
/-- The run's stores are the carry's heads after both loops. -/
theorem run_carry : ∃ t : Carry F,
    (kernelRun0_A c i arg3 harg3 arg4 harg4 arg5 harg5 arg6 harg6 arg7 harg7 x0 x1 x2 x3).1
      = outPieces (fun h => (getHead t h).2) ∧ ∀ h, getHead t h
      = walkHead i k0_pay261 (headQ h (slabQ harg4 x1 h)) (headB i harg3 x0 h)
    (harg5.unread x2) (harg6.unread x3) h
    (diagHead k0_pay261 (headQ h (slabQ harg4 x1 h)) (headB i harg3 x0 h)
      (diagK i harg5 x2 h) (diagV i harg6 x3 h)) (k0_t1_loop i).trips := by
  refine ⟨?t, ?a, ?b⟩
  case a =>
    delta kernelRun0_A
    exact rfl
  case b =>
    rw [show Scf.trips (k0_t2_loop i).lb (k0_t2_loop i).ub (k0_t2_loop i).st = 0 from trips_t2 i]
    intro h
    refine (getHead_loop _ _ le_rfl h).trans ?_
    refine walk_congr i _ _ ?hq ?hb ?hs
    case hq =>
      revert h
      exact fun
      | 0 => rfl
      | 1 => rfl
      | 2 => rfl
      | 3 => rfl
      | 4 => rfl
      | 5 => rfl
      | 6 => rfl
      | 7 => rfl
      | 8 => rfl
      | 9 => rfl
      | 10 => rfl
      | 11 => rfl
      | 12 => rfl
      | 13 => rfl
      | 14 => rfl
      | 15 => rfl
      | ⟨n + 16, hn⟩ => absurd hn (by omega)
    case hb =>
      revert h
      exact fun
      | 0 => rfl
      | 1 => rfl
      | 2 => rfl
      | 3 => rfl
      | 4 => rfl
      | 5 => rfl
      | 6 => rfl
      | 7 => rfl
      | 8 => rfl
      | 9 => rfl
      | 10 => rfl
      | 11 => rfl
      | 12 => rfl
      | 13 => rfl
      | 14 => rfl
      | 15 => rfl
      | ⟨n + 16, hn⟩ => absurd hn (by omega)
    case hs =>
      revert h
      exact fun
      | 0 => rfl
      | 1 => rfl
      | 2 => rfl
      | 3 => rfl
      | 4 => rfl
      | 5 => rfl
      | 6 => rfl
      | 7 => rfl
      | 8 => rfl
      | 9 => rfl
      | 10 => rfl
      | 11 => rfl
      | 12 => rfl
      | 13 => rfl
      | 14 => rfl
      | 15 => rfl
      | ⟨n + 16, hn⟩ => absurd hn (by omega)

end Step

end

end Cert.KernelIdeal.Attn
-- ==== Proof.Final.lean ====
module
public import proofs.«01_k».proof.Proof.Blocks
public import proofs.«01_k».proof.Proof.Pieces

/-! # The kernel's result array -/

set_option maxRecDepth 16384

namespace Cert.KernelIdeal.Attn

open Cert.KernelIdeal Cert.KernelIdeal.Gen Cert.Attn Idealize.ShloMosaic Idealize.ShloMosaic.Pipeline

@[expose] public section

variable (m : (ℓ : Loc nD τ sig) → Buf (Elt Ideal) ℓ) (c : Dev nD)

/-- The attention of the call's arrays, as a whole array. -/
noncomputable def result : Buf (Elt Ideal) ((c.tc : Thread nD τ).loc main_v0) := fun (y : S8x2048x1024.Idx) =>
  attendAt (m (c.tc.loc main_arg0)) (m (c.tc.loc main_arg1)) (m (c.tc.loc main_arg2))
    (m (c.tc.loc main_arg3)) (y 0) ⟨(y 2).val / 64, by have : (y 2).val < 1024 := (y 2).isLt; omega⟩ (y 1)
    ⟨(y 2).val % 64, Nat.mod_lt _ (by norm_num)⟩

/-- The logits before every query are real and within the clamp. -/
def AllTame : Prop := ∀ (n : Fin 8) (h : Fin 16) (t : Fin 2048),
  Tame (logitOf (m (c.tc.loc main_arg0)) (m (c.tc.loc main_arg1)) (m (c.tc.loc main_arg3)) n h t) t.val

/-- Where a grid step's output element lies in the array. -/
theorem out_place (t : Fin cfg0.N) (y : S1x256x1024.Idx) :
    (((cfg0.win 4).blk t).view.emb y : S8x2048x1024.Idx)
      = ix3 (batchAt t) (rowAt (grid0.coords t) (y 1)) (y 2) := by
  refine funext fun a => Fin.ext ?_
  match a with
  | ⟨0, _⟩ =>
    have h0 : (y 0).val = 0 := Nat.lt_one_iff.mp (y 0).isLt
    blk_simp [index4]
  | ⟨1, _⟩ =>
    blk_simp [index4]
    exact congrArg (· + (y 1).val) (Nat.mul_comm _ _)
  | ⟨2, _⟩ =>
    blk_simp [index4]
    rfl

/-- What a grid step writes back is its block of the attention. -/
theorem flushed_eq (ht : AllTame m c) (t : Fin cfg0.N) :
    (dats m 0 c).flushed 4 t = ((cfg0.win 4).blk t).view.read (Elt Ideal) (result m c) := by
  rw [Value.flushed4_A]
  obtain ⟨w, h₁, h₂⟩ := run_carry (c := c) (arg7 := ms0_4 t) (harg7 := hs0_4 t)
    (grid0.coords t) (hs0_0 t) (hs0_1 t) (hs0_2 t) (hs0_3 t) (iblk m c 0 t) (iblk m c 1 t) (iblk m c 2 t)
    (iblk m c 3 t)
  have cov := cover0_A_4 c (grid0.coords t) (ms0_0 t) (hs0_0 t) (ms0_1 t) (hs0_1 t) (ms0_2 t)
    (hs0_2 t) (ms0_3 t) (hs0_3 t) (ms0_4 t) (hs0_4 t) (iblk m c 0 t) (iblk m c 1 t) (iblk m c 2 t)
    (iblk m c 3 t)
  unfold out0_A_4
  rw [View.read_writes_eq_canon _ _ _ cov]
  rw [h₁] at cov ⊢
  have e := canon_outPieces (a := fun h => (getHead w h).2)
    (G := fun h r d => attendAt (m (c.tc.loc main_arg0)) (m (c.tc.loc main_arg1)) (m (c.tc.loc main_arg2))
      (m (c.tc.loc main_arg3)) (batchAt t) h (rowAt (grid0.coords t) r) d)
    (fun h d r => by
      rw [h₂]
      exact headOut_apply (grid0.coords t) (hs0_0 t) (hs0_1 t) (hs0_2 t) (hs0_3 t) _ _ _ _ _ _ _ _ (batchAt t)
        (bias_block m c t) (query_block m c t) (key_block m c t) (value_window m c t) h r d (ht _ _ _))
  rw [funext fun y => e y (cov y)]
  funext y
  exact congrArg (result m c) (out_place t y) |>.symm

theorem coords_val : ∀ t : Fin cfg0.N,
    (grid0.coords t 0).val = t.val / 8 ∧ (grid0.coords t 2).val = t.val % 8 :=
  (by decide +kernel : ∀ t : Fin grid0.N,
    (grid0.coords t 0).val = t.val / 8 ∧ (grid0.coords t 2).val = t.val % 8)

/-- The grid's blocks tile the array. -/
theorem cover (y : S8x2048x1024.Idx) :
    ∃ t : Fin cfg0.N, (cfg0.win 4).flush t = true ∧ y ∈ ((cfg0.win 4).blk t).view.set := by
  have h0 : (y 0).val < 8 := (y 0).isLt
  have h1 : (y 1).val < 2048 := (y 1).isLt
  have h2 : (y 2).val < 1024 := (y 2).isLt
  refine ⟨⟨8 * (y 0).val + (y 1).val / 256, by rw [show cfg0.N = 64 from N_0]; omega⟩, flush0_4 _, ?_⟩
  have e := coords_val ⟨8 * (y 0).val + (y 1).val / 256, by rw [show cfg0.N = 64 from N_0]; omega⟩
  mem_blk [index4]
  rw [e.1, e.2]
  dsimp only
  omega

/-- So the result array ends holding the attention. -/
theorem final (ht : AllTame m c) : (dats m 0 c).arrAt 4 cfg0.N = result m c :=
  (dats m 0 c).arrAt_eq_of_cover 4 (result m c) (fun t _ => flushed_eq m c ht t) cover

end

end Cert.KernelIdeal.Attn
-- ==== Proof.Precondition.lean ====
module
public import proofs.«01_k».proof.Pre_logits_in_range
public import proofs.«01_k».proof.Proof.Sequence
public import Idealize.ShloMosaic.Lib.WordCmp
public import Idealize.ShloMosaic.Lib.Decide

/-! # What the precondition says

Where it is all ones, the logits of every key before every query are real and at most thirty. -/

set_option maxRecDepth 16384

namespace Cert.Pre_logits_in_range

open Cert.Attn Idealize.ShloMosaic Idealize.ShloMosaic.WordCmp

@[expose] public section

instance facts : Facts where
  bitsLt_bf16_f32 := by decide
  shapeCasts_S8x2048x1024_S8x2048x16x64 := by decide
  bcast_S16_S1x16x1x1_1 := by decide
  bcast_S1x16x1x1_S8x16x2048x2048_0_1_2_3 := by decide
  bcast_S2048_S1x2048_1 := by decide
  bcast_S2048_S2048x1_0 := by decide
  bcast_S1x2048_S2048x2048_0_1 := by decide
  bcast_S2048x1_S2048x2048_0_1 := by decide
  bcast_S_S8x16x2048x2048 := by decide
  bcast_S2048x2048_S1x1x2048x2048_2_3 := by decide
  bcast_S1x1x2048x2048_S8x16x2048x2048_0_1_2_3 := by decide
  dot_S8x2048x16x64_S8x2048x16x64_S8x16x2048x2048_3_3_1_1_02_02_wf := by decide

theorem bits_bot : Ideal.ofBits .f32 0xFF800000#32 = ⊥ := by
  simp [Ideal.ofBits, Ideal.ieee]

theorem bits_thirty : Ideal.ofBits .f32 0x41F00000#32 = ((30 : ℝ) : EReal) := by
  simp [Ideal.ofBits, Ideal.ieee, -EReal.coe_mul]; norm_num

theorem bits_later : ∀ p q r : Bool,
    IntOp.ori (BitVec.ofBool p) (IntOp.andi (BitVec.ofBool q) (BitVec.ofBool r)) = 1#1 →
      p = false → q = true ∧ r = true := by
  decide

/-- Where the precondition is one, the query's logits are tame. -/
theorem tame_of_ones (x0 x1 : FVec Ideal S8x2048x1024 .bf16) (x2 : FVec Ideal S8x8x1024x256 .bf16)
    (x3 : FVec Ideal S16 .f32) (hones : ∀ i, fn x0 x1 x2 x3 i = 1#1) (n : Fin 8) (h : Fin 16)
    (t : Fin 2048) : Tame (logitOf x0 x1 x3 n h t) t.val := by
  intro s hs
  have hs' : s < 2048 := by omega
  have e := hones (ix4 n h t ⟨s, hs'⟩)
  pointwise [fn] at e
  rw [cmpi_sge_ofNat (by norm_num; omega) (by norm_num; omega), bits_bot, bits_thirty] at e
  simp only [Nat.mul_comm h.val 64] at e
  rw [logitOf, dif_pos hs']
  obtain ⟨e₁, e₂⟩ := bits_later _ _ _ e (decide_eq_false (by omega))
  exact ⟨of_decide_eq_true e₁, of_decide_eq_true e₂⟩

end

end Cert.Pre_logits_in_range
-- ==== Proof.Reference.lean ====
module
public import proofs.«01_k».proof.Proof.Sequence
public import proofs.«01_k».proof.Proof.Gen.ReferenceIdeal.Read
public import Idealize.ShloMosaic.Lib.WordCmp

/-! # The reference, read at one element -/

set_option maxRecDepth 16384

namespace Cert.ReferenceIdeal.Attn

open Cert.ReferenceIdeal Cert.ReferenceIdeal.Read Cert.Attn Idealize.ShloMosaic Idealize.ShloMosaic.WordCmp

@[expose] public section

variable (x0 x1 : (⟨S8x2048x1024, .bf16⟩ : BufTy).Contents (Elt Ideal))
  (x2 : (⟨S8x8x1024x256, .bf16⟩ : BufTy).Contents (Elt Ideal))
  (x3 : (⟨S16, .f32⟩ : BufTy).Contents (Elt Ideal))

/-- Splitting a row's lanes into heads. -/
theorem idx_heads (n : Fin 8) (s : Fin 2048) (h : Fin 16) (d : Fin 64) :
    idx_main_v1 (ix4 n s h d) = ix3 n s ⟨64 * h.val + d.val, by omega⟩ := by
  have := n.isLt; have := s.isLt; have := h.isLt; have := d.isLt
  funext a
  match a with
  | ⟨0, _⟩ =>
    refine Fin.ext ?_
    change (((n.val * 2048 + s.val) * 16 + h.val) * 64 + d.val) / 2097152 = n.val
    omega
  | ⟨1, _⟩ =>
    refine Fin.ext ?_
    change (((n.val * 2048 + s.val) * 16 + h.val) * 64 + d.val) / 1024 % 2048 = s.val
    omega
  | ⟨2, _⟩ =>
    refine Fin.ext ?_
    change (((n.val * 2048 + s.val) * 16 + h.val) * 64 + d.val) % 1024 = 64 * h.val + d.val
    omega

/-- Joining the heads' lanes back into a row. -/
theorem idx_row (n : Fin 8) (s : Fin 2048) (h : Fin 16) (d : Fin 64) :
    idx_main_v27 (ix3 n s ⟨64 * h.val + d.val, by omega⟩) = ix4 n s h d := by
  have := n.isLt; have := s.isLt; have := h.isLt; have := d.isLt
  funext a
  match a with
  | ⟨0, _⟩ =>
    refine Fin.ext ?_
    change ((n.val * 2048 + s.val) * 1024 + (64 * h.val + d.val)) / 2097152 = n.val
    omega
  | ⟨1, _⟩ =>
    refine Fin.ext ?_
    change ((n.val * 2048 + s.val) * 1024 + (64 * h.val + d.val)) / 1024 % 2048 = s.val
    omega
  | ⟨2, _⟩ =>
    refine Fin.ext ?_
    change ((n.val * 2048 + s.val) * 1024 + (64 * h.val + d.val)) / 64 % 16 = h.val
    omega
  | ⟨3, _⟩ =>
    refine Fin.ext ?_
    change ((n.val * 2048 + s.val) * 1024 + (64 * h.val + d.val)) % 64 = d.val
    omega

/-- Where a head's value lies among the blocks of values. -/
theorem idx_values (n : Fin 8) (s : Fin 2048) (h : Fin 16) (d : Fin 64) :
    idx_main_v5 (idx_main_v6 (ix4 n s h d))
      = ix4 n ⟨s.val / 256, by omega⟩ ⟨64 * h.val + d.val, by omega⟩
          ⟨s.val % 256, Nat.mod_lt _ (by norm_num)⟩ := by
  have := n.isLt; have := s.isLt; have := h.isLt; have := d.isLt
  funext a
  match a with
  | ⟨0, _⟩ =>
    refine Fin.ext ?_
    change (((n.val * 2048 + s.val) * 16 + h.val) * 64 + d.val) / 2097152 = n.val
    omega
  | ⟨1, _⟩ =>
    refine Fin.ext ?_
    change (((n.val * 2048 + s.val) * 16 + h.val) * 64 + d.val) / 262144 % 8 = s.val / 256
    omega
  | ⟨2, _⟩ =>
    refine Fin.ext ?_
    change (((n.val * 2048 + s.val) * 16 + h.val) * 64 + d.val) % 1024 = 64 * h.val + d.val
    omega
  | ⟨3, _⟩ =>
    refine Fin.ext ?_
    change (((n.val * 2048 + s.val) * 16 + h.val) * 64 + d.val) / 1024 % 256 = s.val % 256
    omega

theorem lidx_logit (n : Fin 8) (h : Fin 16) (t s : Fin 2048) (d : Fin 64) :
    lidx_main_v7 (ix4 n h t s) d = ix4 n t h d :=
  funext fun a => match a with | ⟨0, _⟩ => rfl | ⟨1, _⟩ => rfl | ⟨2, _⟩ => rfl | ⟨3, _⟩ => rfl

theorem ridx_logit (n : Fin 8) (h : Fin 16) (t s : Fin 2048) (d : Fin 64) :
    ridx_main_v7 (ix4 n h t s) d = ix4 n s h d :=
  funext fun a => match a with | ⟨0, _⟩ => rfl | ⟨1, _⟩ => rfl | ⟨2, _⟩ => rfl | ⟨3, _⟩ => rfl

theorem idx_bias (n : Fin 8) (h : Fin 16) (t s : Fin 2048) :
    idx_main_v8 (idx_main_v9 (ix4 n h t s)) = ix1 h :=
  funext fun a => match a with | ⟨0, _⟩ => rfl

theorem lidx_out (n : Fin 8) (h : Fin 16) (t : Fin 2048) (d : Fin 64) (s : Fin 2048) :
    lidx_main_v25 (idx_main_v26 (ix4 n t h d)) s = ix4 n s h d :=
  funext fun a => match a with | ⟨0, _⟩ => rfl | ⟨1, _⟩ => rfl | ⟨2, _⟩ => rfl | ⟨3, _⟩ => rfl

theorem ridx_out (n : Fin 8) (h : Fin 16) (t : Fin 2048) (d : Fin 64) (s : Fin 2048) :
    ridx_main_v25 (idx_main_v26 (ix4 n t h d)) s = ix4 n h t s :=
  funext fun a => match a with | ⟨0, _⟩ => rfl | ⟨1, _⟩ => rfl | ⟨2, _⟩ => rfl | ⟨3, _⟩ => rfl

theorem logit_ref (n : Fin 8) (h : Fin 16) (t s : Fin 2048) :
    val_main_v10 (F := Ideal) x0 x1 x3 (ix4 n h t s) = logitOf x0 x1 x3 n h t s.val := by
  rw [val_main_v10_apply, val_main_v7_apply, val_main_v9_apply, val_main_v8_apply, logitOf,
    dif_pos s.isLt, idx_bias]
  have e : ∀ d : Fin 64, val_main_v1 (F := Ideal) x0 (lidx_main_v7 (ix4 n h t s) d)
      * val_main_v3 (F := Ideal) x1 (ridx_main_v7 (ix4 n h t s) d)
      = x0 (ix3 n t ⟨64 * h.val + d.val, by omega⟩) * x1 (ix3 n s ⟨64 * h.val + d.val, by omega⟩) :=
    fun d => by
      rw [val_main_v1_apply, val_main_v3_apply, lidx_logit, ridx_logit, idx_heads,
        show idx_main_v3 = idx_main_v1 from rfl, idx_heads]
      rfl
  rw [Finset.sum_congr rfl fun d _ => e d]
  rfl

theorem sigmoid_ref (i) :
    val_main_v17 (F := Ideal) x0 x1 x3 i
      = -(max (-(val_main_v10 (F := Ideal) x0 x1 x3 i)) 0 +
         Ideal.log1p (Ideal.exp (-(max (-(val_main_v10 (F := Ideal) x0 x1 x3 i) - 0)
          (-(-(val_main_v10 (F := Ideal) x0 x1 x3 i) - 0)))))) := by
  have hz : (FloatOps.ofBits .f32 0x00000000#32 : Ideal .f32) = (0 : EReal) := by
    change Ideal.ofBits .f32 0x00000000#32 = 0
    simp [Ideal.ofBits, Ideal.ieee]
  rw [val_main_v17_apply, val_main_call0_v1_apply, val_main_call0_call0_v11_apply,
    val_main_call0_call0_v10_apply, val_main_call0_call0_v9_apply, val_main_call0_call0_v8_apply,
    val_main_call0_call0_v7_apply, val_main_call0_call0_v4_apply, val_main_call0_call0_v3_apply,
    val_main_call0_call0_v2_apply, val_main_call0_call0_v1_apply, val_main_call0_call0_v0_apply,
    val_main_call0_call0_cst_apply, hz, val_main_call0_v0_apply]
  generalize val_main_v10 (F := Ideal) x0 x1 x3 i = z
  generalize val_main_call0_call0_v6 (F := Ideal) x0 x1 x3 i = j
  change -(Scalar.select (BitVec.ofBool (decide (-z - 0 ≠ -z - 0))) j _) = _
  rw [decide_eq_false (fun hne => hne rfl)]
  rfl

theorem mask_ref (n : Fin 8) (h : Fin 16) (t s : Fin 2048) :
    val_main_call1_v1 (F := Ideal) (ix4 n h t s) = BitVec.ofBool (decide (s.val < t.val)) := by
  pointwise [val_main_call1_v1, val_main_v16, val_main_v15, val_main_v14, val_main_v13, val_main_v12, val_main_v11]
  rw [cmpi_slt_ofNat (by have := s.isLt; norm_num; omega) (by have := t.isLt; norm_num; omega)]

theorem value_ref (n : Fin 8) (h : Fin 16) (d : Fin 64) (s : Fin 2048) :
    val_main_v6 (F := Ideal) x2 (ix4 n s h d) = valueOf x2 n h d s.val := by
  rw [val_main_v6_apply, val_main_v5_apply, val_main_v4_apply, valueOf, dif_pos s.isLt, idx_values]
  rfl

/-- A left fold of sums is a sum. -/
theorem foldl_sum {α : Type} (l : List α) (g : α → EReal) (v : EReal) :
    l.foldl (fun r a => r + g a) v = v + (l.map g).sum := by
  induction l generalizing v with
  | nil => simp
  | cons a l ih => rw [List.foldl_cons, ih, List.map_cons, List.sum_cons, add_assoc]

/-- The shape of the window of the running sum. -/
abbrev Span : Shape := ⟨4, ![1, 1, 1, 2048]⟩

/-- A position of the window is its last coordinate. -/
def spanEquiv : Fin 2048 ≃ Span.Idx where
  toFun w := ix4 0 0 0 w
  invFun y := y 3
  left_inv _ := rfl
  right_inv y := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl

/-- The reference's running sum from the right: the sum of what lies at or after the key. -/
theorem window_sum (x : FVec Ideal S8x16x2048x2048 .f32) (init : FVec Ideal S_ .f32)
    (hinit : ∀ i, init i = (0 : EReal)) (h : S8x16x2048x2048.ReduceWindows ![1, 1, 1, 2048] ![1, 1, 1, 1]
      ![0, 0, 0, 0] ![0, 0, 0, 2047] S8x16x2048x2048) (hu : 0 < S_.numel)
    (n : Fin 8) (g : Fin 16) (t s : Fin 2048) (f : ℕ → EReal)
    (hf : ∀ s' : Fin 2048, x (ix4 n g t s') = f s'.val) :
    Host.reduceWindowAdd ![1, 1, 1, 2048] ![1, 1, 1, 1] ![0, 0, 0, 0] ![0, 0, 0, 2047] x init h hu (ix4 n g t s)
      = ∑ w : Fin 2048, if s.val + w.val < 2048 then f (s.val + w.val) else 0 := by
  unfold Host.reduceWindowAdd
  rw [hinit, Ideal.hostReduceWindowAdd_def]
  unfold Ideal.hostReduceWindowAdd
  unfold Host.reduceWindow
  refine (foldl_sum _ _ _).trans ?_
  rw [zero_add, ← Fin.sum_univ_def]
  have h0 := n.isLt
  have h1 := g.isLt
  have h2 := t.isLt
  refine (Finset.sum_congr rfl fun i _ => ?_).trans
    ((Equiv.sum_comp Span.rowMajor.symm (fun y : Span.Idx => if s.val + (y 3).val < 2048 then
      f (s.val + (y 3).val) else 0)).trans (Equiv.sum_comp spanEquiv _).symm)
  have y0 : (Span.rowMajor.symm i 0).val < 1 := (Span.rowMajor.symm i 0).isLt
  have y1 : (Span.rowMajor.symm i 1).val < 1 := (Span.rowMajor.symm i 1).isLt
  have y2 : (Span.rowMajor.symm i 2).val < 1 := (Span.rowMajor.symm i 2).isLt
  by_cases hw : s.val + (Span.rowMajor.symm i 3).val < 2048
  · rw [if_pos hw, dif_pos (fun a => by
      match a with
      | ⟨0, _⟩ =>
        change 0 ≤ n.val * 1 + (Span.rowMajor.symm i 0).val ∧ n.val * 1 + (Span.rowMajor.symm i 0).val - 0 < 8
        omega
      | ⟨1, _⟩ =>
        change 0 ≤ g.val * 1 + (Span.rowMajor.symm i 1).val ∧ g.val * 1 + (Span.rowMajor.symm i 1).val - 0 < 16
        omega
      | ⟨2, _⟩ =>
        change 0 ≤ t.val * 1 + (Span.rowMajor.symm i 2).val ∧ t.val * 1 + (Span.rowMajor.symm i 2).val - 0 < 2048
        omega
      | ⟨3, _⟩ =>
        change 0 ≤ s.val * 1 + (Span.rowMajor.symm i 3).val ∧ s.val * 1 + (Span.rowMajor.symm i 3).val - 0 < 2048
        omega)]
    refine (congrArg x (funext fun a => ?_)).trans (hf ⟨s.val + (Span.rowMajor.symm i 3).val, hw⟩)
    match a with
    | ⟨0, _⟩ => exact Fin.ext (show n.val * 1 + (Span.rowMajor.symm i 0).val - 0 = n.val by omega)
    | ⟨1, _⟩ => exact Fin.ext (show g.val * 1 + (Span.rowMajor.symm i 1).val - 0 = g.val by omega)
    | ⟨2, _⟩ => exact Fin.ext (show t.val * 1 + (Span.rowMajor.symm i 2).val - 0 = t.val by omega)
    | ⟨3, _⟩ => exact Fin.ext (show s.val * 1 + (Span.rowMajor.symm i 3).val - 0
        = s.val + (Span.rowMajor.symm i 3).val by omega)
  · rw [if_neg hw, dif_neg fun hin => hw (by
      have h3 := (hin 3).2
      change s.val * 1 + (Span.rowMajor.symm i 3).val - 0 < 2048 at h3
      omega)]

section Row

variable {x0 x1 x3} {n : Fin 8} {h : Fin 16} {t : Fin 2048}
  (ht : Tame (logitOf x0 x1 x3 n h t) t.val)

include ht in
/-- The log-sigmoid of a logit before the query. -/
theorem beta_ref {s : Fin 2048} (hs : s.val < t.val) :
    val_main_v17 (F := Ideal) x0 x1 x3 (ix4 n h t s)
      = (((logitOf x0 x1 x3 n h t s.val).toReal - sp (logitOf x0 x1 x3 n h t s.val).toReal : ℝ) : EReal) := by
  rw [sigmoid_ref, logit_ref, ← ht.coe hs, log_sigmoid, EReal.toReal_coe]

theorem zero_bits : (FloatOps.ofBits .f32 0x00000000#32 : Ideal .f32) = (0 : EReal) := by
  change Ideal.ofBits .f32 0x00000000#32 = 0
  simp [Ideal.ofBits, Ideal.ieee]

include ht in
/-- The masked log of what a key leaves of the stick. -/
theorem keep_ref (s : Fin 2048) :
    val_main_v19 (F := Ideal) x0 x1 x3 (ix4 n h t s)
      = ((-(lossAt (logitOf x0 x1 x3 n h t) t.val s.val) : ℝ) : EReal) := by
  rw [val_main_v19_apply, mask_ref, select_decide]
  split
  · next hs =>
    rw [val_main_v18_apply, beta_ref ht hs, logit_ref]
    change ((_ : ℝ) : EReal) - logitOf x0 x1 x3 n h t s.val = _
    rw [← ht.coe hs, ← EReal.coe_sub, EReal.toReal_coe, lossAt, if_pos hs]
    congr 1
    ring
  · next hs =>
    rw [val_main_call1_v2_apply, val_main_call1_v0_apply, val_main_cst_apply, zero_bits,
      lossAt_of_le (by omega), neg_zero, EReal.coe_zero]

include ht in
/-- The reference's weight of a key. -/
theorem weight_ref (s : Fin 2048) :
    val_main_v24 (F := Ideal) x0 x1 x3 (ix4 n h t s)
      = (weightAt (logitOf x0 x1 x3 n h t) t.val s.val : EReal) := by
  rw [val_main_v24_apply, show val_main_call3_v1 (F := Ideal) = val_main_call1_v1 (F := Ideal) from rfl,
    mask_ref, select_decide]
  split
  · next hs =>
    rw [val_main_v23_apply, val_main_v22_apply, val_main_v21_apply, beta_ref ht hs, keep_ref ht]
    have e : val_main_v20 (F := Ideal) x0 x1 x3 (ix4 n h t s)
        = ((-(lossFrom (logitOf x0 x1 x3 n h t) t.val s.val) : ℝ) : EReal) := by
      unfold val_main_v20
      rw [window_sum _ _ (fun i => by rw [val_main_call2_v0_apply]; exact zero_bits) _ _ n h t s
        (fun s' => ((-(lossAt (logitOf x0 x1 x3 n h t) t.val s') : ℝ) : EReal)) (keep_ref ht)]
      exact suffix_sum s _ fun s' _ => rfl
    rw [e]
    exact weight_whole ht hs (by omega)
  · next hs =>
    rw [val_main_call3_v2_apply, val_main_call3_v0_apply, val_main_cst_0_apply, zero_bits,
      weightAt, if_neg hs, EReal.coe_zero]

include ht in
/-- An element of the reference's result is the attention there. -/
theorem attend_ref (d : Fin 64) :
    val_main_v28 (F := Ideal) x0 x1 x2 x3 (ix3 n t ⟨64 * h.val + d.val, by omega⟩)
      = attendAt x0 x1 x2 x3 n h t d := by
  rw [val_main_v28_apply, val_main_v27_apply, idx_row, val_main_v26_apply, val_main_v25_apply]
  change (∑ k : Fin 2048, _) = _
  have e : ∀ s : Fin 2048, val_main_v6 (F := Ideal) x2 (lidx_main_v25 (idx_main_v26 (ix4 n t h d)) s)
      * val_main_v24 (F := Ideal) x0 x1 x3 (ridx_main_v25 (idx_main_v26 (ix4 n t h d)) s)
      = valueOf x2 n h d s.val * (weightAt (logitOf x0 x1 x3 n h t) t.val s.val : EReal) := fun s => by
    rw [lidx_out, ridx_out, value_ref, weight_ref ht]
  rw [Finset.sum_congr rfl fun s _ => e s, attendAt,
    Fin.sum_univ_eq_sum_range (fun s => valueOf x2 n h d s
      * (weightAt (logitOf x0 x1 x3 n h t) t.val s : EReal)) 2048, Finset.range_eq_Ico]

end Row

end

end Cert.ReferenceIdeal.Attn
-- ==== Proof.Claims.lean ====
module
public import proofs.«01_k».proof.Defs
public import proofs.«01_k».proof.Proof.Final
public import proofs.«01_k».proof.Proof.Precondition
public import proofs.«01_k».proof.Proof.Reference

/-! # The value claim: the kernel's result is the reference's -/

set_option maxRecDepth 16384

namespace Cert.Proof.Attention

open Cert.Attn Idealize.ShloMosaic Idealize.SL.Sem

@[expose] public section

/-- The reference's result array is the attention of its arguments. -/
theorem reference_eq (x0 x1 : FVec Ideal Cert.ReferenceIdeal.S8x2048x1024 .bf16)
    (x2 : FVec Ideal Cert.ReferenceIdeal.S8x8x1024x256 .bf16) (x3 : FVec Ideal Cert.ReferenceIdeal.S16 .f32)
    (ht : ∀ (n : Fin 8) (h : Fin 16) (t : Fin 2048), Tame (logitOf x0 x1 x3 n h t) t.val)
    (y : Cert.ReferenceIdeal.S8x2048x1024.Idx) :
    Cert.ReferenceIdeal.Read.val_main_v28 (F := Ideal) x0 x1 x2 x3 y
      = attendAt x0 x1 x2 x3 (y 0) ⟨(y 2).val / 64, by have : (y 2).val < 1024 := (y 2).isLt; omega⟩ (y 1)
          ⟨(y 2).val % 64, Nat.mod_lt _ (by norm_num)⟩ := by
  have h2 : (y 2).val < 1024 := (y 2).isLt
  have hy : y = ix3 (y 0 : Fin 8) (y 1 : Fin 2048) (⟨64 * ((y 2).val / 64) + (y 2).val % 64, by omega⟩ : Fin 1024) := by
    funext b
    match b with
    | ⟨0, _⟩ => rfl
    | ⟨1, _⟩ => rfl
    | ⟨2, _⟩ => exact Fin.ext (show (y 2).val = 64 * ((y 2).val / 64) + (y 2).val % 64 by omega)
  refine (congrArg _ hy).trans ?_
  exact Cert.ReferenceIdeal.Attn.attend_ref (x0 := x0) (x1 := x1) (x2 := x2) (x3 := x3) (n := y 0)
    (h := ⟨(y 2).val / 64, by omega⟩) (t := y 1) (ht _ _ _) ⟨(y 2).val % 64, Nat.mod_lt _ (by norm_num)⟩

/-- Where the logits are in range, kernel and reference compute the same array. -/
theorem algebraic : Cert.algebraic_KernelIdeal_ReferenceIdeal_pre_logits_in_range := by
  intro m g m' g' hpre hagree
  have ht : ∀ c, Cert.KernelIdeal.Attn.AllTame m c := fun c n h t =>
    Cert.Pre_logits_in_range.tame_of_ones _ _ _ _ (fun i => congrFun (hpre c) i) n h t
  refine ⟨fun c => Cert.KernelIdeal.Attn.result m c, ?_, ?_⟩
  · exact (θ_run Cert.KernelIdeal.defs _ _).mono
      (fun _ h c => ⟨(h c).1.trans (Cert.KernelIdeal.Attn.final m c (ht c)), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v28_eq, (hagree c).1, (hagree c).2.1, (hagree c).2.2.1,
      (hagree c).2.2.2]
    exact funext fun y => reference_eq _ _ _ _ (ht c) y

end

end Cert.Proof.Attention
-- ==== Proof.Rows.lean ====
module
public import Idealize.ShloMosaic.PureOps.Ideal
public import Idealize.ShloMosaic.Lib.Pointwise

/-! # The maths of one row of the layer

A token is one row of 1024 numbers. `feed` is the squared-relu feed-forward of a row, as one sum over
the hidden units; `feed_cut` says that it may be taken in eight cuts of 512 hidden units, as the
kernel does. `norm` is the layer norm of a row. -/

namespace Cert.Rows

open Idealize.ShloMosaic

@[expose] public section

/-- The squared-relu feed-forward of a row `h` with `n` hidden units, at output `d`. -/
noncomputable def feed {n : ℕ} (h : Fin 1024 → EReal) (up : Fin 1024 → Fin n → EReal)
    (down : Fin n → Fin 1024 → EReal) (d : Fin 1024) : EReal :=
  ∑ f : Fin n, max (∑ k, h k * up k f) 0 * max (∑ k, h k * up k f) 0 * down f d

/-- A sum over 4096 in eight cuts of 512. -/
theorem sum_cut (g : Fin 4096 → EReal) :
    ∑ f, g f = ∑ c : Fin 8, ∑ f : Fin 512, g ⟨512 * c.val + f.val, by omega⟩ := by
  rw [← Fintype.sum_prod_type']
  refine (Equiv.sum_comp (finProdFinEquiv (m := 8) (n := 512)) (fun f => g (Fin.cast (by norm_num) f))).symm.trans ?_
  refine Fintype.sum_congr _ _ fun p => congrArg g (Fin.ext ?_)
  simp [finProdFinEquiv, add_comm]

/-- The hidden units of one cut. -/
noncomputable def cut (h : Fin 1024 → EReal) (up : Fin 1024 → Fin 4096 → EReal)
    (down : Fin 4096 → Fin 1024 → EReal) (c : Fin 8) (d : Fin 1024) : EReal :=
  feed h (fun k (f : Fin 512) => up k ⟨512 * c.val + f.val, by omega⟩)
    (fun f => down ⟨512 * c.val + f.val, by omega⟩) d

/-- The feed-forward, cut after cut. -/
theorem feed_cut (h : Fin 1024 → EReal) (up : Fin 1024 → Fin 4096 → EReal)
    (down : Fin 4096 → Fin 1024 → EReal) (d : Fin 1024) :
    feed h up down d = cut h up down 0 d + cut h up down 1 d + cut h up down 2 d + cut h up down 3 d
      + cut h up down 4 d + cut h up down 5 d + cut h up down 6 d + cut h up down 7 d := by
  rw [feed, sum_cut, Fin.sum_univ_eight]
  rfl

/-- The mean of a row. -/
noncomputable def mean (y : Fin 1024 → EReal) : EReal :=
  Ideal.div (∑ e, y e) (Ideal.ofBits .f32 0x44800000#32)

/-- The layer norm of a row `y`, with gain `g` and shift `b`. -/
noncomputable def norm (y g b : Fin 1024 → EReal) (d : Fin 1024) : EReal :=
  (y d - mean y)
      * Ideal.rsqrt (mean (fun e => (y e - mean y) * (y e - mean y)) + Ideal.ofBits .f32 0x3727C5AC#32)
    * g d + b d

/-- The residual sum: the row scaled up, and the gated update. -/
noncomputable def resid (x g u : Fin 1024 → EReal) (d : Fin 1024) : EReal :=
  Ideal.ofBits .f32 0x3FB504F3#32 * x d + g d * u d

/-- The modulation of a row by its scale and shift. -/
noncomputable def modul (x sc sh : Fin 1024 → EReal) (d : Fin 1024) : EReal :=
  x d * (1 + sc d) + sh d

end

end Cert.Rows
-- ==== Proof.Loads.lean ====
module
public import proofs.«01_k».proof.Proof.Rows
public import proofs.«01_k».proof.Proof.Gen.Kernel3Ideal.Value
public import Idealize.ShloMosaic.Lib.Pipeline.ValueKit
public import Idealize.ShloMosaic.Lib.VecWindow

/-! # What a grid step loads, and one cut of the feed-forward

The loads of a step, for the calls of any program: each reads a part of a window. `accStep` adds the
hidden units of one cut to the accumulator. -/

set_option maxRecDepth 16384

namespace Cert.Loads

open Cert.Kernel3Ideal Cert.Kernel3Ideal.Gen Cert.Rows Idealize.ShloMosaic Idealize.ShloMosaic.Pipeline

@[expose] public section

section Defs

variable {F : FTy → Type} [FloatOps F] {sg : RefSig} (i : grid0.Coords) {e : EltTy}

/-- The batch row of a modulation window. -/
noncomputable def row {arg : Memref sg .tc .vmem S1x8x1024 .f32} (harg : arg.IsWhole)
    (x : Vec F S1x8x1024 .f32) : Vec F S1x1x1024 .f32 :=
  View.readAt (Elt F) arg.view
    (Rect.unit (s := S1x8x1024) (k0_off1 i) S1x1x1024.size (k0_off1_inb i)).toLoadRect (harg.unread x)

/-- A cut's up-projection. -/
noncomputable def upCut {arg : Memref sg .tc .vmem S1x1024x4096 .bf16} (harg : arg.IsWhole)
    (x : Vec F S1x1024x4096 .bf16) (c : Fin 8) : Vec F S1x1024x512 .bf16 :=
  View.readAt (Elt F) arg.view
    (Rect.unit (s := S1x1024x4096) ![0, 0, 512 * c.val] S1x1024x512.size
      (by revert c; decide +kernel)).toLoadRect (harg.unread x)

/-- A cut's down-projection. -/
noncomputable def downCut {arg : Memref sg .tc .vmem S1x4096x1024 .bf16} (harg : arg.IsWhole)
    (x : Vec F S1x4096x1024 .bf16) (c : Fin 8) : Vec F S1x512x1024 .bf16 :=
  View.readAt (Elt F) arg.view
    (Rect.unit (s := S1x4096x1024) ![0, 512 * c.val, 0] S1x512x1024.size
      (by revert c; decide +kernel)).toLoadRect (harg.unread x)

/-- A gain or a bias. -/
noncomputable def vecOf {arg : Memref sg .tc .vmem S1x1x1024 .f32} (harg : arg.IsWhole)
    (x : Vec F S1x1x1024 .f32) : Vec F S1x1x1024 .f32 :=
  View.readAt (Elt F) arg.view
    (Rect.unit (s := S1x1x1024) ![0, 0, 0] S1x1x1024.size inb_S1x1x1024_S1x1x1024_0_0_0).toLoadRect (harg.unread x)

/-- A block of rows. -/
noncomputable def rowsOf {arg : Memref sg .tc .vmem S1x512x1024 e} (harg : arg.IsWhole)
    (x : Vec F S1x512x1024 e) : Vec F S1x512x1024 e :=
  View.readAt (Elt F) arg.view
    (Rect.unit (s := S1x512x1024) ![0, 0, 0] S1x512x1024.size inb_S1x512x1024_S1x512x1024_0_0_0).toLoadRect
    (harg.unread x)

/-- One more cut. -/
noncomputable def accStep (h : FVec F S512x1024 .bf16)
    {arg6 : Memref sg .tc .vmem S1x1024x4096 .bf16} (harg6 : arg6.IsWhole)
    {arg7 : Memref sg .tc .vmem S1x4096x1024 .bf16} (harg7 : arg7.IsWhole)
    (x4 : Vec F S1x1024x4096 .bf16) (x5 : Vec F S1x4096x1024 .bf16)
    (c : Fin 8) (a : FVec F S512x1024 .f32) : FVec F S512x1024 .f32 :=
  k0_pay7 h (upCut harg6 x4 c) (downCut harg7 x5 c) a

end Defs

/-- Two places of an array with three axes are the same if their coordinates are. -/
theorem place_ext {a b c : ℕ} {y z : (⟨3, ![a, b, c]⟩ : Shape).Idx} (h0 : (y 0).val = (z 0).val)
    (h1 : (y 1).val = (z 1).val) (h2 : (y 2).val = (z 2).val) : y = z :=
  funext fun i => Fin.ext (match i with
    | ⟨0, _⟩ => h0
    | ⟨1, _⟩ => h1
    | ⟨2, _⟩ => h2)

/-! ## Element by element -/

variable {sg : RefSig} (i : grid0.Coords)

theorem off_eq : ∀ i : grid0.Coords, k0_off1 i = ![0, (i 0).val, 0] :=
  (by decide +kernel : ∀ i : grid0.Coords, k0_off1 i = ![0, (i 0).val, 0])

theorem row_apply {arg : Memref sg .tc .vmem S1x8x1024 .f32} (harg : arg.IsWhole)
    (x : Vec Ideal S1x8x1024 .f32) (d : Fin 1024) : row i harg x (ix3 0 0 d) = x (ix3 0 (i 0 : Fin 8) d) := by
  have e := off_eq i
  unfold row
  rw [View.readAt_eq_ld, harg.read_unread]
  pointwise
  simp [e]

theorem upCut_apply {arg : Memref sg .tc .vmem S1x1024x4096 .bf16} (harg : arg.IsWhole)
    (x : Vec Ideal S1x1024x4096 .bf16) (c : Fin 8) (k : Fin 1024) (f : Fin 512) :
    upCut harg x c (ix3 0 k f) = x (ix3 0 k ⟨512 * c.val + f.val, by omega⟩) := by
  unfold upCut
  rw [View.readAt_eq_ld, harg.read_unread]
  pointwise

theorem downCut_apply {arg : Memref sg .tc .vmem S1x4096x1024 .bf16} (harg : arg.IsWhole)
    (x : Vec Ideal S1x4096x1024 .bf16) (c : Fin 8) (f : Fin 512) (d : Fin 1024) :
    downCut harg x c (ix3 0 f d) = x (ix3 0 ⟨512 * c.val + f.val, by omega⟩ d) := by
  unfold downCut
  rw [View.readAt_eq_ld, harg.read_unread]
  pointwise

theorem vecOf_apply {arg : Memref sg .tc .vmem S1x1x1024 .f32} (harg : arg.IsWhole)
    (x : Vec Ideal S1x1x1024 .f32) (d : Fin 1024) : vecOf harg x (ix3 0 0 d) = x (ix3 0 0 d) := by
  unfold vecOf
  rw [View.readAt_eq_ld, harg.read_unread]
  pointwise

theorem rowsOf_apply {e : EltTy} {arg : Memref sg .tc .vmem S1x512x1024 e} (harg : arg.IsWhole)
    (x : Vec Ideal S1x512x1024 e) (r : Fin 512) (d : Fin 1024) : rowsOf harg x (ix3 0 r d) = x (ix3 0 r d) := by
  unfold rowsOf
  rw [View.readAt_eq_ld, harg.read_unread]
  pointwise

theorem accStep_apply (h : FVec Ideal S512x1024 .bf16)
    {arg6 : Memref sg .tc .vmem S1x1024x4096 .bf16} (harg6 : arg6.IsWhole)
    {arg7 : Memref sg .tc .vmem S1x4096x1024 .bf16} (harg7 : arg7.IsWhole)
    (x4 : Vec Ideal S1x1024x4096 .bf16) (x5 : Vec Ideal S1x4096x1024 .bf16)
    (c : Fin 8) (a : FVec Ideal S512x1024 .f32) (r : Fin 512) (d : Fin 1024) :
    accStep h harg6 harg7 x4 x5 c a (ix2 r d)
      = a (ix2 r d)
        + cut (fun k => h (ix2 r k)) (fun k f => x4 (ix3 0 k f)) (fun f d => x5 (ix3 0 f d)) c d := by
  have e : ∀ (up : FVec Ideal S1x1024x512 .bf16) (down : FVec Ideal S1x512x1024 .bf16),
      k0_pay7 (F := Ideal) h up down a (ix2 r d)
        = a (ix2 r d) + feed (fun k => h (ix2 r k)) (fun k f => up (ix3 0 k f)) (fun f d => down (ix3 0 f d)) d := by
    intro up down
    pointwise [k0_pay7, feed]
  unfold accStep
  rw [e]
  simp only [upCut_apply, downCut_apply]
  rfl

end

end Cert.Loads
-- ==== Proof.MlpRun.lean ====
module
public import proofs.«01_k».proof.Proof.Loads

/-! # What one grid step of the first layer's feed-forward stores -/

set_option maxRecDepth 16384

namespace Cert.Kernel3Ideal.Mlp

open Cert.Kernel3Ideal Cert.Kernel3Ideal.Gen Cert.Loads Idealize.ShloMosaic Idealize.ShloMosaic.Pipeline

@[expose] public section

variable {F : FTy → Type} [FloatOps F]

section Step

variable (i : grid0.Coords)
  {arg2 : Memref sig .tc .vmem S1x512x1024 .f32} (harg2 : arg2.IsWhole)
  {arg3 : Memref sig .tc .vmem S1x8x1024 .f32} (harg3 : arg3.IsWhole)
  {arg4 : Memref sig .tc .vmem S1x8x1024 .f32} (harg4 : arg4.IsWhole)
  {arg5 : Memref sig .tc .vmem S1x8x1024 .f32} (harg5 : arg5.IsWhole)
  {arg6 : Memref sig .tc .vmem S1x1024x4096 .bf16} (harg6 : arg6.IsWhole)
  {arg7 : Memref sig .tc .vmem S1x4096x1024 .bf16} (harg7 : arg7.IsWhole)
  {arg8 : Memref sig .tc .vmem S1x1x1024 .f32} (harg8 : arg8.IsWhole)
  {arg9 : Memref sig .tc .vmem S1x1x1024 .f32} (harg9 : arg9.IsWhole)
  {arg10 : Memref sig .tc .vmem S1x512x1024 .f32} {harg10 : arg10.IsWhole}
  {arg11 : Memref sig .tc .vmem S512x1024 .f32} {harg11 : arg11.IsWhole}
  (x0 : Vec F S1x512x1024 .f32) (x1 x2 x3 : Vec F S1x8x1024 .f32) (x4 : Vec F S1x1024x4096 .bf16)
  (x5 : Vec F S1x4096x1024 .bf16) (x6 x7 : Vec F S1x1x1024 .f32)

/-- The modulated rows. -/
noncomputable def hid : FVec F S512x1024 .bf16 :=
  k0_pay4 (k0_pay3 (rowsOf harg2 x0) (row i harg4 x2)) (row i harg3 x1)

/-- The rows' first cut. -/
noncomputable def acc0 : FVec F S512x1024 .f32 :=
  k0_pay5 (k0_pay3 (rowsOf harg2 x0) (row i harg4 x2)) (row i harg3 x1) (upCut harg6 x4 0) (downCut harg7 x5 0)

variable {c : Dev nD}

set_option maxHeartbeats 0 in
/-- The run's one store. -/
theorem run_store : ∃ a : FVec F S512x1024 .f32,
    (kernelRun0_A c i arg2 harg2 arg3 harg3 arg4 harg4 arg5 harg5 arg6 harg6 arg7 harg7 arg8 harg8
        arg9 harg9 arg10 harg10 arg11 harg11 x0 x1 x2 x3 x4 x5 x6 x7).1
      = [⟨Rect.unit ![0, 0, 0] S1x512x1024.size inb_S1x512x1024_S1x512x1024_0_0_0,
          k0_pay1 (k0_pay15 (vecOf harg9 x7))
            (k0_pay16 (k0_pay14 (k0_pay2 (rowsOf harg2 x0))) (row i harg5 x3) a (vecOf harg8 x6))⟩]
    ∧ a = accStep (hid i harg2 harg3 harg4 x0 x1 x2) harg6 harg7 x4 x5 7
        (accStep (hid i harg2 harg3 harg4 x0 x1 x2) harg6 harg7 x4 x5 6
        (accStep (hid i harg2 harg3 harg4 x0 x1 x2) harg6 harg7 x4 x5 5
        (accStep (hid i harg2 harg3 harg4 x0 x1 x2) harg6 harg7 x4 x5 4
        (accStep (hid i harg2 harg3 harg4 x0 x1 x2) harg6 harg7 x4 x5 3
        (accStep (hid i harg2 harg3 harg4 x0 x1 x2) harg6 harg7 x4 x5 2
        (accStep (hid i harg2 harg3 harg4 x0 x1 x2) harg6 harg7 x4 x5 1
        (acc0 i harg2 harg3 harg4 harg6 harg7 x0 x1 x2 x4 x5))))))) := by
  refine ⟨?t, ?a, ?b⟩
  case a =>
    delta kernelRun0_A
    exact rfl
  case b =>
    refine (View.readCov_full _ _ _ _ _).trans (congrArg (accStep (hid i harg2 harg3 harg4 x0 x1 x2) harg6 harg7 x4 x5 7) ?_)
    refine (View.readCov_full _ _ _ _ _).trans (congrArg (accStep (hid i harg2 harg3 harg4 x0 x1 x2) harg6 harg7 x4 x5 6) ?_)
    refine (View.readCov_full _ _ _ _ _).trans (congrArg (accStep (hid i harg2 harg3 harg4 x0 x1 x2) harg6 harg7 x4 x5 5) ?_)
    refine (View.readCov_full _ _ _ _ _).trans (congrArg (accStep (hid i harg2 harg3 harg4 x0 x1 x2) harg6 harg7 x4 x5 4) ?_)
    refine (View.readCov_full _ _ _ _ _).trans (congrArg (accStep (hid i harg2 harg3 harg4 x0 x1 x2) harg6 harg7 x4 x5 3) ?_)
    refine (View.readCov_full _ _ _ _ _).trans (congrArg (accStep (hid i harg2 harg3 harg4 x0 x1 x2) harg6 harg7 x4 x5 2) ?_)
    refine (View.readCov_full _ _ _ _ _).trans (congrArg (accStep (hid i harg2 harg3 harg4 x0 x1 x2) harg6 harg7 x4 x5 1) ?_)
    exact View.readCov_full _ _ _ _ _

end Step

end

end Cert.Kernel3Ideal.Mlp
-- ==== Proof.MlpElements.lean ====
module
public import proofs.«01_k».proof.Proof.MlpRun
public import Idealize.ShloMosaic.Lib.Pointwise

/-! # The feed-forward's payloads, element by element -/

set_option maxRecDepth 16384

namespace Cert.Kernel3Ideal.Mlp

open Cert.Kernel3Ideal Cert.Kernel3Ideal.Gen Cert.Rows Cert.Loads Idealize.ShloMosaic Idealize.ShloMosaic.Pipeline

@[expose] public section

theorem pay4_apply (x : FVec Ideal S1x512x1024 .f32) (sc sh : FVec Ideal S1x1x1024 .f32) (r : Fin 512) (d : Fin 1024) :
    k0_pay4 (F := Ideal) (k0_pay3 x sc) sh (ix2 r d)
      = modul (fun d => x (ix3 0 r d)) (fun d => sc (ix3 0 0 d)) (fun d => sh (ix3 0 0 d)) d := by
  pointwise [k0_pay4, k0_pay3, k0_pay2, modul]

theorem pay5_apply (v : FVec Ideal S512x1024 .f32) (sh : FVec Ideal S1x1x1024 .f32)
    (up : FVec Ideal S1x1024x512 .bf16) (down : FVec Ideal S1x512x1024 .bf16) (r : Fin 512) (d : Fin 1024) :
    k0_pay5 (F := Ideal) v sh up down (ix2 r d)
      = feed (fun k => k0_pay4 v sh (ix2 r k)) (fun k f => up (ix3 0 k f)) (fun f d => down (ix3 0 f d)) d := by
  unfold k0_pay5
  generalize k0_pay4 v sh = h
  pointwise [feed]

theorem pay1_apply (b : FVec Ideal S1x1x1024 .f32) (x : FVec Ideal S1x512x1024 .f32) (gate : FVec Ideal S1x1x1024 .f32)
    (a : FVec Ideal S512x1024 .f32) (g : FVec Ideal S1x1x1024 .f32) (r : Fin 512) (d : Fin 1024) :
    k0_pay1 (F := Ideal) (k0_pay15 b) (k0_pay16 (k0_pay14 (k0_pay2 x)) gate a g) (ix3 0 r d)
      = Rows.norm (resid (fun d => x (ix3 0 r d)) (fun d => gate (ix3 0 0 d)) (fun d => a (ix2 r d)))
          (fun d => g (ix3 0 0 d)) (fun d => b (ix3 0 0 d)) d := by
  pointwise [k0_pay1, k0_pay15, k0_pay16, k0_pay14, k0_pay2, Rows.norm, mean, resid]

/-! ## The rows of one step -/

section Steps

variable (i : grid0.Coords)
  {arg2 : Memref sig .tc .vmem S1x512x1024 .f32} (harg2 : arg2.IsWhole)
  {arg3 : Memref sig .tc .vmem S1x8x1024 .f32} (harg3 : arg3.IsWhole)
  {arg4 : Memref sig .tc .vmem S1x8x1024 .f32} (harg4 : arg4.IsWhole)
  {arg6 : Memref sig .tc .vmem S1x1024x4096 .bf16} (harg6 : arg6.IsWhole)
  {arg7 : Memref sig .tc .vmem S1x4096x1024 .bf16} (harg7 : arg7.IsWhole)
  (x0 : Vec Ideal S1x512x1024 .f32) (x1 x2 : Vec Ideal S1x8x1024 .f32) (x4 : Vec Ideal S1x1024x4096 .bf16)
  (x5 : Vec Ideal S1x4096x1024 .bf16)

/-- The modulated row `r` of a step. -/
noncomputable abbrev hidRow (r : Fin 512) : Fin 1024 → EReal :=
  modul (fun d => x0 (ix3 0 r d)) (fun d => x2 (ix3 0 (i 0 : Fin 8) d)) (fun d => x1 (ix3 0 (i 0 : Fin 8) d))

theorem hid_apply (r : Fin 512) (k : Fin 1024) :
    hid i harg2 harg3 harg4 x0 x1 x2 (ix2 r k) = hidRow i x0 x1 x2 r k := by
  unfold hid
  simp only [pay4_apply, rowsOf_apply, row_apply]

theorem acc0_apply (r : Fin 512) (d : Fin 1024) :
    acc0 i harg2 harg3 harg4 harg6 harg7 x0 x1 x2 x4 x5 (ix2 r d)
      = cut (hidRow i x0 x1 x2 r) (fun k f => x4 (ix3 0 k f)) (fun f d => x5 (ix3 0 f d)) 0 d := by
  unfold acc0
  rw [pay5_apply]
  simp only [pay4_apply, rowsOf_apply, row_apply, upCut_apply, downCut_apply]
  rfl

end Steps

section Store

variable (i : grid0.Coords) {c : Dev nD}
  {arg2 : Memref sig .tc .vmem S1x512x1024 .f32} (harg2 : arg2.IsWhole)
  {arg3 : Memref sig .tc .vmem S1x8x1024 .f32} (harg3 : arg3.IsWhole)
  {arg4 : Memref sig .tc .vmem S1x8x1024 .f32} (harg4 : arg4.IsWhole)
  {arg5 : Memref sig .tc .vmem S1x8x1024 .f32} (harg5 : arg5.IsWhole)
  {arg6 : Memref sig .tc .vmem S1x1024x4096 .bf16} (harg6 : arg6.IsWhole)
  {arg7 : Memref sig .tc .vmem S1x4096x1024 .bf16} (harg7 : arg7.IsWhole)
  {arg8 : Memref sig .tc .vmem S1x1x1024 .f32} (harg8 : arg8.IsWhole)
  {arg9 : Memref sig .tc .vmem S1x1x1024 .f32} (harg9 : arg9.IsWhole)
  {arg10 : Memref sig .tc .vmem S1x512x1024 .f32} {harg10 : arg10.IsWhole}
  {arg11 : Memref sig .tc .vmem S512x1024 .f32} {harg11 : arg11.IsWhole}
  (x0 : Vec Ideal S1x512x1024 .f32) (x1 x2 x3 : Vec Ideal S1x8x1024 .f32) (x4 : Vec Ideal S1x1024x4096 .bf16)
  (x5 : Vec Ideal S1x4096x1024 .bf16) (x6 x7 : Vec Ideal S1x1x1024 .f32)

/-- One step stores one block, row by row the layer norm of the residual sum. -/
theorem run_block : ∃ w : S1x512x1024.Idx → Elt Ideal .f32,
    (kernelRun0_A c i arg2 harg2 arg3 harg3 arg4 harg4 arg5 harg5 arg6 harg6 arg7 harg7 arg8 harg8
        arg9 harg9 arg10 harg10 arg11 harg11 x0 x1 x2 x3 x4 x5 x6 x7).1
      = [⟨Rect.unit ![0, 0, 0] S1x512x1024.size inb_S1x512x1024_S1x512x1024_0_0_0, w⟩]
    ∧ ∀ (r : Fin 512) (d : Fin 1024), w (ix3 0 r d)
      = Rows.norm (resid (fun d => x0 (ix3 0 r d)) (fun d => x3 (ix3 0 (i 0 : Fin 8) d))
          (feed (hidRow i x0 x1 x2 r) (fun k f => x4 (ix3 0 k f)) (fun f d => x5 (ix3 0 f d))))
        (fun d => x6 (ix3 0 0 d)) (fun d => x7 (ix3 0 0 d)) d := by
  obtain ⟨a, h₁, h₂⟩ := run_store (c := c) i harg2 harg3 harg4 harg5 harg6 harg7 harg8 harg9
    (harg10 := harg10) (harg11 := harg11) x0 x1 x2 x3 x4 x5 x6 x7
  refine ⟨_, h₁, fun r d => ?_⟩
  rw [pay1_apply, h₂]
  simp only [rowsOf_apply, row_apply, vecOf_apply, accStep_apply, acc0_apply, hid_apply]
  congr 2
  exact funext fun d => (feed_cut _ _ _ d).symm

end Store

end

end Cert.Kernel3Ideal.Mlp
-- ==== Proof.MlpFinal.lean ====
module
public import proofs.«01_k».proof.Proof.MlpElements

/-! # The first layer's feed-forward: the kernel's result array -/

set_option maxRecDepth 16384

namespace Cert.Kernel3Ideal.Mlp

open Cert.Kernel3Ideal Cert.Kernel3Ideal.Gen Cert.Rows Cert.Loads Idealize.ShloMosaic Idealize.ShloMosaic.Pipeline

@[expose] public section

/-! ## The windows -/

section Windows

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

theorem index1 : ∀ t : Fin cfg0.N, win0_1.index t = ![0, 32, 3] :=
  (by decide +kernel : ∀ t : Fin grid0.N, win0_1.index t = ![0, 32, 3])

theorem index2 : ∀ t : Fin cfg0.N, win0_2.index t = ![0, 32, 4] :=
  (by decide +kernel : ∀ t : Fin grid0.N, win0_2.index t = ![0, 32, 4])

theorem index3 : ∀ t : Fin cfg0.N, win0_3.index t = ![0, 32, 5] :=
  (by decide +kernel : ∀ t : Fin grid0.N, win0_3.index t = ![0, 32, 5])

theorem index4 : ∀ t : Fin cfg0.N, win0_4.index t = ![0, 0, 0] :=
  (by decide +kernel : ∀ t : Fin grid0.N, win0_4.index t = ![0, 0, 0])

theorem index5 : ∀ t : Fin cfg0.N, win0_5.index t = ![0, 0, 0] :=
  (by decide +kernel : ∀ t : Fin grid0.N, win0_5.index t = ![0, 0, 0])

theorem index6 : ∀ t : Fin cfg0.N, win0_6.index t = ![1, 0, 0] :=
  (by decide +kernel : ∀ t : Fin grid0.N, win0_6.index t = ![1, 0, 0])

theorem index7 : ∀ t : Fin cfg0.N, win0_7.index t = ![1, 0, 0] :=
  (by decide +kernel : ∀ t : Fin grid0.N, win0_7.index t = ![1, 0, 0])

theorem index8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])

variable (m : (ℓ : Loc nD τ sig) → Buf (Elt Ideal) ℓ) (c : Dev nD) (t : Fin cfg0.N)

/-- The batch row of a grid point. -/
abbrev batchAt (t : Fin cfg0.N) : Fin 8 := grid0.coords t 0

/-- The sequence position of row `r` of a grid point's block. -/
abbrev posAt (t : Fin cfg0.N) (r : Fin 512) : Fin 2048 :=
  ⟨512 * (grid0.coords t 1).val + r.val, by have : (grid0.coords t 1).val < 4 := (grid0.coords t 1).isLt; omega⟩

/-- Batch row `b` of the modulation array's prompt rows. -/
abbrev modRow (b : Fin 8) : Fin 296 := ⟨256 + b.val, by omega⟩

theorem rows_block (r : Fin 512) (d : Fin 1024) :
    iblk m c 0 t (ix3 0 r d) = m (c.tc.loc main_arg0) (ix3 (batchAt t) (posAt t r) d) := by
  refine congrArg (m (c.tc.loc main_arg0)) (place_ext ?_ ?_ ?_) <;> blk_simp [index0]
  · rfl
  · exact congrArg (· + r.val) (Nat.mul_comm _ _)

theorem shift_block (b : Fin 8) (d : Fin 1024) :
    iblk m c 1 t (ix3 0 b d) = m (c.tc.loc main_arg1) (ix3 0 (modRow b) ⟨3072 + d.val, by omega⟩) := by
  refine congrArg (m (c.tc.loc main_arg1)) (place_ext ?_ ?_ ?_) <;> blk_simp [index1] <;> rfl

theorem scale_block (b : Fin 8) (d : Fin 1024) :
    iblk m c 2 t (ix3 0 b d) = m (c.tc.loc main_arg1) (ix3 0 (modRow b) ⟨4096 + d.val, by omega⟩) := by
  refine congrArg (m (c.tc.loc main_arg1)) (place_ext ?_ ?_ ?_) <;> blk_simp [index2] <;> rfl

theorem gate_block (b : Fin 8) (d : Fin 1024) :
    iblk m c 3 t (ix3 0 b d) = m (c.tc.loc main_arg1) (ix3 0 (modRow b) ⟨5120 + d.val, by omega⟩) := by
  refine congrArg (m (c.tc.loc main_arg1)) (place_ext ?_ ?_ ?_) <;> blk_simp [index3] <;> rfl

theorem up_block (k : Fin 1024) (f : Fin 4096) :
    iblk m c 4 t (ix3 0 k f) = m (c.tc.loc main_arg4) (ix3 0 k f) := by
  refine congrArg (m (c.tc.loc main_arg4)) (place_ext ?_ ?_ ?_) <;> blk_simp [index4] <;> rfl

theorem down_block (f : Fin 4096) (d : Fin 1024) :
    iblk m c 5 t (ix3 0 f d) = m (c.tc.loc main_arg5) (ix3 0 f d) := by
  refine congrArg (m (c.tc.loc main_arg5)) (place_ext ?_ ?_ ?_) <;> blk_simp [index5] <;> rfl

theorem gain_block (d : Fin 1024) :
    iblk m c 6 t (ix3 0 0 d) = m (c.tc.loc main_arg2) (ix3 1 0 d) := by
  refine congrArg (m (c.tc.loc main_arg2)) (place_ext ?_ ?_ ?_) <;> blk_simp [index6] <;> rfl

theorem bias_block (d : Fin 1024) :
    iblk m c 7 t (ix3 0 0 d) = m (c.tc.loc main_arg3) (ix3 1 0 d) := by
  refine congrArg (m (c.tc.loc main_arg3)) (place_ext ?_ ?_ ?_) <;> blk_simp [index7] <;> rfl

end Windows

/-! ## The result -/

/-- The layer's feed-forward part at one element, from the call's arrays. -/
noncomputable def layerAt (x : (⟨3, ![8, 2048, 1024]⟩ : Shape).Idx → EReal) (ada : (⟨3, ![2, 296, 6144]⟩ : Shape).Idx → EReal)
    (g b : (⟨3, ![4, 1, 1024]⟩ : Shape).Idx → EReal) (wu : (⟨3, ![2, 1024, 4096]⟩ : Shape).Idx → EReal)
    (wd : (⟨3, ![2, 4096, 1024]⟩ : Shape).Idx → EReal) (n : Fin 8) (s : Fin 2048) : Fin 1024 → EReal :=
  Rows.norm
    (resid (fun d => x (ix3 n s d)) (fun d => ada (ix3 0 (modRow n) ⟨5120 + d.val, by omega⟩))
      (feed
        (modul (fun d => x (ix3 n s d)) (fun d => ada (ix3 0 (modRow n) ⟨4096 + d.val, by omega⟩))
          (fun d => ada (ix3 0 (modRow n) ⟨3072 + d.val, by omega⟩)))
        (fun k f => wu (ix3 0 k f)) (fun f d => wd (ix3 0 f d))))
    (fun d => g (ix3 1 0 d)) (fun d => b (ix3 1 0 d))

variable (m : (ℓ : Loc nD τ sig) → Buf (Elt Ideal) ℓ) (c : Dev nD)

/-- The result, as a whole array. -/
noncomputable def result : Buf (Elt Ideal) ((c.tc : Thread nD τ).loc main_v0) := fun (y : S8x2048x1024.Idx) =>
  layerAt (m (c.tc.loc main_arg0)) (m (c.tc.loc main_arg1)) (m (c.tc.loc main_arg2)) (m (c.tc.loc main_arg3))
    (m (c.tc.loc main_arg4)) (m (c.tc.loc main_arg5)) (y 0) (y 1) (y 2)

/-- Where a grid step's output element lies in the array. -/
theorem out_place (t : Fin cfg0.N) (r : Fin 512) (d : Fin 1024) :
    (((cfg0.win 8).blk t).view.emb (ix3 0 r d) : S8x2048x1024.Idx) = ix3 (batchAt t) (posAt t r) d := by
  refine place_ext ?_ ?_ ?_ <;> blk_simp [index8]
  · rfl
  · exact congrArg (· + r.val) (Nat.mul_comm _ _)

/-- What a grid step writes back is its block of the result. -/
theorem flushed_eq (t : Fin cfg0.N) :
    (dats m 0 c).flushed 8 t = ((cfg0.win 8).blk t).view.read (Elt Ideal) (result m c) := by
  rw [Value.flushed8_A]
  obtain ⟨w, h₁, h₂⟩ := run_block (c := c) (harg10 := hs0_8 t) (arg11 := scM0_0) (harg11 := Memref.isWhole_whole _) (grid0.coords t) (hs0_0 t) (hs0_1 t) (hs0_2 t)
    (hs0_3 t) (hs0_4 t) (hs0_5 t) (hs0_6 t) (hs0_7 t) (iblk m c 0 t) (iblk m c 1 t) (iblk m c 2 t)
    (iblk m c 3 t) (iblk m c 4 t) (iblk m c 5 t) (iblk m c 6 t) (iblk m c 7 t)
  unfold out0_A_8
  rw [h₁]
  refine (View.read_writes_full _ _ _ _ _).trans (funext fun y => ?_)
  obtain ⟨r, d, rfl⟩ : ∃ (r : Fin 512) (d : Fin 1024), y = ix3 0 r d :=
    ⟨y 1, y 2, funext fun b => match b with
      | ⟨0, _⟩ => Subsingleton.elim (α := Fin 1) _ _
      | ⟨1, _⟩ => rfl
      | ⟨2, _⟩ => rfl⟩
  rw [h₂]
  refine Eq.trans ?_ (congrArg (result m c) (out_place t r d)).symm
  have e1 : ∀ d, iblk m c 1 t (ix3 0 (grid0.coords t 0) d) = _ := shift_block m c t (batchAt t)
  have e2 : ∀ d, iblk m c 2 t (ix3 0 (grid0.coords t 0) d) = _ := scale_block m c t (batchAt t)
  have e3 : ∀ d, iblk m c 3 t (ix3 0 (grid0.coords t 0) d) = _ := gate_block m c t (batchAt t)
  simp only [hidRow, rows_block, e1, e2, e3, up_block, down_block, gain_block, bias_block]
  rfl

theorem coords_val : ∀ t : Fin cfg0.N,
    (grid0.coords t 0).val = t.val / 4 ∧ (grid0.coords t 1).val = t.val % 4 :=
  (by decide +kernel : ∀ t : Fin grid0.N,
    (grid0.coords t 0).val = t.val / 4 ∧ (grid0.coords t 1).val = t.val % 4)

/-- The grid's blocks tile the array. -/
theorem cover (y : S8x2048x1024.Idx) :
    ∃ t : Fin cfg0.N, (cfg0.win 8).flush t = true ∧ y ∈ ((cfg0.win 8).blk t).view.set := by
  have h0 : (y 0).val < 8 := (y 0).isLt
  have h1 : (y 1).val < 2048 := (y 1).isLt
  have h2 : (y 2).val < 1024 := (y 2).isLt
  refine ⟨⟨4 * (y 0).val + (y 1).val / 512, by rw [show cfg0.N = 32 from N_0]; omega⟩, flush0_8 _, ?_⟩
  have e := coords_val ⟨4 * (y 0).val + (y 1).val / 512, by rw [show cfg0.N = 32 from N_0]; omega⟩
  mem_blk [index8]
  rw [e.1, e.2]
  dsimp only
  omega

/-- So the result array ends holding the layer. -/
theorem final : (dats m 0 c).arrAt 8 cfg0.N = result m c :=
  (dats m 0 c).arrAt_eq_of_cover 8 (result m c) (fun t _ => flushed_eq m c t) cover

end

end Cert.Kernel3Ideal.Mlp
-- ==== Proof.HostRows.lean ====
module
public import proofs.«01_k».proof.Proof.Rows
public import proofs.«01_k».proof.Proof.Gen.Reference3Ideal.Read

/-! # The references' host operations on whole arrays, row by row

Both references of the feed-forward parts use these four operations on the array of all tokens. -/

set_option maxRecDepth 16384

namespace Cert.HostRows

open Cert.Reference3Ideal Cert.Reference3Ideal.Gen Cert.Reference3Ideal.Read Cert.Rows Idealize.ShloMosaic

@[expose] public section

variable (x y : FVec Ideal S8x2048x1024 .f32) (u v : FVec Ideal S8x1x1024 .f32) (g b : FVec Ideal S1024 .f32)
  (wu : FVec Ideal S1024x4096 .f32) (wd : FVec Ideal S4096x1024 .f32) (n : Fin 8) (s : Fin 2048)

/-- The modulated tokens. -/
noncomputable def modulArr : FVec Ideal S8x2048x1024 .f32 :=
  addf
    (mulf x (broadcastInDim S8x2048x1024 ![0, 1, 2] bcast_S8x1x1024_S8x2048x1024_0_1_2
      (addf (val_main_v14 (F := Ideal)) u)))
    (broadcastInDim S8x2048x1024 ![0, 1, 2] bcast_S8x1x1024_S8x2048x1024_0_1_2 v)

/-- The residual sums. -/
noncomputable def residArr : FVec Ideal S8x2048x1024 .f32 :=
  addf (mulf (val_main_v30 (F := Ideal)) x)
    (mulf (broadcastInDim S8x2048x1024 ![0, 1, 2] bcast_S8x1x1024_S8x2048x1024_0_1_2 u) y)

/-- The feed-forward of every token. -/
noncomputable def feedArr : FVec Ideal S8x2048x1024 .f32 :=
  let h : FVec Ideal S8x2048x4096 .f32 := Host.dotGeneral dot_S8x2048x1024_S1024x4096_S8x2048x4096_2_0_01_1_n_n none x wu
  let p : FVec Ideal S8x2048x4096 .f32 := maximumf h (val_main_call0_v0 (F := Ideal))
  Host.dotGeneral dot_S8x2048x4096_S4096x1024_S8x2048x1024_2_0_01_1_n_n none (mulf p p) wd

/-- The tokens' means. -/
noncomputable def meanArr : FVec Ideal S8x2048x1 .f32 :=
  Host.divf (broadcastInDim S8x2048x1 ![0, 1] bcast_S8x2048_S8x2048x1_0_1
    (Host.reduceAdd x (val_main_cst_1 (F := Ideal)) reducesTo_S8x2048x1024_S8x2048_d2 h_S_)) (val_main_v41 (F := Ideal))

/-- The tokens, centred. -/
noncomputable def centreArr : FVec Ideal S8x2048x1024 .f32 :=
  subf x (broadcastInDim S8x2048x1024 ![0, 1, 2] bcast_S8x2048x1_S8x2048x1024_0_1_2 (meanArr x))

/-- The layer norm of every token. -/
noncomputable def normArr : FVec Ideal S8x2048x1024 .f32 :=
  addf
    (mulf
      (mulf (centreArr x) (broadcastInDim S8x2048x1024 ![0, 1, 2] bcast_S8x2048x1_S8x2048x1024_0_1_2
        (Host.rsqrt (addf (meanArr (mulf (centreArr x) (centreArr x))) (val_main_v52 (F := Ideal))))))
      (broadcastInDim S8x2048x1024 ![0, 1, 2] bcast_S1x1x1024_S8x2048x1024_0_1_2
        (broadcastInDim S1x1x1024 ![2] bcast_S1024_S1x1x1024_2 g)))
    (broadcastInDim S8x2048x1024 ![0, 1, 2] bcast_S1x1x1024_S8x2048x1024_0_1_2
      (broadcastInDim S1x1x1024 ![2] bcast_S1024_S1x1x1024_2 b))

theorem modulArr_apply (d : Fin 1024) :
    modulArr x u v (ix3 n s d)
      = modul (fun d => x (ix3 n s d)) (fun d => u (ix3 n 0 d)) (fun d => v (ix3 n 0 d)) d := by
  pointwise [modulArr, val_main_v14, val_main_cst, modul]

theorem residArr_apply (d : Fin 1024) :
    residArr x y u (ix3 n s d)
      = resid (fun d => x (ix3 n s d)) (fun d => u (ix3 n 0 d)) (fun d => y (ix3 n s d)) d := by
  pointwise [residArr, val_main_v30, val_main_cst_0, resid]

theorem feedArr_apply (d : Fin 1024) :
    feedArr x wu wd (ix3 n s d)
      = feed (fun d => x (ix3 n s d)) (fun k f => wu (ix2 k f)) (fun f d => wd (ix2 f d)) d := by
  pointwise [feedArr, val_main_call0_v0, val_main_call0_cst, feed]

theorem meanArr_apply : meanArr x (ix3 n s 0) = mean (fun d => x (ix3 n s d)) := by
  pointwise [meanArr, val_main_v41, val_main_cst_1, val_main_cst_2, mean]

theorem centreArr_apply (d : Fin 1024) :
    centreArr x (ix3 n s d) = x (ix3 n s d) - mean (fun d => x (ix3 n s d)) := by
  rw [← meanArr_apply]
  unfold centreArr
  generalize meanArr x = z
  pointwise

theorem normArr_apply (d : Fin 1024) :
    normArr x g b (ix3 n s d)
      = Rows.norm (fun d => x (ix3 n s d)) (fun d => g (ix1 d)) (fun d => b (ix1 d)) d := by
  have e : normArr x g b (ix3 n s d)
      = centreArr x (ix3 n s d)
          * Ideal.rsqrt (meanArr (mulf (centreArr x) (centreArr x)) (ix3 n s 0) + Ideal.ofBits .f32 0x3727C5AC#32)
          * g (ix1 d) + b (ix1 d) := by
    unfold normArr
    generalize meanArr (mulf (centreArr x) (centreArr x)) = z
    generalize centreArr x = y
    pointwise [val_main_v52, val_main_cst_5]
  have e' : (fun d => mulf (centreArr x) (centreArr x) (ix3 n s d))
      = fun d => (x (ix3 n s d) - mean (fun d => x (ix3 n s d))) * (x (ix3 n s d) - mean (fun d => x (ix3 n s d))) :=
    funext fun d => congrArg (fun t => t * t) (centreArr_apply x n s d)
  rw [e, meanArr_apply, e', centreArr_apply]
  rfl

end

end Cert.HostRows
-- ==== Proof.MlpReference.lean ====
module
public import proofs.«01_k».proof.Proof.MlpFinal
public import proofs.«01_k».proof.Proof.HostRows

/-! # The first layer's feed-forward: the reference, element by element -/

set_option maxRecDepth 16384

namespace Cert.Reference3Ideal.Mlp

open Cert.Reference3Ideal Cert.Reference3Ideal.Read Cert.Rows Cert.HostRows Cert.Kernel3Ideal.Mlp Idealize.ShloMosaic

@[expose] public section

variable (x : FVec Ideal S8x2048x1024 .f32) (ada : FVec Ideal S2x296x6144 .f32) (g b : FVec Ideal S4x1x1024 .f32)
  (wu : FVec Ideal S2x1024x4096 .bf16) (wd : FVec Ideal S2x4096x1024 .bf16)

theorem shift_apply (n : Fin 8) (d : Fin 1024) :
    val_main_v11 (F := Ideal) ada (ix3 n 0 d) = ada (ix3 0 (modRow n) ⟨3072 + d.val, by omega⟩) := by
  pointwise [val_main_v11, val_main_v5, val_main_v1, val_main_v0]

theorem scale_apply (n : Fin 8) (d : Fin 1024) :
    val_main_v12 (F := Ideal) ada (ix3 n 0 d) = ada (ix3 0 (modRow n) ⟨4096 + d.val, by omega⟩) := by
  pointwise [val_main_v12, val_main_v6, val_main_v1, val_main_v0]

theorem gate_apply (n : Fin 8) (d : Fin 1024) :
    val_main_v13 (F := Ideal) ada (ix3 n 0 d) = ada (ix3 0 (modRow n) ⟨5120 + d.val, by omega⟩) := by
  pointwise [val_main_v13, val_main_v7, val_main_v1, val_main_v0]

theorem up_apply (k : Fin 1024) (f : Fin 4096) : val_main_v22 (F := Ideal) wu (ix2 k f) = wu (ix3 0 k f) := by
  pointwise [val_main_v22, val_main_v21, val_main_v20]

theorem down_apply (f : Fin 4096) (d : Fin 1024) : val_main_v28 (F := Ideal) wd (ix2 f d) = wd (ix3 0 f d) := by
  pointwise [val_main_v28, val_main_v27, val_main_v26]

theorem gain_apply (d : Fin 1024) : val_main_v36 (F := Ideal) g (ix1 d) = g (ix3 1 0 d) := by
  pointwise [val_main_v36, val_main_v35]

theorem bias_apply (d : Fin 1024) : val_main_v38 (F := Ideal) b (ix1 d) = b (ix3 1 0 d) := by
  pointwise [val_main_v38, val_main_v37]

/-- The reference, as the four whole-array operations. -/
theorem result_eq : val_main_v62 (F := Ideal) x ada g b wu wd
    = normArr
        (residArr x
          (feedArr (modulArr x (val_main_v12 (F := Ideal) ada) (val_main_v11 (F := Ideal) ada))
            (val_main_v22 (F := Ideal) wu) (val_main_v28 (F := Ideal) wd))
          (val_main_v13 (F := Ideal) ada))
        (val_main_v36 (F := Ideal) g) (val_main_v38 (F := Ideal) b) := rfl

/-- The reference's result is the layer of its arguments. -/
theorem result_apply (n : Fin 8) (s : Fin 2048) (d : Fin 1024) :
    val_main_v62 (F := Ideal) x ada g b wu wd (ix3 n s d) = layerAt x ada g b wu wd n s d := by
  rw [result_eq, normArr_apply]
  simp only [residArr_apply, feedArr_apply, modulArr_apply, shift_apply, scale_apply, gate_apply, up_apply, down_apply,
    gain_apply, bias_apply]
  rfl

end

end Cert.Reference3Ideal.Mlp
-- ==== Proof.MlpClaims.lean ====
module
public import proofs.«01_k».proof.Defs
public import proofs.«01_k».proof.Proof.MlpReference
public import proofs.«01_k».proof.Proof.Gen.Reference3Ideal.Run

/-! # The first layer's feed-forward: the kernel's result is the reference's -/

set_option maxRecDepth 16384

namespace Cert.Proof.Mlp

open Idealize.ShloMosaic Idealize.SL.Sem

@[expose] public section

/-- The reference's run leaves its arguments and the semaphores as they were. -/
theorem reference_frame [hReference3Ideal : Cert.Reference3Ideal.Facts] : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The reference's result array. -/
theorem reference_eq (m : (ℓ : Loc Cert.Kernel3Ideal.nD Cert.Kernel3Ideal.τ Cert.Kernel3Ideal.sig) → Buf (Elt Ideal) ℓ)
    (c : Dev Cert.Kernel3Ideal.nD) (y : Cert.Reference3Ideal.S8x2048x1024.Idx) :
    Cert.Reference3Ideal.Read.val_main_v62 (F := Ideal) (m (c.tc.loc Cert.Kernel3Ideal.main_arg0))
        (m (c.tc.loc Cert.Kernel3Ideal.main_arg1)) (m (c.tc.loc Cert.Kernel3Ideal.main_arg2))
        (m (c.tc.loc Cert.Kernel3Ideal.main_arg3)) (m (c.tc.loc Cert.Kernel3Ideal.main_arg4))
        (m (c.tc.loc Cert.Kernel3Ideal.main_arg5)) y
      = Cert.Kernel3Ideal.Mlp.result m c y := by
  obtain ⟨n, s, d, rfl⟩ : ∃ (n : Fin 8) (s : Fin 2048) (d : Fin 1024), y = ix3 n s d :=
    ⟨y 0, y 1, y 2, funext fun b => match b with
      | ⟨0, _⟩ => rfl
      | ⟨1, _⟩ => rfl
      | ⟨2, _⟩ => rfl⟩
  exact Cert.Reference3Ideal.Mlp.result_apply _ _ _ _ _ _ n s d

/-- Kernel and reference compute the same array. -/
theorem algebraic : Cert.algebraic_Kernel3Ideal_Reference3Ideal := by
  intro m g m' g' _ hagree
  refine ⟨fun c => Cert.Kernel3Ideal.Mlp.result m c, ?_, ?_⟩
  · exact (θ_run Cert.Kernel3Ideal.defs _ _).mono
      (fun _ h c => ⟨(h c).1.trans (Cert.Kernel3Ideal.Mlp.final m c), (h c).2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    obtain ⟨h0, h1, h2, h3, h4, h5⟩ := hagree c
    rw [Cert.Reference3Ideal.Read.val_main_v62_eq, h0, h1, h2, h3, h4, h5]
    exact funext fun y => reference_eq m c y

end

end Cert.Proof.Mlp
-- ==== Proof.OprojRun.lean ====
module
public import proofs.«01_k».proof.Proof.Loads
public import proofs.«01_k».proof.Proof.Gen.Kernel2Ideal.Value

/-! # What one grid step of the second layer's output projection and feed-forward stores -/

set_option maxRecDepth 16384

namespace Cert.Kernel2Ideal.Mlp

open Cert.Kernel2Ideal Cert.Kernel2Ideal.Gen Cert.Loads Idealize.ShloMosaic Idealize.ShloMosaic.Pipeline

@[expose] public section

variable {F : FTy → Type} [FloatOps F]

section Step

variable (i : grid0.Coords)
  {arg2 : Memref sig .tc .vmem S1x512x1024 .f32} (harg2 : arg2.IsWhole)
  {arg3 : Memref sig .tc .vmem S1x512x1024 .bf16} (harg3 : arg3.IsWhole)
  {arg4 : Memref sig .tc .vmem S1x8x1024 .f32} (harg4 : arg4.IsWhole)
  {arg5 : Memref sig .tc .vmem S1x1024x1024 .bf16} (harg5 : arg5.IsWhole)
  {arg6 : Memref sig .tc .vmem S1x1x1024 .f32} (harg6 : arg6.IsWhole)
  {arg7 : Memref sig .tc .vmem S1x1x1024 .f32} (harg7 : arg7.IsWhole)
  {arg8 : Memref sig .tc .vmem S1x8x1024 .f32} (harg8 : arg8.IsWhole)
  {arg9 : Memref sig .tc .vmem S1x8x1024 .f32} (harg9 : arg9.IsWhole)
  {arg10 : Memref sig .tc .vmem S1x8x1024 .f32} (harg10 : arg10.IsWhole)
  {arg11 : Memref sig .tc .vmem S1x1024x4096 .bf16} (harg11 : arg11.IsWhole)
  {arg12 : Memref sig .tc .vmem S1x4096x1024 .bf16} (harg12 : arg12.IsWhole)
  {arg13 : Memref sig .tc .vmem S1x1x1024 .f32} (harg13 : arg13.IsWhole)
  {arg14 : Memref sig .tc .vmem S1x1x1024 .f32} (harg14 : arg14.IsWhole)
  {arg15 : Memref sig .tc .vmem S1x512x1024 .f32} {harg15 : arg15.IsWhole}
  {arg16 : Memref sig .tc .vmem S512x1024 .f32} {harg16 : arg16.IsWhole}
  (x0 : Vec F S1x512x1024 .f32) (x1 : Vec F S1x512x1024 .bf16) (x2 : Vec F S1x8x1024 .f32)
  (x3 : Vec F S1x1024x1024 .bf16) (x4 x5 : Vec F S1x1x1024 .f32) (x6 x7 x8 : Vec F S1x8x1024 .f32)
  (x9 : Vec F S1x1024x4096 .bf16) (x10 : Vec F S1x4096x1024 .bf16) (x11 x12 : Vec F S1x1x1024 .f32)

/-- The output projection's weights. -/
noncomputable def woOf : Vec F S1x1024x1024 .bf16 :=
  View.readAt (Elt F) arg5.view
    (Rect.unit (s := S1x1024x1024) ![0, 0, 0] S1x1024x1024.size inb_S1x1024x1024_S1x1024x1024_0_0_0).toLoadRect
    (harg5.unread x3)

/-- The residual sum after the attention. -/
noncomputable def sum1 : FVec F S512x1024 .f32 :=
  k0_pay2 (rowsOf harg3 x1) (woOf harg5 x3) (rowsOf harg2 x0) (row i harg4 x2)

/-- The rows after the attention's norm. -/
noncomputable def rows1 : FVec F S512x1024 .f32 :=
  k0_pay5 (sum1 i harg2 harg3 harg4 harg5 x0 x1 x2 x3) (k0_pay3 (vecOf harg6 x4)) (k0_pay4 (vecOf harg7 x5))

/-- Those rows, scaled. -/
noncomputable def scaled : FVec F S512x1024 .f32 :=
  k0_pay6 (sum1 i harg2 harg3 harg4 harg5 x0 x1 x2 x3) (k0_pay3 (vecOf harg6 x4)) (k0_pay4 (vecOf harg7 x5))
    (row i harg9 x7)

/-- The modulated rows. -/
noncomputable def hid : FVec F S512x1024 .bf16 :=
  k0_pay7 (scaled i harg2 harg3 harg4 harg5 harg6 harg7 harg9 x0 x1 x2 x3 x4 x5 x7) (row i harg8 x6)

/-- The rows' first cut. -/
noncomputable def acc0 : FVec F S512x1024 .f32 :=
  k0_pay8 (scaled i harg2 harg3 harg4 harg5 harg6 harg7 harg9 x0 x1 x2 x3 x4 x5 x7) (row i harg8 x6)
    (upCut harg11 x9 0) (downCut harg12 x10 0)

variable {c : Dev nD}

set_option maxHeartbeats 0 in
/-- The run's one store. -/
theorem run_store : ∃ a : FVec F S512x1024 .f32,
    (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16
        x0 x1 x2 x3 x4 x5 x6 x7 x8 x9 x10 x11 x12).1
      = [⟨Rect.unit ![0, 0, 0] S1x512x1024.size inb_S1x512x1024_S1x512x1024_0_0_0,
          k0_pay1 (k0_pay21 (rows1 i harg2 harg3 harg4 harg5 harg6 harg7 x0 x1 x2 x3 x4 x5) (row i harg10 x8) a)
            (k0_pay22 (vecOf harg13 x11)) (k0_pay23 (vecOf harg14 x12))
            (k0_pay24 (rows1 i harg2 harg3 harg4 harg5 harg6 harg7 x0 x1 x2 x3 x4 x5) (row i harg10 x8) a)
            k0_pay25⟩]
    ∧ ∃ step : Fin 8 → FVec F S512x1024 .f32 → FVec F S512x1024 .f32,
      step = accStep (hid i harg2 harg3 harg4 harg5 harg6 harg7 harg8 harg9 x0 x1 x2 x3 x4 x5 x6 x7) harg11 harg12 x9 x10
      ∧ a = step 7 (step 6 (step 5 (step 4 (step 3 (step 2 (step 1
          (acc0 i harg2 harg3 harg4 harg5 harg6 harg7 harg8 harg9 harg11 harg12 x0 x1 x2 x3 x4 x5 x6 x7 x9 x10))))))) := by
  refine ⟨?t, ?a, accStep (hid i harg2 harg3 harg4 harg5 harg6 harg7 harg8 harg9 x0 x1 x2 x3 x4 x5 x6 x7)
    harg11 harg12 x9 x10, rfl, ?b⟩
  case a =>
    delta kernelRun0_A
    exact rfl
  case b =>
    refine (View.readCov_full _ _ _ _ _).trans (congrArg (accStep _ harg11 harg12 x9 x10 7) ?_)
    refine (View.readCov_full _ _ _ _ _).trans (congrArg (accStep _ harg11 harg12 x9 x10 6) ?_)
    refine (View.readCov_full _ _ _ _ _).trans (congrArg (accStep _ harg11 harg12 x9 x10 5) ?_)
    refine (View.readCov_full _ _ _ _ _).trans (congrArg (accStep _ harg11 harg12 x9 x10 4) ?_)
    refine (View.readCov_full _ _ _ _ _).trans (congrArg (accStep _ harg11 harg12 x9 x10 3) ?_)
    refine (View.readCov_full _ _ _ _ _).trans (congrArg (accStep _ harg11 harg12 x9 x10 2) ?_)
    refine (View.readCov_full _ _ _ _ _).trans (congrArg (accStep _ harg11 harg12 x9 x10 1) ?_)
    exact View.readCov_full _ _ _ _ _

end Step

end

end Cert.Kernel2Ideal.Mlp
-- ==== Proof.OprojElements.lean ====
module
public import proofs.«01_k».proof.Proof.OprojRun
public import Idealize.ShloMosaic.Lib.Pointwise

/-! # The second layer's payloads, element by element -/

set_option maxRecDepth 16384

namespace Cert.Kernel2Ideal.Mlp

open Cert.Kernel2Ideal Cert.Kernel2Ideal.Gen Cert.Rows Cert.Loads Idealize.ShloMosaic Idealize.ShloMosaic.Pipeline

@[expose] public section

/-! ## The maths of one row -/

/-- The output projection of a row `o` of the attention. -/
noncomputable def proj (o : Fin 1024 → EReal) (wo : Fin 1024 → Fin 1024 → EReal) (d : Fin 1024) : EReal :=
  ∑ k, o k * wo k d

/-- A row after the attention's residual sum and norm. -/
noncomputable def attended (x o gate : Fin 1024 → EReal) (wo : Fin 1024 → Fin 1024 → EReal)
    (g b : Fin 1024 → EReal) : Fin 1024 → EReal :=
  Rows.norm (resid x gate (proj o wo)) g b

/-- A row after the feed-forward's residual sum and norm. -/
noncomputable def fedRow (y sh sc gate : Fin 1024 → EReal) (up : Fin 1024 → Fin 4096 → EReal)
    (down : Fin 4096 → Fin 1024 → EReal) (g b : Fin 1024 → EReal) : Fin 1024 → EReal :=
  Rows.norm (resid y gate (feed (modul y sc sh) up down)) g b

/-! ## The payloads -/

theorem pay2_apply (o : FVec Ideal S1x512x1024 .bf16) (wo : FVec Ideal S1x1024x1024 .bf16)
    (x : FVec Ideal S1x512x1024 .f32) (gate : FVec Ideal S1x1x1024 .f32) (r : Fin 512) (d : Fin 1024) :
    k0_pay2 (F := Ideal) o wo x gate (ix2 r d)
      = resid (fun d => x (ix3 0 r d)) (fun d => gate (ix3 0 0 d))
          (proj (fun k => o (ix3 0 r k)) (fun k d => wo (ix3 0 k d))) d := by
  pointwise [k0_pay2, resid, proj]

theorem pay5_apply (y : FVec Ideal S512x1024 .f32) (g b : FVec Ideal S1x1x1024 .f32) (r : Fin 512) (d : Fin 1024) :
    k0_pay5 (F := Ideal) y (k0_pay3 g) (k0_pay4 b) (ix2 r d)
      = Rows.norm (fun d => y (ix2 r d)) (fun d => g (ix3 0 0 d)) (fun d => b (ix3 0 0 d)) d := by
  pointwise [k0_pay5, k0_pay3, k0_pay4, Rows.norm, mean]

theorem pay7_apply (y : FVec Ideal S512x1024 .f32) (g b : FVec Ideal S1x1024 .f32) (sc sh : FVec Ideal S1x1x1024 .f32)
    (r : Fin 512) (d : Fin 1024) :
    k0_pay7 (F := Ideal) (k0_pay6 y g b sc) sh (ix2 r d)
      = modul (fun d => k0_pay5 y g b (ix2 r d)) (fun d => sc (ix3 0 0 d)) (fun d => sh (ix3 0 0 d)) d := by
  unfold k0_pay6
  generalize k0_pay5 (F := Ideal) y g b = z
  pointwise [k0_pay7, modul]

theorem pay8_apply (v : FVec Ideal S512x1024 .f32) (sh : FVec Ideal S1x1x1024 .f32)
    (up : FVec Ideal S1x1024x512 .bf16) (down : FVec Ideal S1x512x1024 .bf16) (r : Fin 512) (d : Fin 1024) :
    k0_pay8 (F := Ideal) v sh up down (ix2 r d)
      = feed (fun k => k0_pay7 v sh (ix2 r k)) (fun k f => up (ix3 0 k f)) (fun f d => down (ix3 0 f d)) d := by
  unfold k0_pay8
  generalize k0_pay7 (F := Ideal) v sh = h
  pointwise [feed]

theorem pay1_apply (y : FVec Ideal S512x1024 .f32) (gate : FVec Ideal S1x1x1024 .f32)
    (a : FVec Ideal S512x1024 .f32) (g b : FVec Ideal S1x1x1024 .f32) (r : Fin 512) (d : Fin 1024) :
    k0_pay1 (F := Ideal) (k0_pay21 y gate a) (k0_pay22 g) (k0_pay23 b) (k0_pay24 y gate a) k0_pay25 (ix3 0 r d)
      = Rows.norm (resid (fun d => y (ix2 r d)) (fun d => gate (ix3 0 0 d)) (fun d => a (ix2 r d)))
          (fun d => g (ix3 0 0 d)) (fun d => b (ix3 0 0 d)) d := by
  pointwise [k0_pay1, k0_pay21, k0_pay22, k0_pay23, k0_pay24, k0_pay25, Rows.norm, mean, resid]

/-! ## The rows of one step -/

section Steps

variable (i : grid0.Coords)
  {arg2 : Memref sig .tc .vmem S1x512x1024 .f32} (harg2 : arg2.IsWhole)
  {arg3 : Memref sig .tc .vmem S1x512x1024 .bf16} (harg3 : arg3.IsWhole)
  {arg4 : Memref sig .tc .vmem S1x8x1024 .f32} (harg4 : arg4.IsWhole)
  {arg5 : Memref sig .tc .vmem S1x1024x1024 .bf16} (harg5 : arg5.IsWhole)
  {arg6 : Memref sig .tc .vmem S1x1x1024 .f32} (harg6 : arg6.IsWhole)
  {arg7 : Memref sig .tc .vmem S1x1x1024 .f32} (harg7 : arg7.IsWhole)
  {arg8 : Memref sig .tc .vmem S1x8x1024 .f32} (harg8 : arg8.IsWhole)
  {arg9 : Memref sig .tc .vmem S1x8x1024 .f32} (harg9 : arg9.IsWhole)
  {arg10 : Memref sig .tc .vmem S1x8x1024 .f32} (harg10 : arg10.IsWhole)
  {arg11 : Memref sig .tc .vmem S1x1024x4096 .bf16} (harg11 : arg11.IsWhole)
  {arg12 : Memref sig .tc .vmem S1x4096x1024 .bf16} (harg12 : arg12.IsWhole)
  {arg13 : Memref sig .tc .vmem S1x1x1024 .f32} (harg13 : arg13.IsWhole)
  {arg14 : Memref sig .tc .vmem S1x1x1024 .f32} (harg14 : arg14.IsWhole)
  {arg15 : Memref sig .tc .vmem S1x512x1024 .f32} {harg15 : arg15.IsWhole}
  {arg16 : Memref sig .tc .vmem S512x1024 .f32} {harg16 : arg16.IsWhole}
  (x0 : Vec Ideal S1x512x1024 .f32) (x1 : Vec Ideal S1x512x1024 .bf16) (x2 : Vec Ideal S1x8x1024 .f32)
  (x3 : Vec Ideal S1x1024x1024 .bf16) (x4 x5 : Vec Ideal S1x1x1024 .f32) (x6 x7 x8 : Vec Ideal S1x8x1024 .f32)
  (x9 : Vec Ideal S1x1024x4096 .bf16) (x10 : Vec Ideal S1x4096x1024 .bf16) (x11 x12 : Vec Ideal S1x1x1024 .f32)

theorem woOf_apply (k d : Fin 1024) : woOf harg5 x3 (ix3 0 k d) = x3 (ix3 0 k d) := by
  unfold woOf
  rw [View.readAt_eq_ld, harg5.read_unread]
  pointwise

/-- Row `r` of a step, after the attention's norm. -/
noncomputable abbrev attRow (r : Fin 512) : Fin 1024 → EReal :=
  attended (fun d => x0 (ix3 0 r d)) (fun k => x1 (ix3 0 r k)) (fun d => x2 (ix3 0 (i 0 : Fin 8) d))
    (fun k d => x3 (ix3 0 k d)) (fun d => x4 (ix3 0 0 d)) (fun d => x5 (ix3 0 0 d))

/-- That row, modulated. -/
noncomputable abbrev hidRow (r : Fin 512) : Fin 1024 → EReal :=
  modul (attRow i x0 x1 x2 x3 x4 x5 r) (fun d => x7 (ix3 0 (i 0 : Fin 8) d)) (fun d => x6 (ix3 0 (i 0 : Fin 8) d))

theorem rows1_apply (r : Fin 512) (d : Fin 1024) :
    rows1 i harg2 harg3 harg4 harg5 harg6 harg7 x0 x1 x2 x3 x4 x5 (ix2 r d) = attRow i x0 x1 x2 x3 x4 x5 r d := by
  unfold rows1 sum1
  simp only [pay5_apply, pay2_apply, rowsOf_apply, row_apply, vecOf_apply, woOf_apply]
  rfl

theorem hid_apply (r : Fin 512) (k : Fin 1024) :
    hid i harg2 harg3 harg4 harg5 harg6 harg7 harg8 harg9 x0 x1 x2 x3 x4 x5 x6 x7 (ix2 r k)
      = hidRow i x0 x1 x2 x3 x4 x5 x6 x7 r k := by
  unfold hid scaled sum1
  simp only [pay7_apply, pay5_apply, pay2_apply, rowsOf_apply, row_apply, vecOf_apply, woOf_apply]
  rfl

theorem acc0_apply (r : Fin 512) (d : Fin 1024) :
    acc0 i harg2 harg3 harg4 harg5 harg6 harg7 harg8 harg9 harg11 harg12 x0 x1 x2 x3 x4 x5 x6 x7 x9 x10 (ix2 r d)
      = cut (hidRow i x0 x1 x2 x3 x4 x5 x6 x7 r) (fun k f => x9 (ix3 0 k f)) (fun f d => x10 (ix3 0 f d)) 0 d := by
  have e : ∀ k, k0_pay7 (scaled i harg2 harg3 harg4 harg5 harg6 harg7 harg9 x0 x1 x2 x3 x4 x5 x7) (row i harg8 x6)
      (ix2 r k) = hidRow i x0 x1 x2 x3 x4 x5 x6 x7 r k :=
    hid_apply i harg2 harg3 harg4 harg5 harg6 harg7 harg8 harg9 x0 x1 x2 x3 x4 x5 x6 x7 r
  unfold acc0
  rw [pay8_apply]
  simp only [e, upCut_apply, downCut_apply]
  rfl

variable {c : Dev nD}

/-- One step stores one block, row by row the layer's second half. -/
theorem run_block : ∃ w : S1x512x1024.Idx → Elt Ideal .f32,
    (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16
        x0 x1 x2 x3 x4 x5 x6 x7 x8 x9 x10 x11 x12).1
      = [⟨Rect.unit ![0, 0, 0] S1x512x1024.size inb_S1x512x1024_S1x512x1024_0_0_0, w⟩]
    ∧ ∀ (r : Fin 512) (d : Fin 1024), w (ix3 0 r d)
      = fedRow (attRow i x0 x1 x2 x3 x4 x5 r) (fun d => x6 (ix3 0 (i 0 : Fin 8) d))
          (fun d => x7 (ix3 0 (i 0 : Fin 8) d)) (fun d => x8 (ix3 0 (i 0 : Fin 8) d))
          (fun k f => x9 (ix3 0 k f)) (fun f d => x10 (ix3 0 f d))
          (fun d => x11 (ix3 0 0 d)) (fun d => x12 (ix3 0 0 d)) d := by
  obtain ⟨a, h₁, step, h₂, h₃⟩ := run_store (c := c) i harg2 harg3 harg4 harg5 harg6 harg7 harg8 harg9 harg10
    harg11 harg12 harg13 harg14 (harg15 := harg15) (harg16 := harg16) x0 x1 x2 x3 x4 x5 x6 x7 x8 x9 x10 x11 x12
  refine ⟨_, h₁, fun r d => ?_⟩
  rw [pay1_apply, h₃, h₂]
  simp only [row_apply, vecOf_apply, accStep_apply, acc0_apply, hid_apply, rows1_apply]
  unfold fedRow
  congr 2
  exact funext fun d => (feed_cut _ _ _ d).symm

end Steps

end

end Cert.Kernel2Ideal.Mlp
-- ==== Proof.OprojFinal.lean ====
module
public import proofs.«01_k».proof.Proof.OprojElements
public import proofs.«01_k».proof.Proof.MlpFinal

/-! # The second layer's output projection and feed-forward: the kernel's result array -/

set_option maxRecDepth 16384

namespace Cert.Kernel2Ideal.Mlp

open Cert.Kernel2Ideal Cert.Kernel2Ideal.Gen Cert.Rows Cert.Loads Idealize.ShloMosaic Idealize.ShloMosaic.Pipeline
open Cert.Kernel3Ideal.Mlp (modRow)

@[expose] public section

/-! ## The windows -/

section Windows

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

theorem index1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])

theorem index2 : ∀ t : Fin cfg0.N, win0_2.index t = ![1, 32, 2] :=
  (by decide +kernel : ∀ t : Fin grid0.N, win0_2.index t = ![1, 32, 2])

theorem index3 : ∀ t : Fin cfg0.N, win0_3.index t = ![0, 0, 0] :=
  (by decide +kernel : ∀ t : Fin grid0.N, win0_3.index t = ![0, 0, 0])

theorem index4 : ∀ t : Fin cfg0.N, win0_4.index t = ![2, 0, 0] :=
  (by decide +kernel : ∀ t : Fin grid0.N, win0_4.index t = ![2, 0, 0])

theorem index5 : ∀ t : Fin cfg0.N, win0_5.index t = ![2, 0, 0] :=
  (by decide +kernel : ∀ t : Fin grid0.N, win0_5.index t = ![2, 0, 0])

theorem index6 : ∀ t : Fin cfg0.N, win0_6.index t = ![1, 32, 3] :=
  (by decide +kernel : ∀ t : Fin grid0.N, win0_6.index t = ![1, 32, 3])

theorem index7 : ∀ t : Fin cfg0.N, win0_7.index t = ![1, 32, 4] :=
  (by decide +kernel : ∀ t : Fin grid0.N, win0_7.index t = ![1, 32, 4])

theorem index8 : ∀ t : Fin cfg0.N, win0_8.index t = ![1, 32, 5] :=
  (by decide +kernel : ∀ t : Fin grid0.N, win0_8.index t = ![1, 32, 5])

theorem index9 : ∀ t : Fin cfg0.N, win0_9.index t = ![1, 0, 0] :=
  (by decide +kernel : ∀ t : Fin grid0.N, win0_9.index t = ![1, 0, 0])

theorem index10 : ∀ t : Fin cfg0.N, win0_10.index t = ![1, 0, 0] :=
  (by decide +kernel : ∀ t : Fin grid0.N, win0_10.index t = ![1, 0, 0])

theorem index11 : ∀ t : Fin cfg0.N, win0_11.index t = ![3, 0, 0] :=
  (by decide +kernel : ∀ t : Fin grid0.N, win0_11.index t = ![3, 0, 0])

theorem index12 : ∀ t : Fin cfg0.N, win0_12.index t = ![3, 0, 0] :=
  (by decide +kernel : ∀ t : Fin grid0.N, win0_12.index t = ![3, 0, 0])

theorem index13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

variable (m : (ℓ : Loc nD τ sig) → Buf (Elt Ideal) ℓ) (c : Dev nD) (t : Fin cfg0.N)

/-- The batch row of a grid point. -/
abbrev batchAt (t : Fin cfg0.N) : Fin 8 := grid0.coords t 0

/-- The sequence position of row `r` of a grid point's block. -/
abbrev posAt (t : Fin cfg0.N) (r : Fin 512) : Fin 2048 :=
  ⟨512 * (grid0.coords t 1).val + r.val, by have : (grid0.coords t 1).val < 4 := (grid0.coords t 1).isLt; omega⟩

theorem rows_block (r : Fin 512) (d : Fin 1024) :
    iblk m c 0 t (ix3 0 r d) = m (c.tc.loc main_arg0) (ix3 (batchAt t) (posAt t r) d) := by
  refine congrArg (m (c.tc.loc main_arg0)) (place_ext ?_ ?_ ?_) <;> blk_simp [index0]
  · rfl
  · exact congrArg (· + r.val) (Nat.mul_comm _ _)

theorem att_block (r : Fin 512) (d : Fin 1024) :
    iblk m c 1 t (ix3 0 r d) = m (c.tc.loc main_arg1) (ix3 (batchAt t) (posAt t r) d) := by
  refine congrArg (m (c.tc.loc main_arg1)) (place_ext ?_ ?_ ?_) <;> blk_simp [index1]
  · rfl
  · exact congrArg (· + r.val) (Nat.mul_comm _ _)

theorem gate1_block (b : Fin 8) (d : Fin 1024) :
    iblk m c 2 t (ix3 0 b d) = m (c.tc.loc main_arg2) (ix3 1 (modRow b) ⟨2048 + d.val, by omega⟩) := by
  refine congrArg (m (c.tc.loc main_arg2)) (place_ext ?_ ?_ ?_) <;> blk_simp [index2] <;> rfl

theorem wo_block (k d : Fin 1024) :
    iblk m c 3 t (ix3 0 k d) = m (c.tc.loc main_arg3) (ix3 0 k d) := by
  refine congrArg (m (c.tc.loc main_arg3)) (place_ext ?_ ?_ ?_) <;> blk_simp [index3] <;> rfl

theorem gain1_block (d : Fin 1024) :
    iblk m c 4 t (ix3 0 0 d) = m (c.tc.loc main_arg4) (ix3 2 0 d) := by
  refine congrArg (m (c.tc.loc main_arg4)) (place_ext ?_ ?_ ?_) <;> blk_simp [index4] <;> rfl

theorem bias1_block (d : Fin 1024) :
    iblk m c 5 t (ix3 0 0 d) = m (c.tc.loc main_arg5) (ix3 2 0 d) := by
  refine congrArg (m (c.tc.loc main_arg5)) (place_ext ?_ ?_ ?_) <;> blk_simp [index5] <;> rfl

theorem shift_block (b : Fin 8) (d : Fin 1024) :
    iblk m c 6 t (ix3 0 b d) = m (c.tc.loc main_arg2) (ix3 1 (modRow b) ⟨3072 + d.val, by omega⟩) := by
  refine congrArg (m (c.tc.loc main_arg2)) (place_ext ?_ ?_ ?_) <;> blk_simp [index6] <;> rfl

theorem scale_block (b : Fin 8) (d : Fin 1024) :
    iblk m c 7 t (ix3 0 b d) = m (c.tc.loc main_arg2) (ix3 1 (modRow b) ⟨4096 + d.val, by omega⟩) := by
  refine congrArg (m (c.tc.loc main_arg2)) (place_ext ?_ ?_ ?_) <;> blk_simp [index7] <;> rfl

theorem gate2_block (b : Fin 8) (d : Fin 1024) :
    iblk m c 8 t (ix3 0 b d) = m (c.tc.loc main_arg2) (ix3 1 (modRow b) ⟨5120 + d.val, by omega⟩) := by
  refine congrArg (m (c.tc.loc main_arg2)) (place_ext ?_ ?_ ?_) <;> blk_simp [index8] <;> rfl

theorem up_block (k : Fin 1024) (f : Fin 4096) :
    iblk m c 9 t (ix3 0 k f) = m (c.tc.loc main_arg6) (ix3 1 k f) := by
  refine congrArg (m (c.tc.loc main_arg6)) (place_ext ?_ ?_ ?_) <;> blk_simp [index9] <;> rfl

theorem down_block (f : Fin 4096) (d : Fin 1024) :
    iblk m c 10 t (ix3 0 f d) = m (c.tc.loc main_arg7) (ix3 1 f d) := by
  refine congrArg (m (c.tc.loc main_arg7)) (place_ext ?_ ?_ ?_) <;> blk_simp [index10] <;> rfl

theorem gain2_block (d : Fin 1024) :
    iblk m c 11 t (ix3 0 0 d) = m (c.tc.loc main_arg4) (ix3 3 0 d) := by
  refine congrArg (m (c.tc.loc main_arg4)) (place_ext ?_ ?_ ?_) <;> blk_simp [index11] <;> rfl

theorem bias2_block (d : Fin 1024) :
    iblk m c 12 t (ix3 0 0 d) = m (c.tc.loc main_arg5) (ix3 3 0 d) := by
  refine congrArg (m (c.tc.loc main_arg5)) (place_ext ?_ ?_ ?_) <;> blk_simp [index12] <;> rfl

end Windows

/-! ## The result -/

/-- The layer's second half at one element, from the call's arrays. -/
noncomputable def layerAt (x o : (⟨3, ![8, 2048, 1024]⟩ : Shape).Idx → EReal) (ada : (⟨3, ![2, 296, 6144]⟩ : Shape).Idx → EReal)
    (wo : (⟨3, ![1, 1024, 1024]⟩ : Shape).Idx → EReal) (g b : (⟨3, ![4, 1, 1024]⟩ : Shape).Idx → EReal)
    (wu : (⟨3, ![2, 1024, 4096]⟩ : Shape).Idx → EReal) (wd : (⟨3, ![2, 4096, 1024]⟩ : Shape).Idx → EReal)
    (n : Fin 8) (s : Fin 2048) : Fin 1024 → EReal :=
  fedRow
    (attended (fun d => x (ix3 n s d)) (fun k => o (ix3 n s k))
      (fun d => ada (ix3 1 (modRow n) ⟨2048 + d.val, by omega⟩)) (fun k d => wo (ix3 0 k d))
      (fun d => g (ix3 2 0 d)) (fun d => b (ix3 2 0 d)))
    (fun d => ada (ix3 1 (modRow n) ⟨3072 + d.val, by omega⟩))
    (fun d => ada (ix3 1 (modRow n) ⟨4096 + d.val, by omega⟩))
    (fun d => ada (ix3 1 (modRow n) ⟨5120 + d.val, by omega⟩))
    (fun k f => wu (ix3 1 k f)) (fun f d => wd (ix3 1 f d)) (fun d => g (ix3 3 0 d)) (fun d => b (ix3 3 0 d))

variable (m : (ℓ : Loc nD τ sig) → Buf (Elt Ideal) ℓ) (c : Dev nD)

/-- The result, as a whole array. -/
noncomputable def result : Buf (Elt Ideal) ((c.tc : Thread nD τ).loc main_v0) := fun (y : S8x2048x1024.Idx) =>
  layerAt (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (y 0) (y 1) (y 2)

/-- Where a grid step's output element lies in the array. -/
theorem out_place (t : Fin cfg0.N) (r : Fin 512) (d : Fin 1024) :
    (((cfg0.win 13).blk t).view.emb (ix3 0 r d) : S8x2048x1024.Idx) = ix3 (batchAt t) (posAt t r) d := by
  refine place_ext ?_ ?_ ?_ <;> blk_simp [index13]
  · rfl
  · exact congrArg (· + r.val) (Nat.mul_comm _ _)

/-- What a grid step writes back is its block of the result. -/
theorem flushed_eq (t : Fin cfg0.N) :
    (dats m 0 c).flushed 13 t = ((cfg0.win 13).blk t).view.read (Elt Ideal) (result m c) := by
  rw [Value.flushed13_A]
  obtain ⟨w, h₁, h₂⟩ := run_block (c := c) (harg15 := hs0_13 t) (arg16 := scM0_0) (harg16 := Memref.isWhole_whole _)
    (grid0.coords t) (hs0_0 t) (hs0_1 t) (hs0_2 t) (hs0_3 t) (hs0_4 t) (hs0_5 t) (hs0_6 t) (hs0_7 t) (hs0_8 t)
    (hs0_9 t) (hs0_10 t) (hs0_11 t) (hs0_12 t) (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t)
  unfold out0_A_13
  rw [h₁]
  refine (View.read_writes_full _ _ _ _ _).trans (funext fun y => ?_)
  obtain ⟨r, d, rfl⟩ : ∃ (r : Fin 512) (d : Fin 1024), y = ix3 0 r d :=
    ⟨y 1, y 2, funext fun b => match b with
      | ⟨0, _⟩ => Subsingleton.elim (α := Fin 1) _ _
      | ⟨1, _⟩ => rfl
      | ⟨2, _⟩ => rfl⟩
  rw [h₂]
  refine Eq.trans ?_ (congrArg (result m c) (out_place t r d)).symm
  have e1 : ∀ d, iblk m c 2 t (ix3 0 (grid0.coords t 0) d) = _ := gate1_block m c t (batchAt t)
  have e2 : ∀ d, iblk m c 6 t (ix3 0 (grid0.coords t 0) d) = _ := shift_block m c t (batchAt t)
  have e3 : ∀ d, iblk m c 7 t (ix3 0 (grid0.coords t 0) d) = _ := scale_block m c t (batchAt t)
  have e4 : ∀ d, iblk m c 8 t (ix3 0 (grid0.coords t 0) d) = _ := gate2_block m c t (batchAt t)
  simp only [attRow, rows_block, att_block, wo_block, e1, e2, e3, e4, up_block, down_block, gain1_block, bias1_block,
    gain2_block, bias2_block]
  rfl

theorem coords_val : ∀ t : Fin cfg0.N,
    (grid0.coords t 0).val = t.val / 4 ∧ (grid0.coords t 1).val = t.val % 4 :=
  (by decide +kernel : ∀ t : Fin grid0.N,
    (grid0.coords t 0).val = t.val / 4 ∧ (grid0.coords t 1).val = t.val % 4)

/-- The grid's blocks tile the array. -/
theorem cover (y : S8x2048x1024.Idx) :
    ∃ t : Fin cfg0.N, (cfg0.win 13).flush t = true ∧ y ∈ ((cfg0.win 13).blk t).view.set := by
  have h0 : (y 0).val < 8 := (y 0).isLt
  have h1 : (y 1).val < 2048 := (y 1).isLt
  have h2 : (y 2).val < 1024 := (y 2).isLt
  refine ⟨⟨4 * (y 0).val + (y 1).val / 512, by rw [show cfg0.N = 32 from N_0]; omega⟩, flush0_13 _, ?_⟩
  have e := coords_val ⟨4 * (y 0).val + (y 1).val / 512, by rw [show cfg0.N = 32 from N_0]; omega⟩
  mem_blk [index13]
  rw [e.1, e.2]
  dsimp only
  omega

/-- So the result array ends holding the layer. -/
theorem final : (dats m 0 c).arrAt 13 cfg0.N = result m c :=
  (dats m 0 c).arrAt_eq_of_cover 13 (result m c) (fun t _ => flushed_eq m c t) cover

end

end Cert.Kernel2Ideal.Mlp
-- ==== Proof.OprojReference.lean ====
module
public import proofs.«01_k».proof.Proof.OprojFinal
public import proofs.«01_k».proof.Proof.HostRows
public import proofs.«01_k».proof.Proof.Gen.Reference2Ideal.Read

/-! # The second layer's output projection and feed-forward: the reference, element by element -/

set_option maxRecDepth 16384

namespace Cert.Reference2Ideal.Mlp

open Cert.Reference2Ideal Cert.Reference2Ideal.Read Cert.Rows Cert.HostRows Cert.Kernel2Ideal.Mlp Idealize.ShloMosaic
open Cert.Kernel3Ideal.Mlp (modRow)

@[expose] public section

variable (x : FVec Ideal S8x2048x1024 .f32) (o : FVec Ideal S8x2048x1024 .bf16) (ada : FVec Ideal S2x296x6144 .f32)
  (wo : FVec Ideal S1x1024x1024 .bf16) (g b : FVec Ideal S4x1x1024 .f32)
  (wu : FVec Ideal S2x1024x4096 .bf16) (wd : FVec Ideal S2x4096x1024 .bf16)

theorem gate1_apply (n : Fin 8) (d : Fin 1024) :
    val_main_v10 (F := Ideal) ada (ix3 n 0 d) = ada (ix3 1 (modRow n) ⟨2048 + d.val, by omega⟩) := by
  pointwise [val_main_v10, val_main_v4, val_main_v1, val_main_v0]

theorem shift_apply (n : Fin 8) (d : Fin 1024) :
    val_main_v11 (F := Ideal) ada (ix3 n 0 d) = ada (ix3 1 (modRow n) ⟨3072 + d.val, by omega⟩) := by
  pointwise [val_main_v11, val_main_v5, val_main_v1, val_main_v0]

theorem scale_apply (n : Fin 8) (d : Fin 1024) :
    val_main_v12 (F := Ideal) ada (ix3 n 0 d) = ada (ix3 1 (modRow n) ⟨4096 + d.val, by omega⟩) := by
  pointwise [val_main_v12, val_main_v6, val_main_v1, val_main_v0]

theorem gate2_apply (n : Fin 8) (d : Fin 1024) :
    val_main_v13 (F := Ideal) ada (ix3 n 0 d) = ada (ix3 1 (modRow n) ⟨5120 + d.val, by omega⟩) := by
  pointwise [val_main_v13, val_main_v7, val_main_v1, val_main_v0]

theorem up_apply (k : Fin 1024) (f : Fin 4096) : val_main_v59 (F := Ideal) wu (ix2 k f) = wu (ix3 1 k f) := by
  pointwise [val_main_v59, val_main_v58, val_main_v57]

theorem down_apply (f : Fin 4096) (d : Fin 1024) : val_main_v65 (F := Ideal) wd (ix2 f d) = wd (ix3 1 f d) := by
  pointwise [val_main_v65, val_main_v64, val_main_v63]

theorem gain1_apply (d : Fin 1024) : val_main_v24 (F := Ideal) g (ix1 d) = g (ix3 2 0 d) := by
  pointwise [val_main_v24, val_main_v23]

theorem bias1_apply (d : Fin 1024) : val_main_v26 (F := Ideal) b (ix1 d) = b (ix3 2 0 d) := by
  pointwise [val_main_v26, val_main_v25]

theorem gain2_apply (d : Fin 1024) : val_main_v73 (F := Ideal) g (ix1 d) = g (ix3 3 0 d) := by
  pointwise [val_main_v73, val_main_v72]

theorem bias2_apply (d : Fin 1024) : val_main_v75 (F := Ideal) b (ix1 d) = b (ix3 3 0 d) := by
  pointwise [val_main_v75, val_main_v74]

/-- The output projection. -/
theorem proj_apply (n : Fin 8) (s : Fin 2048) (d : Fin 1024) :
    val_main_v17 (F := Ideal) o wo (ix3 n s d) = proj (fun k => o (ix3 n s k)) (fun k d => wo (ix3 0 k d)) d := by
  pointwise [val_main_v17, val_main_v16, val_main_v15, val_main_v14, proj]

/-- The tokens after the attention's norm. -/
noncomputable def attArr : FVec Ideal S8x2048x1024 .f32 :=
  normArr (residArr x (val_main_v17 (F := Ideal) o wo) (val_main_v10 (F := Ideal) ada))
    (val_main_v24 (F := Ideal) g) (val_main_v26 (F := Ideal) b)

/-- The reference, as the whole-array operations. -/
theorem result_eq : val_main_v99 (F := Ideal) x o ada wo g b wu wd
    = normArr
        (residArr (attArr x o ada wo g b)
          (feedArr (modulArr (attArr x o ada wo g b) (val_main_v12 (F := Ideal) ada) (val_main_v11 (F := Ideal) ada))
            (val_main_v59 (F := Ideal) wu) (val_main_v65 (F := Ideal) wd))
          (val_main_v13 (F := Ideal) ada))
        (val_main_v73 (F := Ideal) g) (val_main_v75 (F := Ideal) b) := rfl

theorem attArr_apply (n : Fin 8) (s : Fin 2048) (d : Fin 1024) :
    attArr x o ada wo g b (ix3 n s d)
      = attended (fun d => x (ix3 n s d)) (fun k => o (ix3 n s k))
          (fun d => ada (ix3 1 (modRow n) ⟨2048 + d.val, by omega⟩)) (fun k d => wo (ix3 0 k d))
          (fun d => g (ix3 2 0 d)) (fun d => b (ix3 2 0 d)) d := by
  unfold attArr
  rw [normArr_apply]
  simp only [residArr_apply, proj_apply, gate1_apply, gain1_apply, bias1_apply]
  rfl

/-- The reference's result is the layer's second half of its arguments. -/
theorem result_apply (n : Fin 8) (s : Fin 2048) (d : Fin 1024) :
    val_main_v99 (F := Ideal) x o ada wo g b wu wd (ix3 n s d) = layerAt x o ada wo g b wu wd n s d := by
  rw [result_eq, normArr_apply]
  simp only [residArr_apply, feedArr_apply, modulArr_apply, attArr_apply, shift_apply, scale_apply, gate2_apply,
    up_apply, down_apply, gain2_apply, bias2_apply]
  rfl

end

end Cert.Reference2Ideal.Mlp
-- ==== Proof.OprojClaims.lean ====
module
public import proofs.«01_k».proof.Defs
public import proofs.«01_k».proof.Proof.OprojReference
public import proofs.«01_k».proof.Proof.Gen.Reference2Ideal.Run

/-! # The second layer's output projection and feed-forward: the kernel's result is the reference's -/

set_option maxRecDepth 16384

namespace Cert.Proof.Oproj

open Idealize.ShloMosaic Idealize.SL.Sem

@[expose] public section

/-- The reference's run leaves its arguments and the semaphores as they were. -/
theorem reference_frame [hReference2Ideal : Cert.Reference2Ideal.Facts] : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference's result array. -/
theorem reference_eq (m : (ℓ : Loc Cert.Kernel2Ideal.nD Cert.Kernel2Ideal.τ Cert.Kernel2Ideal.sig) → Buf (Elt Ideal) ℓ)
    (c : Dev Cert.Kernel2Ideal.nD) (y : Cert.Reference2Ideal.S8x2048x1024.Idx) :
    Cert.Reference2Ideal.Read.val_main_v99 (F := Ideal) (m (c.tc.loc Cert.Kernel2Ideal.main_arg0))
        (m (c.tc.loc Cert.Kernel2Ideal.main_arg1)) (m (c.tc.loc Cert.Kernel2Ideal.main_arg2))
        (m (c.tc.loc Cert.Kernel2Ideal.main_arg3)) (m (c.tc.loc Cert.Kernel2Ideal.main_arg4))
        (m (c.tc.loc Cert.Kernel2Ideal.main_arg5)) (m (c.tc.loc Cert.Kernel2Ideal.main_arg6))
        (m (c.tc.loc Cert.Kernel2Ideal.main_arg7)) y
      = Cert.Kernel2Ideal.Mlp.result m c y := by
  obtain ⟨n, s, d, rfl⟩ : ∃ (n : Fin 8) (s : Fin 2048) (d : Fin 1024), y = ix3 n s d :=
    ⟨y 0, y 1, y 2, funext fun b => match b with
      | ⟨0, _⟩ => rfl
      | ⟨1, _⟩ => rfl
      | ⟨2, _⟩ => rfl⟩
  exact Cert.Reference2Ideal.Mlp.result_apply _ _ _ _ _ _ _ _ n s d

/-- Kernel and reference compute the same array. -/
theorem algebraic : Cert.algebraic_Kernel2Ideal_Reference2Ideal := by
  intro m g m' g' _ hagree
  refine ⟨fun c => Cert.Kernel2Ideal.Mlp.result m c, ?_, ?_⟩
  · exact (θ_run Cert.Kernel2Ideal.defs _ _).mono
      (fun _ h c => ⟨(h c).1.trans (Cert.Kernel2Ideal.Mlp.final m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    obtain ⟨h0, h1, h2, h3, h4, h5, h6, h7⟩ := hagree c
    rw [Cert.Reference2Ideal.Read.val_main_v99_eq]
    change Cert.Reference2Ideal.Read.val_main_v99 (F := Ideal) (m' (c.tc.loc Cert.Reference2Ideal.main_arg0))
      (m' (c.tc.loc Cert.Reference2Ideal.main_arg1)) (m' (c.tc.loc Cert.Reference2Ideal.main_arg2))
      (m' (c.tc.loc Cert.Reference2Ideal.main_arg3)) (m' (c.tc.loc Cert.Reference2Ideal.main_arg4))
      (m' (c.tc.loc Cert.Reference2Ideal.main_arg5)) (m' (c.tc.loc Cert.Reference2Ideal.main_arg6))
      (m' (c.tc.loc Cert.Reference2Ideal.main_arg7)) = _
    rw [h0, h1, h2, h3, h4, h5, h6, h7]
    exact funext fun y => reference_eq m c y

end

end Cert.Proof.Oproj
-- ==== Proof.KvqRun.lean ====
module
public import proofs.«01_k».proof.Proof.Loads
public import proofs.«01_k».proof.Proof.Gen.Kernel4Ideal.Value
public import Idealize.ShloMosaic.Lib.Pointwise

/-! # What one grid step of the keys, values and queries stores -/

set_option maxRecDepth 16384

namespace Cert.Kernel4Ideal.Kvq

open Cert.Kernel4Ideal Cert.Kernel4Ideal.Gen Cert.Loads Idealize.ShloMosaic Idealize.ShloMosaic.Pipeline

@[expose] public section

variable {F : FTy → Type} [FloatOps F]

section Step

variable (i : grid0.Coords) {c : Dev nD}
  {arg2 : Memref sig .tc .vmem S1x512x1024 .f32} (harg2 : arg2.IsWhole)
  {arg3 : Memref sig .tc .vmem S1x8x1024 .f32} (harg3 : arg3.IsWhole)
  {arg4 : Memref sig .tc .vmem S1x8x1024 .f32} (harg4 : arg4.IsWhole)
  {arg5 : Memref sig .tc .vmem S1024x2048 .bf16} (harg5 : arg5.IsWhole)
  {arg6 : Memref sig .tc .vmem S1x1024x1024 .bf16} (harg6 : arg6.IsWhole)
  {arg7 : Memref sig .tc .vmem S1x512x1024 .f32} {harg7 : arg7.IsWhole}
  {arg8 : Memref sig .tc .vmem S1x512x1024 .f32} {harg8 : arg8.IsWhole}
  {arg9 : Memref sig .tc .vmem S1x512x1024 .bf16} {harg9 : arg9.IsWhole}
  {arg10 : Memref sig .tc .vmem S1x2x1024x256 .bf16} {harg10 : arg10.IsWhole}
  {arg11 : Memref sig .tc .vmem S1x512x1024 .bf16} {harg11 : arg11.IsWhole}
  (x0 : Vec F S1x512x1024 .f32) (x1 x2 : Vec F S1x8x1024 .f32) (x3 : Vec F S1024x2048 .bf16)
  (x4 : Vec F S1x1024x1024 .bf16)

/-- The weights of the keys and values. -/
noncomputable def wkvOf : Vec F S1024x2048 .bf16 :=
  View.readAt (Elt F) arg5.view
    (Rect.unit (s := S1024x2048) ![0, 0] S1024x2048.size inb_S1024x2048_S1024x2048_0_0).toLoadRect
    (harg5.unread x3)

/-- The weights of the queries. -/
noncomputable def wqOf : Vec F S1x1024x1024 .bf16 :=
  View.readAt (Elt F) arg6.view
    (Rect.unit (s := S1x1024x1024) ![0, 0, 0] S1x1024x1024.size inb_S1x1024x1024_S1x1024x1024_0_0_0).toLoadRect
    (harg6.unread x4)

/-- The modulated rows. -/
noncomputable def hid : FVec F S512x1024 .bf16 :=
  k0_pay11 (k0_pay2 (rowsOf harg2 x0)) (row i harg4 x2) (row i harg3 x1)

/-- The run's stores of the keys. -/
theorem store_keys :
    (kernelRun0_A c i arg2 harg2 arg3 harg3 arg4 harg4 arg5 harg5 arg6 harg6 arg7 harg7 arg8 harg8
        arg9 harg9 arg10 harg10 arg11 harg11 x0 x1 x2 x3 x4).1
      = [⟨Rect.unit ![0, 0, 0] S1x512x1024.size inb_S1x512x1024_S1x512x1024_0_0_0,
          k0_pay6 (rowsOf harg2 x0) (wkvOf harg5 x3)⟩] := by
  delta kernelRun0_A
  exact rfl

/-- The run's stores of the values. -/
theorem store_values :
    (kernelRun0_A c i arg2 harg2 arg3 harg3 arg4 harg4 arg5 harg5 arg6 harg6 arg7 harg7 arg8 harg8
        arg9 harg9 arg10 harg10 arg11 harg11 x0 x1 x2 x3 x4).2.1
      = [⟨Rect.unit ![0, 0, 0] S1x512x1024.size inb_S1x512x1024_S1x512x1024_0_0_0,
          k0_pay7 (rowsOf harg2 x0) (wkvOf harg5 x3)⟩] := by
  delta kernelRun0_A
  exact rfl

/-- The run's stores of the keys in bf16. -/
theorem store_keys2 :
    (kernelRun0_A c i arg2 harg2 arg3 harg3 arg4 harg4 arg5 harg5 arg6 harg6 arg7 harg7 arg8 harg8
        arg9 harg9 arg10 harg10 arg11 harg11 x0 x1 x2 x3 x4).2.2.1
      = [⟨Rect.unit ![0, 0, 0] S1x512x1024.size inb_S1x512x1024_S1x512x1024_0_0_0,
          k0_pay8 (rowsOf harg2 x0) (wkvOf harg5 x3)⟩] := by
  delta kernelRun0_A
  exact rfl

/-- The run's stores of the values in bf16, two blocks with the positions last. -/
theorem store_values2 :
    (kernelRun0_A c i arg2 harg2 arg3 harg3 arg4 harg4 arg5 harg5 arg6 harg6 arg7 harg7 arg8 harg8
        arg9 harg9 arg10 harg10 arg11 harg11 x0 x1 x2 x3 x4).2.2.2.1
      = [⟨Rect.unit ![0, 1, 0, 0] S1x1x1024x256.size inb_S1x2x1024x256_S1x1x1024x256_0_1_0_0,
          k0_pay10 (rowsOf harg2 x0) (wkvOf harg5 x3)⟩,
         ⟨Rect.unit ![0, 0, 0, 0] S1x1x1024x256.size inb_S1x2x1024x256_S1x1x1024x256_0_0_0_0,
          k0_pay9 (rowsOf harg2 x0) (wkvOf harg5 x3)⟩] := by
  delta kernelRun0_A
  exact rfl

/-- The run's stores of the queries. -/
theorem store_queries :
    (kernelRun0_A c i arg2 harg2 arg3 harg3 arg4 harg4 arg5 harg5 arg6 harg6 arg7 harg7 arg8 harg8
        arg9 harg9 arg10 harg10 arg11 harg11 x0 x1 x2 x3 x4).2.2.2.2.1
      = [⟨Rect.unit ![0, 0, 0] S1x512x1024.size inb_S1x512x1024_S1x512x1024_0_0_0,
          k0_pay1 (hid i harg2 harg3 harg4 x0 x1 x2) (wqOf harg6 x4)⟩] := by
  delta kernelRun0_A
  exact rfl

end Step

/-! ## Element by element -/

section Elements

open Cert.Rows

/-- A product of a row with weights. -/
noncomputable def dot {n : ℕ} (x : Fin 1024 → EReal) (w : Fin 1024 → Fin n → EReal) (e : Fin n) : EReal :=
  ∑ k, x k * w k e

/-- The place of a value in the joint array of keys and values. -/
abbrev vcol (d : Fin 1024) : Fin 2048 := ⟨1024 + d.val, by omega⟩

/-- The place of a key in the joint array of keys and values. -/
abbrev kcol (d : Fin 1024) : Fin 2048 := ⟨d.val, by omega⟩

/-- A row's query. -/
noncomputable def query (x sc sh : Fin 1024 → EReal) (w : Fin 1024 → Fin 1024 → EReal) (d : Fin 1024) : EReal :=
  dot (modul x sc sh) w d * Ideal.ofBits .f32 0x3E000000#32

variable (x : FVec Ideal S1x512x1024 .f32) (w : FVec Ideal S1024x2048 .bf16)

theorem pay6_apply (r : Fin 512) (d : Fin 1024) :
    k0_pay6 (F := Ideal) x w (ix3 0 r d) = dot (fun k => x (ix3 0 r k)) (fun k e => w (ix2 k e)) (kcol d) := by
  pointwise [k0_pay6, k0_pay4, k0_pay3, k0_pay2, dot]

theorem pay7_apply (r : Fin 512) (d : Fin 1024) :
    k0_pay7 (F := Ideal) x w (ix3 0 r d) = dot (fun k => x (ix3 0 r k)) (fun k e => w (ix2 k e)) (vcol d) := by
  pointwise [k0_pay7, k0_pay5, k0_pay3, k0_pay2, dot]

theorem pay8_apply (r : Fin 512) (d : Fin 1024) :
    k0_pay8 (F := Ideal) x w (ix3 0 r d) = dot (fun k => x (ix3 0 r k)) (fun k e => w (ix2 k e)) (kcol d) := by
  pointwise [k0_pay8, k0_pay4, k0_pay3, k0_pay2, dot]

theorem pay9_apply (d : Fin 1024) (j : Fin 256) :
    k0_pay9 (F := Ideal) x w (ix4 0 0 d j)
      = dot (fun k => x (ix3 0 ⟨j.val, by omega⟩ k)) (fun k e => w (ix2 k e)) (vcol d) := by
  pointwise [k0_pay9, k0_pay5, k0_pay3, k0_pay2, dot]

theorem pay10_apply (d : Fin 1024) (j : Fin 256) :
    k0_pay10 (F := Ideal) x w (ix4 0 0 d j)
      = dot (fun k => x (ix3 0 ⟨256 + j.val, by omega⟩ k)) (fun k e => w (ix2 k e)) (vcol d) := by
  pointwise [k0_pay10, k0_pay5, k0_pay3, k0_pay2, dot]

theorem pay1_apply (h : FVec Ideal S512x1024 .bf16) (w : FVec Ideal S1x1024x1024 .bf16) (r : Fin 512) (d : Fin 1024) :
    k0_pay1 (F := Ideal) h w (ix3 0 r d)
      = dot (fun k => h (ix2 r k)) (fun k e => w (ix3 0 k e)) d * Ideal.ofBits .f32 0x3E000000#32 := by
  pointwise [k0_pay1, dot]

theorem pay11_apply (sc sh : FVec Ideal S1x1x1024 .f32) (r : Fin 512) (d : Fin 1024) :
    k0_pay11 (F := Ideal) (k0_pay2 x) sc sh (ix2 r d)
      = modul (fun d => x (ix3 0 r d)) (fun d => sc (ix3 0 0 d)) (fun d => sh (ix3 0 0 d)) d := by
  pointwise [k0_pay11, k0_pay2, modul]

theorem wkvOf_apply {arg5 : Memref sig .tc .vmem S1024x2048 .bf16} (harg5 : arg5.IsWhole) (k : Fin 1024) (e : Fin 2048) :
    wkvOf (F := Ideal) harg5 w (ix2 k e) = w (ix2 k e) := by
  unfold wkvOf
  rw [View.readAt_eq_ld, harg5.read_unread]
  pointwise

theorem wqOf_apply {arg6 : Memref sig .tc .vmem S1x1024x1024 .bf16} (harg6 : arg6.IsWhole)
    (w : FVec Ideal S1x1024x1024 .bf16) (k d : Fin 1024) : wqOf (F := Ideal) harg6 w (ix3 0 k d) = w (ix3 0 k d) := by
  unfold wqOf
  rw [View.readAt_eq_ld, harg6.read_unread]
  pointwise

end Elements

end

end Cert.Kernel4Ideal.Kvq
-- ==== Proof.KvqFinal.lean ====
module
public import proofs.«01_k».proof.Proof.KvqRun
public import proofs.«01_k».proof.Proof.MlpFinal

/-! # The keys, values and queries: the kernel's result arrays -/

set_option maxRecDepth 16384

namespace Cert.Kernel4Ideal.Kvq

open Cert.Kernel4Ideal Cert.Kernel4Ideal.Gen Cert.Rows Cert.Loads Idealize.ShloMosaic Idealize.ShloMosaic.Pipeline
open Cert.Kernel3Ideal.Mlp (modRow)

@[expose] public section

/-! ## The windows -/

section Windows

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

theorem index1 : ∀ t : Fin cfg0.N, win0_1.index t = ![1, 32, 0] :=
  (by decide +kernel : ∀ t : Fin grid0.N, win0_1.index t = ![1, 32, 0])

theorem index2 : ∀ t : Fin cfg0.N, win0_2.index t = ![1, 32, 1] :=
  (by decide +kernel : ∀ t : Fin grid0.N, win0_2.index t = ![1, 32, 1])

theorem index3 : ∀ t : Fin cfg0.N, win0_3.index t = ![0, 0] :=
  (by decide +kernel : ∀ t : Fin grid0.N, win0_3.index t = ![0, 0])

theorem index4 : ∀ t : Fin cfg0.N, win0_4.index t = ![0, 0, 0] :=
  (by decide +kernel : ∀ t : Fin grid0.N, win0_4.index t = ![0, 0, 0])

theorem index5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])

theorem index6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])

theorem index7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

theorem index8 : ∀ t : Fin cfg0.N, win0_8.index t = ![(grid0.coords t 0).val, (grid0.coords t 1).val, 0, 0] :=
  (by decide +kernel : ∀ t : Fin grid0.N, win0_8.index t = ![(grid0.coords t 0).val, (grid0.coords t 1).val, 0, 0])

theorem index9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])

variable (m : (ℓ : Loc nD τ sig) → Buf (Elt Ideal) ℓ) (c : Dev nD) (t : Fin cfg0.N)

/-- The batch row of a grid point. -/
abbrev batchAt (t : Fin cfg0.N) : Fin 8 := grid0.coords t 0

/-- The sequence position of row `r` of a grid point's block. -/
abbrev posAt (t : Fin cfg0.N) (r : Fin 512) : Fin 2048 :=
  ⟨512 * (grid0.coords t 1).val + r.val, by have : (grid0.coords t 1).val < 4 := (grid0.coords t 1).isLt; omega⟩

theorem rows_block (r : Fin 512) (d : Fin 1024) :
    iblk m c 0 t (ix3 0 r d) = m (c.tc.loc main_arg0) (ix3 (batchAt t) (posAt t r) d) := by
  refine congrArg (m (c.tc.loc main_arg0)) (place_ext ?_ ?_ ?_) <;> blk_simp [index0]
  · rfl
  · exact congrArg (· + r.val) (Nat.mul_comm _ _)

theorem shift_block (b : Fin 8) (d : Fin 1024) :
    iblk m c 1 t (ix3 0 b d) = m (c.tc.loc main_arg1) (ix3 1 (modRow b) ⟨d.val, by omega⟩) := by
  refine congrArg (m (c.tc.loc main_arg1)) (place_ext ?_ ?_ ?_) <;> blk_simp [index1] <;> rfl

theorem scale_block (b : Fin 8) (d : Fin 1024) :
    iblk m c 2 t (ix3 0 b d) = m (c.tc.loc main_arg1) (ix3 1 (modRow b) ⟨1024 + d.val, by omega⟩) := by
  refine congrArg (m (c.tc.loc main_arg1)) (place_ext ?_ ?_ ?_) <;> blk_simp [index2] <;> rfl

theorem wkv_block (k : Fin 1024) (e : Fin 2048) :
    iblk m c 3 t (ix2 k e) = m (c.tc.loc main_arg2) (ix2 k e) := by
  refine congrArg (m (c.tc.loc main_arg2)) (funext fun a => Fin.ext ?_)
  match a with
  | ⟨0, _⟩ => blk_simp [index3] <;> rfl
  | ⟨1, _⟩ => blk_simp [index3] <;> rfl

theorem wq_block (k d : Fin 1024) :
    iblk m c 4 t (ix3 0 k d) = m (c.tc.loc main_arg3) (ix3 0 k d) := by
  refine congrArg (m (c.tc.loc main_arg3)) (place_ext ?_ ?_ ?_) <;> blk_simp [index4] <;> rfl

end Windows

/-! ## The results -/

/-- A column of the joint keys and values of a token. -/
noncomputable def kvAt (x : (⟨3, ![8, 2048, 1024]⟩ : Shape).Idx → EReal) (w : (⟨2, ![1024, 2048]⟩ : Shape).Idx → EReal)
    (n : Fin 8) (s : Fin 2048) : Fin 2048 → EReal :=
  dot (fun k => x (ix3 n s k)) (fun k e => w (ix2 k e))

/-- The query of a token. -/
noncomputable def queryAt (x : (⟨3, ![8, 2048, 1024]⟩ : Shape).Idx → EReal) (ada : (⟨3, ![2, 296, 6144]⟩ : Shape).Idx → EReal)
    (w : (⟨3, ![1, 1024, 1024]⟩ : Shape).Idx → EReal) (n : Fin 8) (s : Fin 2048) : Fin 1024 → EReal :=
  query (fun k => x (ix3 n s k)) (fun d => ada (ix3 1 (modRow n) ⟨1024 + d.val, by omega⟩))
    (fun d => ada (ix3 1 (modRow n) ⟨d.val, by omega⟩)) (fun k d => w (ix3 0 k d))

/-- The position of column `j` of block `p` of the transposed values. -/
abbrev blockPos (p : Fin 8) (j : Fin 256) : Fin 2048 := ⟨256 * p.val + j.val, by omega⟩

section Results

variable (m : (ℓ : Loc nD τ sig) → Buf (Elt Ideal) ℓ) (c : Dev nD)

/-- The keys. -/
noncomputable def keys : S8x2048x1024.Idx → EReal := fun y =>
  kvAt (m (c.tc.loc main_arg0)) (m (c.tc.loc main_arg2)) (y 0) (y 1) (kcol (y 2))

/-- The values. -/
noncomputable def values : S8x2048x1024.Idx → EReal := fun y =>
  kvAt (m (c.tc.loc main_arg0)) (m (c.tc.loc main_arg2)) (y 0) (y 1) (vcol (y 2))

/-- The values in blocks of 256 positions, the positions last. -/
noncomputable def valuesT : S8x8x1024x256.Idx → EReal := fun y =>
  kvAt (m (c.tc.loc main_arg0)) (m (c.tc.loc main_arg2)) (y 0) (blockPos (y 1) (y 3)) (vcol (y 2))

/-- The queries. -/
noncomputable def queries : S8x2048x1024.Idx → EReal := fun y =>
  queryAt (m (c.tc.loc main_arg0)) (m (c.tc.loc main_arg1)) (m (c.tc.loc main_arg3)) (y 0) (y 1) (y 2)

/-! ## What a grid step stores -/

variable (t : Fin cfg0.N)

/-- A grid step's keys. -/
theorem keys_step (r : Fin 512) (d : Fin 1024) :
    k0_pay6 (F := Ideal) (rowsOf (hs0_0 t) (iblk m c 0 t)) (wkvOf (hs0_3 t) (iblk m c 3 t)) (ix3 0 r d)
      = keys m c (ix3 (batchAt t) (posAt t r) d) := by
  rw [pay6_apply]
  simp only [rowsOf_apply, wkvOf_apply, rows_block, wkv_block]
  rfl

/-- A grid step's values. -/
theorem values_step (r : Fin 512) (d : Fin 1024) :
    k0_pay7 (F := Ideal) (rowsOf (hs0_0 t) (iblk m c 0 t)) (wkvOf (hs0_3 t) (iblk m c 3 t)) (ix3 0 r d)
      = values m c (ix3 (batchAt t) (posAt t r) d) := by
  rw [pay7_apply]
  simp only [rowsOf_apply, wkvOf_apply, rows_block, wkv_block]
  rfl

/-- A grid step's keys in bf16. -/
theorem keys2_step (r : Fin 512) (d : Fin 1024) :
    k0_pay8 (F := Ideal) (rowsOf (hs0_0 t) (iblk m c 0 t)) (wkvOf (hs0_3 t) (iblk m c 3 t)) (ix3 0 r d)
      = keys m c (ix3 (batchAt t) (posAt t r) d) := by
  rw [pay8_apply]
  simp only [rowsOf_apply, wkvOf_apply, rows_block, wkv_block]
  rfl

/-- The block of transposed values of a grid step's first or last 256 rows. -/
abbrev blockAt (p : Fin 2) : Fin 8 :=
  ⟨2 * (grid0.coords t 1).val + p.val, by have : (grid0.coords t 1).val < 4 := (grid0.coords t 1).isLt; omega⟩

/-- A grid step's first block of transposed values. -/
theorem valuesT_step0 (d : Fin 1024) (j : Fin 256) :
    k0_pay9 (F := Ideal) (rowsOf (hs0_0 t) (iblk m c 0 t)) (wkvOf (hs0_3 t) (iblk m c 3 t)) (ix4 0 0 d j)
      = valuesT m c (ix4 (batchAt t) (blockAt t 0) d j) := by
  rw [pay9_apply]
  simp only [rowsOf_apply, wkvOf_apply, rows_block, wkv_block]
  have e : posAt t ⟨j.val, by omega⟩ = blockPos (blockAt t 0) j :=
    Fin.ext (show 512 * (grid0.coords t 1).val + j.val = 256 * (2 * (grid0.coords t 1).val + 0) + j.val by omega)
  rw [e]
  rfl

/-- A grid step's second block of transposed values. -/
theorem valuesT_step1 (d : Fin 1024) (j : Fin 256) :
    k0_pay10 (F := Ideal) (rowsOf (hs0_0 t) (iblk m c 0 t)) (wkvOf (hs0_3 t) (iblk m c 3 t)) (ix4 0 0 d j)
      = valuesT m c (ix4 (batchAt t) (blockAt t 1) d j) := by
  rw [pay10_apply]
  simp only [rowsOf_apply, wkvOf_apply, rows_block, wkv_block]
  have e : posAt t ⟨256 + j.val, by omega⟩ = blockPos (blockAt t 1) j :=
    Fin.ext (show 512 * (grid0.coords t 1).val + (256 + j.val) = 256 * (2 * (grid0.coords t 1).val + 1) + j.val by omega)
  rw [e]
  rfl

/-- A grid step's queries. -/
theorem queries_step (r : Fin 512) (d : Fin 1024) :
    k0_pay1 (F := Ideal)
        (hid (grid0.coords t) (hs0_0 t) (hs0_1 t) (hs0_2 t) (iblk m c 0 t) (iblk m c 1 t) (iblk m c 2 t))
        (wqOf (hs0_4 t) (iblk m c 4 t)) (ix3 0 r d)
      = queries m c (ix3 (batchAt t) (posAt t r) d) := by
  rw [pay1_apply]
  unfold hid
  have e1 : ∀ d, iblk m c 1 t (ix3 0 (grid0.coords t 0) d) = _ := shift_block m c t (batchAt t)
  have e2 : ∀ d, iblk m c 2 t (ix3 0 (grid0.coords t 0) d) = _ := scale_block m c t (batchAt t)
  simp only [pay11_apply, rowsOf_apply, row_apply, wqOf_apply, rows_block, wq_block, e1, e2]
  rfl

end Results

end

end Cert.Kernel4Ideal.Kvq
-- ==== Proof.KvqArrays.lean ====
module
public import proofs.«01_k».proof.Proof.KvqFinal

/-! # The keys, values and queries: the result arrays after the whole grid -/

set_option maxRecDepth 16384

namespace Cert.Kernel4Ideal.Kvq

open Cert.Kernel4Ideal Cert.Kernel4Ideal.Gen Cert.Rows Cert.Loads Idealize.ShloMosaic Idealize.ShloMosaic.Pipeline

@[expose] public section

variable (m : (ℓ : Loc nD τ sig) → Buf (Elt Ideal) ℓ) (c : Dev nD) (t : Fin cfg0.N)

/-- An element of a block of rows. -/
theorem block_cases (y : S1x512x1024.Idx) : ∃ (r : Fin 512) (d : Fin 1024), y = ix3 0 r d :=
  ⟨y 1, y 2, funext fun b => match b with
    | ⟨0, _⟩ => Subsingleton.elim (α := Fin 1) _ _
    | ⟨1, _⟩ => rfl
    | ⟨2, _⟩ => rfl⟩

/-- The grid point of a token. -/
theorem point_of (n : Fin 8) (q : Fin 4) :
    ∃ t : Fin cfg0.N, (grid0.coords t 0).val = n.val ∧ (grid0.coords t 1).val = q.val := by
  have e : ∀ t : Fin cfg0.N, (grid0.coords t 0).val = t.val / 4 ∧ (grid0.coords t 1).val = t.val % 4 :=
    (by decide +kernel : ∀ t : Fin grid0.N, (grid0.coords t 0).val = t.val / 4 ∧ (grid0.coords t 1).val = t.val % 4)
  refine ⟨⟨4 * n.val + q.val, by rw [show cfg0.N = 32 from N_0]; omega⟩, ?_⟩
  rw [(e _).1, (e _).2]
  dsimp only
  omega

/-! ## The keys -/

/-- What a grid step writes back is its block of the keys. -/
theorem flushed5_eq :
    (dats m 0 c).flushed 5 t = ((cfg0.win 5).blk t).view.read (Elt Ideal) (keys m c) := by
  rw [Value.flushed5_A]
  unfold out0_A_5
  rw [store_keys]
  refine (View.read_writes_full _ _ _ _ _).trans (funext fun y => ?_)
  obtain ⟨r, d, rfl⟩ := block_cases y
  have place : (((cfg0.win 5).blk t).view.emb (ix3 0 r d) : S8x2048x1024.Idx) = ix3 (batchAt t) (posAt t r) d := by
    refine place_ext ?_ ?_ ?_ <;> blk_simp [index5]
    · rfl
    · exact congrArg (· + r.val) (Nat.mul_comm _ _)
  exact (keys_step m c t r d).trans (congrArg (keys m c) place).symm

/-- The grid's blocks tile the array. -/
theorem cover5 (y : S8x2048x1024.Idx) :
    ∃ t : Fin cfg0.N, (cfg0.win 5).flush t = true ∧ y ∈ ((cfg0.win 5).blk t).view.set := by
  have h1 : (y 1).val < 2048 := (y 1).isLt
  have h2 : (y 2).val < 1024 := (y 2).isLt
  obtain ⟨t, e0, e1⟩ := point_of (y 0) ⟨(y 1).val / 512, by omega⟩
  refine ⟨t, flush0_5 t, ?_⟩
  mem_blk [index5]
  rw [e0, e1]
  dsimp only
  omega

/-- So the array ends holding the keys. -/
theorem final5 : (dats m 0 c).arrAt 5 cfg0.N = keys m c :=
  (dats m 0 c).arrAt_eq_of_cover 5 (keys m c) (fun t _ => flushed5_eq m c t) cover5

/-! ## The values -/

/-- What a grid step writes back is its block of the values. -/
theorem flushed6_eq :
    (dats m 0 c).flushed 6 t = ((cfg0.win 6).blk t).view.read (Elt Ideal) (values m c) := by
  rw [Value.flushed6_A]
  unfold out0_A_6
  rw [store_values]
  refine (View.read_writes_full _ _ _ _ _).trans (funext fun y => ?_)
  obtain ⟨r, d, rfl⟩ := block_cases y
  have place : (((cfg0.win 6).blk t).view.emb (ix3 0 r d) : S8x2048x1024.Idx) = ix3 (batchAt t) (posAt t r) d := by
    refine place_ext ?_ ?_ ?_ <;> blk_simp [index6]
    · rfl
    · exact congrArg (· + r.val) (Nat.mul_comm _ _)
  exact (values_step m c t r d).trans (congrArg (values m c) place).symm

/-- The grid's blocks tile the array. -/
theorem cover6 (y : S8x2048x1024.Idx) :
    ∃ t : Fin cfg0.N, (cfg0.win 6).flush t = true ∧ y ∈ ((cfg0.win 6).blk t).view.set := by
  have h1 : (y 1).val < 2048 := (y 1).isLt
  have h2 : (y 2).val < 1024 := (y 2).isLt
  obtain ⟨t, e0, e1⟩ := point_of (y 0) ⟨(y 1).val / 512, by omega⟩
  refine ⟨t, flush0_6 t, ?_⟩
  mem_blk [index6]
  rw [e0, e1]
  dsimp only
  omega

/-- So the array ends holding the values. -/
theorem final6 : (dats m 0 c).arrAt 6 cfg0.N = values m c :=
  (dats m 0 c).arrAt_eq_of_cover 6 (values m c) (fun t _ => flushed6_eq m c t) cover6

/-! ## The keys in bf16 -/

/-- What a grid step writes back is its block of the keys in bf16. -/
theorem flushed7_eq :
    (dats m 0 c).flushed 7 t = ((cfg0.win 7).blk t).view.read (Elt Ideal) (keys m c) := by
  rw [Value.flushed7_A]
  unfold out0_A_7
  rw [store_keys2]
  refine (View.read_writes_full _ _ _ _ _).trans (funext fun y => ?_)
  obtain ⟨r, d, rfl⟩ := block_cases y
  have place : (((cfg0.win 7).blk t).view.emb (ix3 0 r d) : S8x2048x1024.Idx) = ix3 (batchAt t) (posAt t r) d := by
    refine place_ext ?_ ?_ ?_ <;> blk_simp [index7]
    · rfl
    · exact congrArg (· + r.val) (Nat.mul_comm _ _)
  exact (keys2_step m c t r d).trans (congrArg (keys m c) place).symm

/-- The grid's blocks tile the array. -/
theorem cover7 (y : S8x2048x1024.Idx) :
    ∃ t : Fin cfg0.N, (cfg0.win 7).flush t = true ∧ y ∈ ((cfg0.win 7).blk t).view.set := by
  have h1 : (y 1).val < 2048 := (y 1).isLt
  have h2 : (y 2).val < 1024 := (y 2).isLt
  obtain ⟨t, e0, e1⟩ := point_of (y 0) ⟨(y 1).val / 512, by omega⟩
  refine ⟨t, flush0_7 t, ?_⟩
  mem_blk [index7]
  rw [e0, e1]
  dsimp only
  omega

/-- So the array ends holding the keys in bf16. -/
theorem final7 : (dats m 0 c).arrAt 7 cfg0.N = keys m c :=
  (dats m 0 c).arrAt_eq_of_cover 7 (keys m c) (fun t _ => flushed7_eq m c t) cover7

/-! ## The transposed values -/

/-- An element of a grid step's transposed values. -/
theorem block_cases8 (y : S1x2x1024x256.Idx) :
    ∃ (p : Fin 2) (d : Fin 1024) (j : Fin 256), y = ix4 0 p d j :=
  ⟨y 1, y 2, y 3, funext fun b => match b with
    | ⟨0, _⟩ => Subsingleton.elim (α := Fin 1) _ _
    | ⟨1, _⟩ => rfl
    | ⟨2, _⟩ => rfl
    | ⟨3, _⟩ => rfl⟩

/-- Where a grid step's transposed values lie in the array. -/
theorem place8 (p : Fin 2) (d : Fin 1024) (j : Fin 256) :
    (((cfg0.win 8).blk t).view.emb (ix4 0 p d j) : S8x8x1024x256.Idx) = ix4 (batchAt t) (blockAt t p) d j := by
  refine funext fun a => Fin.ext ?_
  match a with
  | ⟨0, _⟩ => blk_simp [index8] <;> rfl
  | ⟨1, _⟩ => blk_simp [index8]; exact congrArg (· + p.val) (Nat.mul_comm _ _)
  | ⟨2, _⟩ => blk_simp [index8] <;> rfl
  | ⟨3, _⟩ => blk_simp [index8] <;> rfl

/-- After the two stores each half holds its own. -/
theorem read_halves (v : View sig .tc .vmem S1x2x1024x256 .bf16) (f : v.ty.Contents (Elt Ideal))
    (w w' : FVec Ideal S1x1x1024x256 .bf16) (d : Fin 1024) (j : Fin 256) :
    let L := [(⟨Rect.unit ![0, 1, 0, 0] S1x1x1024x256.size inb_S1x2x1024x256_S1x1x1024x256_0_1_0_0, w'⟩ :
        View.Piece (Elt Ideal) S1x2x1024x256 .bf16),
      ⟨Rect.unit ![0, 0, 0, 0] S1x1x1024x256.size inb_S1x2x1024x256_S1x1x1024x256_0_0_0_0, w⟩]
    v.read (Elt Ideal) (v.writes (Elt Ideal) f L) (ix4 0 0 d j) = w (ix4 0 0 d j)
      ∧ v.read (Elt Ideal) (v.writes (Elt Ideal) f L) (ix4 0 1 d j) = w' (ix4 0 0 d j) := by
  refine ⟨(View.read_writes_cons_unit_of_not_mem v f _ _ _ _ rfl 1 (Or.inl Nat.zero_lt_one)).trans
    (View.read_writes_cons_unit_of_mem v f _ _ _ _ (ix4 0 0 d j) rfl fun a => ?_),
    View.read_writes_cons_unit_of_mem v f _ _ _ _ (ix4 0 0 d j) rfl fun a => ?_⟩
  · match a with
    | ⟨0, _⟩ => rfl
    | ⟨1, _⟩ => rfl
    | ⟨2, _⟩ => exact (Nat.zero_add d.val).symm
    | ⟨3, _⟩ => exact (Nat.zero_add j.val).symm
  · match a with
    | ⟨0, _⟩ => rfl
    | ⟨1, _⟩ => rfl
    | ⟨2, _⟩ => exact (Nat.zero_add d.val).symm
    | ⟨3, _⟩ => exact (Nat.zero_add j.val).symm

/-- What a grid step writes back is its block of the transposed values. -/
theorem flushed8_eq :
    (dats m 0 c).flushed 8 t = ((cfg0.win 8).blk t).view.read (Elt Ideal) (valuesT m c) := by
  rw [Value.flushed8_A]
  unfold out0_A_8
  rw [store_values2]
  refine funext fun y => ?_
  obtain ⟨p, d, j, rfl⟩ := block_cases8 y
  refine Eq.trans ?_ (congrArg (valuesT m c) (place8 t p d j)).symm
  have h := read_halves VO0_8 VO0_8.junk (k0_pay9 (F := Ideal) (rowsOf (hs0_0 t) (iblk m c 0 t)) (wkvOf (hs0_3 t) (iblk m c 3 t)))
    (k0_pay10 (F := Ideal) (rowsOf (hs0_0 t) (iblk m c 0 t)) (wkvOf (hs0_3 t) (iblk m c 3 t))) d j
  match p with
  | 0 => exact h.1.trans (valuesT_step0 m c t d j)
  | 1 => exact h.2.trans (valuesT_step1 m c t d j)

/-- The grid's blocks tile the array. -/
theorem cover8 (y : S8x8x1024x256.Idx) :
    ∃ t : Fin cfg0.N, (cfg0.win 8).flush t = true ∧ y ∈ ((cfg0.win 8).blk t).view.set := by
  have h1 : (y 1).val < 8 := (y 1).isLt
  have h2 : (y 2).val < 1024 := (y 2).isLt
  have h3 : (y 3).val < 256 := (y 3).isLt
  obtain ⟨t, e0, e1⟩ := point_of (y 0) ⟨(y 1).val / 2, by omega⟩
  refine ⟨t, flush0_8 t, ?_⟩
  mem_blk [index8]
  rw [e0, e1]
  dsimp only
  omega

/-- So the array ends holding the transposed values. -/
theorem final8 : (dats m 0 c).arrAt 8 cfg0.N = valuesT m c :=
  (dats m 0 c).arrAt_eq_of_cover 8 (valuesT m c) (fun t _ => flushed8_eq m c t) cover8

/-! ## The queries -/

/-- What a grid step writes back is its block of the queries. -/
theorem flushed9_eq :
    (dats m 0 c).flushed 9 t = ((cfg0.win 9).blk t).view.read (Elt Ideal) (queries m c) := by
  rw [Value.flushed9_A]
  unfold out0_A_9
  rw [store_queries]
  refine (View.read_writes_full _ _ _ _ _).trans (funext fun y => ?_)
  obtain ⟨r, d, rfl⟩ := block_cases y
  have place : (((cfg0.win 9).blk t).view.emb (ix3 0 r d) : S8x2048x1024.Idx) = ix3 (batchAt t) (posAt t r) d := by
    refine place_ext ?_ ?_ ?_ <;> blk_simp [index9]
    · rfl
    · exact congrArg (· + r.val) (Nat.mul_comm _ _)
  exact (queries_step m c t r d).trans (congrArg (queries m c) place).symm

/-- The grid's blocks tile the array. -/
theorem cover9 (y : S8x2048x1024.Idx) :
    ∃ t : Fin cfg0.N, (cfg0.win 9).flush t = true ∧ y ∈ ((cfg0.win 9).blk t).view.set := by
  have h1 : (y 1).val < 2048 := (y 1).isLt
  have h2 : (y 2).val < 1024 := (y 2).isLt
  obtain ⟨t, e0, e1⟩ := point_of (y 0) ⟨(y 1).val / 512, by omega⟩
  refine ⟨t, flush0_9 t, ?_⟩
  mem_blk [index9]
  rw [e0, e1]
  dsimp only
  omega

/-- So the array ends holding the queries. -/
theorem final9 : (dats m 0 c).arrAt 9 cfg0.N = queries m c :=
  (dats m 0 c).arrAt_eq_of_cover 9 (queries m c) (fun t _ => flushed9_eq m c t) cover9

end

end Cert.Kernel4Ideal.Kvq
-- ==== Proof.KvqReference.lean ====
module
public import proofs.«01_k».proof.Proof.KvqArrays
public import proofs.«01_k».proof.Proof.HostRows
public import proofs.«01_k».proof.Proof.Gen.Reference4Ideal.Read

/-! # The keys, values and queries: the reference, element by element -/

set_option maxRecDepth 16384

namespace Cert.Reference4Ideal.Kvq

open Cert.Reference4Ideal Cert.Reference4Ideal.Read Cert.Rows Cert.HostRows Cert.Kernel4Ideal.Kvq Idealize.ShloMosaic
open Cert.Kernel3Ideal.Mlp (modRow)

@[expose] public section

variable (x : FVec Ideal S8x2048x1024 .f32) (ada : FVec Ideal S2x296x6144 .f32) (wkv : FVec Ideal S1024x2048 .bf16)
  (wq : FVec Ideal S1x1024x1024 .bf16) (n : Fin 8)

theorem shift_apply (d : Fin 1024) :
    val_main_v8 (F := Ideal) ada (ix3 n 0 d) = ada (ix3 1 (modRow n) ⟨d.val, by omega⟩) := by
  pointwise [val_main_v8, val_main_v2, val_main_v1, val_main_v0]

theorem scale_apply (d : Fin 1024) :
    val_main_v9 (F := Ideal) ada (ix3 n 0 d) = ada (ix3 1 (modRow n) ⟨1024 + d.val, by omega⟩) := by
  pointwise [val_main_v9, val_main_v3, val_main_v1, val_main_v0]

/-- The joint keys and values. -/
theorem kv_apply (s : Fin 2048) (e : Fin 2048) :
    val_main_v15 (F := Ideal) x wkv (ix3 n s e) = kvAt x wkv n s e := by
  pointwise [val_main_v15, val_main_v14, kvAt, dot]

/-- The keys. -/
theorem keys_apply (s : Fin 2048) (d : Fin 1024) :
    val_main_v16 (F := Ideal) x wkv (ix3 n s d) = kvAt x wkv n s (kcol d) := by
  rw [← kv_apply]
  unfold val_main_v16
  generalize val_main_v15 (F := Ideal) x wkv = y
  pointwise

/-- The values. -/
theorem values_apply (s : Fin 2048) (d : Fin 1024) :
    val_main_v17 (F := Ideal) x wkv (ix3 n s d) = kvAt x wkv n s (vcol d) := by
  rw [← kv_apply]
  unfold val_main_v17
  generalize val_main_v15 (F := Ideal) x wkv = y
  pointwise

/-- The keys, cast. -/
theorem keys2_apply (s : Fin 2048) (d : Fin 1024) :
    val_main_v31 (F := Ideal) x wkv (ix3 n s d) = kvAt x wkv n s (kcol d) := keys_apply x wkv n s d

/-- The values in blocks of 256 positions, the positions last. -/
theorem valuesT_apply (p : Fin 8) (d : Fin 1024) (j : Fin 256) :
    val_main_v32 (F := Ideal) x wkv (ix4 n p d j) = kvAt x wkv n (blockPos p j) (vcol d) := by
  rw [← values_apply]
  unfold val_main_v32 val_main_v30 val_main_v29
  generalize val_main_v17 (F := Ideal) x wkv = y
  pointwise
  exact congrArg (fun q => y (ix3 n q d))
    (Fin.ext (show p.val * 256 + j.val = 256 * p.val + j.val by rw [Nat.mul_comm]))

/-- The modulated tokens are the shared whole-array operation. -/
theorem modulated_eq : val_main_v23 (F := Ideal) x ada
    = modulArr x (val_main_v9 (F := Ideal) ada) (val_main_v8 (F := Ideal) ada) := rfl

/-- The queries. -/
theorem queries_apply (s : Fin 2048) (d : Fin 1024) :
    val_main_v33 (F := Ideal) x ada wq (ix3 n s d) = queryAt x ada wq n s d := by
  have e : val_main_v33 (F := Ideal) x ada wq (ix3 n s d)
      = dot (fun k => val_main_v23 (F := Ideal) x ada (ix3 n s k)) (fun k d => wq (ix3 0 k d)) d
        * Ideal.ofBits .f32 0x3E000000#32 := by
    unfold val_main_v33 val_main_v28 val_main_v26
    generalize val_main_v23 (F := Ideal) x ada = h
    pointwise [val_main_v27, val_main_v25, val_main_v24, val_main_cst_0, dot]
  rw [e, modulated_eq]
  simp only [modulArr_apply, shift_apply, scale_apply]
  rfl

end

end Cert.Reference4Ideal.Kvq
-- ==== Proof.KvqClaims.lean ====
module
public import proofs.«01_k».proof.Defs
public import proofs.«01_k».proof.Proof.KvqReference
public import proofs.«01_k».proof.Proof.Gen.Reference4Ideal.Run

/-! # The keys, values and queries: the kernel's results are the reference's -/

set_option maxRecDepth 16384

namespace Cert.Proof.Kvq

open Idealize.ShloMosaic Idealize.SL.Sem Cert.Reference4Ideal.Read Cert.Reference4Ideal.Kvq Cert.Kernel4Ideal.Kvq

@[expose] public section

/-- The reference's run leaves its arguments and the semaphores as they were. -/
theorem reference_frame [hReference4Ideal : Cert.Reference4Ideal.Facts] : Cert.quiescent_Reference4Ideal := fun m ρ _ =>
  (θ_run Cert.Reference4Ideal.defs _ _).mono
    (fun r h => ⟨fun c => (h c).2.2.2.2.2, sem_eq_zero_of_no_sems (by decide) r.2⟩)
    (Cert.Reference4Ideal.Value.run (F := Ideal) m ρ)

/-- Two arrays of tokens agree when they do at every token and column. -/
theorem tokens_ext {f g : Cert.Reference4Ideal.S8x2048x1024.Idx → EReal}
    (h : ∀ (n : Fin 8) (s : Fin 2048) (d : Fin 1024), f (ix3 n s d) = g (ix3 n s d)) : f = g := funext fun y => by
  rw [eq_ix3 y]
  exact h _ _ _

/-- Two arrays of transposed values agree when they do at every place. -/
theorem blocks_ext {f g : Cert.Reference4Ideal.S8x8x1024x256.Idx → EReal}
    (h : ∀ (n p : Fin 8) (d : Fin 1024) (j : Fin 256), f (ix4 n p d j) = g (ix4 n p d j)) : f = g := funext fun y => by
  rw [eq_ix4 y]
  exact h _ _ _ _

section Equal

variable (m : (ℓ : Loc Cert.Kernel4Ideal.nD Cert.Kernel4Ideal.τ Cert.Kernel4Ideal.sig) → Buf (Elt Ideal) ℓ)
  (c : Dev Cert.Kernel4Ideal.nD)

theorem keys_eq : val_main_v16 (F := Ideal) (m (c.tc.loc Cert.Kernel4Ideal.main_arg0)) (m (c.tc.loc Cert.Kernel4Ideal.main_arg2))
    = keys m c := tokens_ext fun n s d => keys_apply _ _ n s d

theorem values_eq : val_main_v17 (F := Ideal) (m (c.tc.loc Cert.Kernel4Ideal.main_arg0)) (m (c.tc.loc Cert.Kernel4Ideal.main_arg2))
    = values m c := tokens_ext fun n s d => values_apply _ _ n s d

theorem keys2_eq : val_main_v31 (F := Ideal) (m (c.tc.loc Cert.Kernel4Ideal.main_arg0)) (m (c.tc.loc Cert.Kernel4Ideal.main_arg2))
    = keys m c := tokens_ext fun n s d => keys2_apply _ _ n s d

theorem valuesT_eq : val_main_v32 (F := Ideal) (m (c.tc.loc Cert.Kernel4Ideal.main_arg0)) (m (c.tc.loc Cert.Kernel4Ideal.main_arg2))
    = valuesT m c := blocks_ext fun n p d j => valuesT_apply _ _ n p d j

theorem queries_eq : val_main_v33 (F := Ideal) (m (c.tc.loc Cert.Kernel4Ideal.main_arg0)) (m (c.tc.loc Cert.Kernel4Ideal.main_arg1))
      (m (c.tc.loc Cert.Kernel4Ideal.main_arg3))
    = queries m c := tokens_ext fun n s d => queries_apply _ _ _ n s d

end Equal

/-- Kernel and reference compute the same arrays. -/
theorem algebraic : Cert.algebraic_Kernel4Ideal_Reference4Ideal := by
  intro m g m' g' _ hagree
  refine ⟨fun c => keys m c, fun c => values m c, fun c => keys m c, fun c => valuesT m c, fun c => queries m c, ?_, ?_⟩
  · exact (θ_run Cert.Kernel4Ideal.defs _ _).mono
      (fun _ h c => ⟨(h c).1.trans (final5 m c), (h c).2.1.trans (final6 m c), (h c).2.2.1.trans (final7 m c),
        (h c).2.2.2.1.trans (final8 m c), (h c).2.2.2.2.1.trans (final9 m c), (h c).2.2.2.2.2⟩)
      (Cert.Kernel4Ideal.Value.run_blocks (F := Ideal) m g)
  · refine (θ_run Cert.Reference4Ideal.defs _ _).mono
      (fun _ h c => ⟨(h c).1.trans ?_, (h c).2.1.trans ?_, (h c).2.2.1.trans ?_, (h c).2.2.2.1.trans ?_,
        (h c).2.2.2.2.1.trans ?_, (h c).2.2.2.2.2⟩)
      (Cert.Reference4Ideal.Value.run (F := Ideal) m' g')
    all_goals obtain ⟨h0, h1, h2, h3⟩ := hagree c
    · rw [val_main_v16_eq, h0, h2]
      exact keys_eq m c
    · rw [val_main_v17_eq, h0, h2]
      exact values_eq m c
    · rw [val_main_v31_eq, h0, h2]
      exact keys2_eq m c
    · rw [val_main_v32_eq, h0, h2]
      exact valuesT_eq m c
    · rw [val_main_v33_eq, h0, h1, h3]
      exact queries_eq m c

end

end Cert.Proof.Kvq
-- ==== Proof.StepLoads.lean ====
module
public import proofs.«01_k».proof.Proof.Loads
public import proofs.«01_k».proof.Proof.Gen.Kernel5Ideal.Value

/-! # What the sample batch's calls load

The sample batch is one block of 256 tokens, each with its own modulation row. A load reads a whole
window, for the calls of any program. -/

set_option maxRecDepth 16384

namespace Cert.StepLoads

open Cert.Kernel5Ideal Cert.Kernel5Ideal.Gen Idealize.ShloMosaic Idealize.ShloMosaic.Pipeline

@[expose] public section

section Defs

variable {F : FTy → Type} [FloatOps F] {sg : RefSig} {e : EltTy}

/-- The block of tokens. -/
noncomputable def tokensOf {arg : Memref sg .tc .vmem S1x256x1024 e} (harg : arg.IsWhole)
    (x : Vec F S1x256x1024 e) : Vec F S1x256x1024 e :=
  View.readAt (Elt F) arg.view
    (Rect.unit (s := S1x256x1024) ![0, 0, 0] S1x256x1024.size inb_S1x256x1024_S1x256x1024_0_0_0).toLoadRect
    (harg.unread x)

/-- The weights of a projection. -/
noncomputable def projOf {arg : Memref sg .tc .vmem S1x1024x1024 .bf16} (harg : arg.IsWhole)
    (x : Vec F S1x1024x1024 .bf16) : Vec F S1x1024x1024 .bf16 :=
  View.readAt (Elt F) arg.view
    (Rect.unit (s := S1x1024x1024) ![0, 0, 0] S1x1024x1024.size inb_S1x1024x1024_S1x1024x1024_0_0_0).toLoadRect
    (harg.unread x)

/-- The weights of the keys and values. -/
noncomputable def wkvOf {arg : Memref sg .tc .vmem S1024x2048 .bf16} (harg : arg.IsWhole)
    (x : Vec F S1024x2048 .bf16) : Vec F S1024x2048 .bf16 :=
  View.readAt (Elt F) arg.view
    (Rect.unit (s := S1024x2048) ![0, 0] S1024x2048.size inb_S1024x2048_S1024x2048_0_0).toLoadRect (harg.unread x)

end Defs

variable {sg : RefSig}

theorem tokensOf_apply {e : EltTy} {arg : Memref sg .tc .vmem S1x256x1024 e} (harg : arg.IsWhole)
    (x : Vec Ideal S1x256x1024 e) (r : Fin 256) (d : Fin 1024) :
    tokensOf (F := Ideal) harg x (ix3 0 r d) = x (ix3 0 r d) := by
  unfold tokensOf
  rw [View.readAt_eq_ld, harg.read_unread]
  pointwise

theorem projOf_apply {arg : Memref sg .tc .vmem S1x1024x1024 .bf16} (harg : arg.IsWhole)
    (x : Vec Ideal S1x1024x1024 .bf16) (k d : Fin 1024) :
    projOf (F := Ideal) harg x (ix3 0 k d) = x (ix3 0 k d) := by
  unfold projOf
  rw [View.readAt_eq_ld, harg.read_unread]
  pointwise

theorem wkvOf_apply {arg : Memref sg .tc .vmem S1024x2048 .bf16} (harg : arg.IsWhole)
    (x : Vec Ideal S1024x2048 .bf16) (k : Fin 1024) (e : Fin 2048) :
    wkvOf (F := Ideal) harg x (ix2 k e) = x (ix2 k e) := by
  unfold wkvOf
  rw [View.readAt_eq_ld, harg.read_unread]
  pointwise

/-- An element of a block of tokens. -/
theorem block_cases (y : S1x256x1024.Idx) : ∃ (r : Fin 256) (d : Fin 1024), y = ix3 0 r d :=
  ⟨y 1, y 2, funext fun b => match b with
    | ⟨0, _⟩ => Subsingleton.elim (α := Fin 1) _ _
    | ⟨1, _⟩ => rfl
    | ⟨2, _⟩ => rfl⟩

/-- Two arrays of tokens agree when they do at every token and column. -/
theorem tokens_ext {f g : S1x256x1024.Idx → EReal}
    (h : ∀ (s : Fin 256) (d : Fin 1024), f (ix3 0 s d) = g (ix3 0 s d)) : f = g := funext fun y => by
  obtain ⟨r, d, rfl⟩ := block_cases y
  exact h r d

/-- The modulation row of a token. -/
abbrev modAt (s : Fin 256) : Fin 296 := ⟨s.val, by omega⟩

end

end Cert.StepLoads
-- ==== Proof.StepOprojRun.lean ====
module
public import proofs.«01_k».proof.Proof.StepLoads
public import proofs.«01_k».proof.Proof.OprojElements
public import proofs.«01_k».proof.Proof.Gen.Kernel6Ideal.Value

/-! # The sample batch's output projection and feed-forward: what the one grid step stores -/

set_option maxRecDepth 16384

namespace Cert.Kernel6Ideal.StepMlp

open Cert.Kernel6Ideal Cert.Kernel6Ideal.Gen Cert.Loads Cert.StepLoads Idealize.ShloMosaic Idealize.ShloMosaic.Pipeline

@[expose] public section

section Step

variable {F : FTy → Type} [FloatOps F] (i : grid0.Coords)
  {arg2 : Memref sig .tc .vmem S1x256x1024 .f32} (harg2 : arg2.IsWhole)
  {arg3 : Memref sig .tc .vmem S1x256x1024 .bf16} (harg3 : arg3.IsWhole)
  {arg4 : Memref sig .tc .vmem S1x256x1024 .f32} (harg4 : arg4.IsWhole)
  {arg5 : Memref sig .tc .vmem S1x1024x1024 .bf16} (harg5 : arg5.IsWhole)
  {arg6 : Memref sig .tc .vmem S1x1x1024 .f32} (harg6 : arg6.IsWhole)
  {arg7 : Memref sig .tc .vmem S1x1x1024 .f32} (harg7 : arg7.IsWhole)
  {arg8 : Memref sig .tc .vmem S1x256x1024 .f32} (harg8 : arg8.IsWhole)
  {arg9 : Memref sig .tc .vmem S1x256x1024 .f32} (harg9 : arg9.IsWhole)
  {arg10 : Memref sig .tc .vmem S1x256x1024 .f32} (harg10 : arg10.IsWhole)
  {arg11 : Memref sig .tc .vmem S1x1024x4096 .bf16} (harg11 : arg11.IsWhole)
  {arg12 : Memref sig .tc .vmem S1x4096x1024 .bf16} (harg12 : arg12.IsWhole)
  {arg13 : Memref sig .tc .vmem S1x1x1024 .f32} (harg13 : arg13.IsWhole)
  {arg14 : Memref sig .tc .vmem S1x1x1024 .f32} (harg14 : arg14.IsWhole)
  {arg15 : Memref sig .tc .vmem S1x256x1024 .f32} {harg15 : arg15.IsWhole}
  {arg16 : Memref sig .tc .vmem S256x1024 .f32} {harg16 : arg16.IsWhole}
  (x0 : Vec F S1x256x1024 .f32) (x1 : Vec F S1x256x1024 .bf16) (x2 : Vec F S1x256x1024 .f32)
  (x3 : Vec F S1x1024x1024 .bf16) (x4 x5 : Vec F S1x1x1024 .f32) (x6 x7 x8 : Vec F S1x256x1024 .f32)
  (x9 : Vec F S1x1024x4096 .bf16) (x10 : Vec F S1x4096x1024 .bf16) (x11 x12 : Vec F S1x1x1024 .f32)

/-- One more cut of the feed-forward. -/
noncomputable def accStep (h : FVec F S256x1024 .bf16) (cu : Fin 8) (a : FVec F S256x1024 .f32) : FVec F S256x1024 .f32 :=
  k0_pay14 h (upCut harg11 x9 cu) (downCut harg12 x10 cu) a

/-- The residual sum after the attention, centred and scaled to unit variance. -/
noncomputable def unit1 : FVec F S256x1024 .f32 :=
  k0_pay4 (tokensOf harg3 x1) (projOf harg5 x3) (tokensOf harg2 x0) (tokensOf harg4 x2)

/-- The tokens after the attention's norm. -/
noncomputable def rows1 : FVec F S256x1024 .f32 :=
  k0_pay5 (k0_pay2 (vecOf harg6 x4)) (k0_pay3 (vecOf harg7 x5)) (unit1 harg2 harg3 harg4 harg5 x0 x1 x2 x3)

/-- The modulated tokens. -/
noncomputable def hid : FVec F S256x1024 .bf16 :=
  k0_pay6 (k0_pay2 (vecOf harg6 x4)) (k0_pay3 (vecOf harg7 x5)) (unit1 harg2 harg3 harg4 harg5 x0 x1 x2 x3)
    (tokensOf harg9 x7) (tokensOf harg8 x6)

/-- The tokens' first cut. -/
noncomputable def acc0 : FVec F S256x1024 .f32 :=
  k0_pay7 (k0_pay2 (vecOf harg6 x4)) (k0_pay3 (vecOf harg7 x5)) (unit1 harg2 harg3 harg4 harg5 x0 x1 x2 x3)
    (tokensOf harg9 x7) (tokensOf harg8 x6) (upCut harg11 x9 0) (downCut harg12 x10 0)

variable {c : Dev nD}

set_option maxHeartbeats 0 in
/-- The run's one store. -/
theorem run_store : ∃ a : FVec F S256x1024 .f32,
    (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16
        x0 x1 x2 x3 x4 x5 x6 x7 x8 x9 x10 x11 x12).1
      = [⟨Rect.unit ![0, 0, 0] S1x256x1024.size inb_S1x256x1024_S1x256x1024_0_0_0,
          k0_pay1 (k0_pay20 (rows1 harg2 harg3 harg4 harg5 harg6 harg7 x0 x1 x2 x3 x4 x5) (tokensOf harg10 x8) a
            (vecOf harg13 x11) (vecOf harg14 x12))⟩]
    ∧ ∃ step : Fin 8 → FVec F S256x1024 .f32 → FVec F S256x1024 .f32,
      step = accStep harg11 harg12 x9 x10 (hid harg2 harg3 harg4 harg5 harg6 harg7 harg8 harg9 x0 x1 x2 x3 x4 x5 x6 x7)
      ∧ a = step 7 (step 6 (step 5 (step 4 (step 3 (step 2 (step 1
          (acc0 harg2 harg3 harg4 harg5 harg6 harg7 harg8 harg9 harg11 harg12 x0 x1 x2 x3 x4 x5 x6 x7 x9 x10))))))) := by
  refine ⟨?t, ?a, accStep harg11 harg12 x9 x10 (hid harg2 harg3 harg4 harg5 harg6 harg7 harg8 harg9 x0 x1 x2 x3 x4 x5 x6 x7),
    rfl, ?b⟩
  case a =>
    delta kernelRun0_A
    exact rfl
  case b =>
    refine (View.readCov_full _ _ _ _ _).trans (congrArg (accStep harg11 harg12 x9 x10 _ 7) ?_)
    refine (View.readCov_full _ _ _ _ _).trans (congrArg (accStep harg11 harg12 x9 x10 _ 6) ?_)
    refine (View.readCov_full _ _ _ _ _).trans (congrArg (accStep harg11 harg12 x9 x10 _ 5) ?_)
    refine (View.readCov_full _ _ _ _ _).trans (congrArg (accStep harg11 harg12 x9 x10 _ 4) ?_)
    refine (View.readCov_full _ _ _ _ _).trans (congrArg (accStep harg11 harg12 x9 x10 _ 3) ?_)
    refine (View.readCov_full _ _ _ _ _).trans (congrArg (accStep harg11 harg12 x9 x10 _ 2) ?_)
    refine (View.readCov_full _ _ _ _ _).trans (congrArg (accStep harg11 harg12 x9 x10 _ 1) ?_)
    exact View.readCov_full _ _ _ _ _

end Step

end

end Cert.Kernel6Ideal.StepMlp
-- ==== Proof.StepOprojElements.lean ====
module
public import proofs.«01_k».proof.Proof.StepOprojRun

/-! # The sample batch's output projection and feed-forward: the payloads, element by element -/

set_option maxRecDepth 16384

namespace Cert.Kernel6Ideal.StepMlp

open Cert.Kernel6Ideal Cert.Kernel6Ideal.Gen Cert.Rows Cert.Loads Cert.StepLoads
open Idealize.ShloMosaic Idealize.ShloMosaic.Pipeline
open Cert.Kernel2Ideal.Mlp (proj attended fedRow)

@[expose] public section

/-! ## The payloads -/

theorem pay5_apply (o : FVec Ideal S1x256x1024 .bf16) (wo : FVec Ideal S1x1024x1024 .bf16)
    (x gate : FVec Ideal S1x256x1024 .f32) (g b : FVec Ideal S1x1x1024 .f32) (r : Fin 256) (d : Fin 1024) :
    k0_pay5 (F := Ideal) (k0_pay2 g) (k0_pay3 b) (k0_pay4 o wo x gate) (ix2 r d)
      = attended (fun d => x (ix3 0 r d)) (fun k => o (ix3 0 r k)) (fun d => gate (ix3 0 r d))
          (fun k d => wo (ix3 0 k d)) (fun d => g (ix3 0 0 d)) (fun d => b (ix3 0 0 d)) d := by
  pointwise [k0_pay5, k0_pay4, k0_pay3, k0_pay2, attended, Rows.norm, mean, resid, proj]

theorem pay6_apply (g b : FVec Ideal S1x1024 .f32) (y : FVec Ideal S256x1024 .f32) (sc sh : FVec Ideal S1x256x1024 .f32)
    (r : Fin 256) (d : Fin 1024) :
    k0_pay6 (F := Ideal) g b y sc sh (ix2 r d)
      = modul (fun d => k0_pay5 g b y (ix2 r d)) (fun d => sc (ix3 0 r d)) (fun d => sh (ix3 0 r d)) d := by
  unfold k0_pay6
  generalize k0_pay5 (F := Ideal) g b y = z
  pointwise [modul]

theorem pay7_apply (g b : FVec Ideal S1x1024 .f32) (y : FVec Ideal S256x1024 .f32) (sc sh : FVec Ideal S1x256x1024 .f32)
    (up : FVec Ideal S1x1024x512 .bf16) (down : FVec Ideal S1x512x1024 .bf16) (r : Fin 256) (d : Fin 1024) :
    k0_pay7 (F := Ideal) g b y sc sh up down (ix2 r d)
      = feed (fun k => k0_pay6 g b y sc sh (ix2 r k)) (fun k f => up (ix3 0 k f)) (fun f d => down (ix3 0 f d)) d := by
  unfold k0_pay7
  generalize k0_pay6 (F := Ideal) g b y sc sh = h
  pointwise [feed]

theorem pay14_apply (h : FVec Ideal S256x1024 .bf16) (up : FVec Ideal S1x1024x512 .bf16) (down : FVec Ideal S1x512x1024 .bf16)
    (a : FVec Ideal S256x1024 .f32) (r : Fin 256) (d : Fin 1024) :
    k0_pay14 (F := Ideal) h up down a (ix2 r d)
      = a (ix2 r d) + feed (fun k => h (ix2 r k)) (fun k f => up (ix3 0 k f)) (fun f d => down (ix3 0 f d)) d := by
  pointwise [k0_pay14, feed]

theorem pay1_apply (y : FVec Ideal S256x1024 .f32) (gate : FVec Ideal S1x256x1024 .f32)
    (a : FVec Ideal S256x1024 .f32) (g b : FVec Ideal S1x1x1024 .f32) (r : Fin 256) (d : Fin 1024) :
    k0_pay1 (F := Ideal) (k0_pay20 y gate a g b) (ix3 0 r d)
      = Rows.norm (resid (fun d => y (ix2 r d)) (fun d => gate (ix3 0 r d)) (fun d => a (ix2 r d)))
          (fun d => g (ix3 0 0 d)) (fun d => b (ix3 0 0 d)) d := by
  pointwise [k0_pay1, k0_pay20, Rows.norm, mean, resid]

/-! ## The rows of the step -/

section Steps

variable (i : grid0.Coords)
  {arg2 : Memref sig .tc .vmem S1x256x1024 .f32} (harg2 : arg2.IsWhole)
  {arg3 : Memref sig .tc .vmem S1x256x1024 .bf16} (harg3 : arg3.IsWhole)
  {arg4 : Memref sig .tc .vmem S1x256x1024 .f32} (harg4 : arg4.IsWhole)
  {arg5 : Memref sig .tc .vmem S1x1024x1024 .bf16} (harg5 : arg5.IsWhole)
  {arg6 : Memref sig .tc .vmem S1x1x1024 .f32} (harg6 : arg6.IsWhole)
  {arg7 : Memref sig .tc .vmem S1x1x1024 .f32} (harg7 : arg7.IsWhole)
  {arg8 : Memref sig .tc .vmem S1x256x1024 .f32} (harg8 : arg8.IsWhole)
  {arg9 : Memref sig .tc .vmem S1x256x1024 .f32} (harg9 : arg9.IsWhole)
  {arg10 : Memref sig .tc .vmem S1x256x1024 .f32} (harg10 : arg10.IsWhole)
  {arg11 : Memref sig .tc .vmem S1x1024x4096 .bf16} (harg11 : arg11.IsWhole)
  {arg12 : Memref sig .tc .vmem S1x4096x1024 .bf16} (harg12 : arg12.IsWhole)
  {arg13 : Memref sig .tc .vmem S1x1x1024 .f32} (harg13 : arg13.IsWhole)
  {arg14 : Memref sig .tc .vmem S1x1x1024 .f32} (harg14 : arg14.IsWhole)
  {arg15 : Memref sig .tc .vmem S1x256x1024 .f32} {harg15 : arg15.IsWhole}
  {arg16 : Memref sig .tc .vmem S256x1024 .f32} {harg16 : arg16.IsWhole}
  (x0 : Vec Ideal S1x256x1024 .f32) (x1 : Vec Ideal S1x256x1024 .bf16) (x2 : Vec Ideal S1x256x1024 .f32)
  (x3 : Vec Ideal S1x1024x1024 .bf16) (x4 x5 : Vec Ideal S1x1x1024 .f32) (x6 x7 x8 : Vec Ideal S1x256x1024 .f32)
  (x9 : Vec Ideal S1x1024x4096 .bf16) (x10 : Vec Ideal S1x4096x1024 .bf16) (x11 x12 : Vec Ideal S1x1x1024 .f32)

/-- Token `r`, after the attention's norm. -/
noncomputable abbrev attRow (r : Fin 256) : Fin 1024 → EReal :=
  attended (fun d => x0 (ix3 0 r d)) (fun k => x1 (ix3 0 r k)) (fun d => x2 (ix3 0 r d))
    (fun k d => x3 (ix3 0 k d)) (fun d => x4 (ix3 0 0 d)) (fun d => x5 (ix3 0 0 d))

/-- That token, modulated. -/
noncomputable abbrev hidRow (r : Fin 256) : Fin 1024 → EReal :=
  modul (attRow x0 x1 x2 x3 x4 x5 r) (fun d => x7 (ix3 0 r d)) (fun d => x6 (ix3 0 r d))

theorem rows1_apply (r : Fin 256) (d : Fin 1024) :
    rows1 harg2 harg3 harg4 harg5 harg6 harg7 x0 x1 x2 x3 x4 x5 (ix2 r d) = attRow x0 x1 x2 x3 x4 x5 r d := by
  unfold rows1 unit1
  simp only [pay5_apply, tokensOf_apply, vecOf_apply, projOf_apply]

theorem hid_apply (r : Fin 256) (k : Fin 1024) :
    hid harg2 harg3 harg4 harg5 harg6 harg7 harg8 harg9 x0 x1 x2 x3 x4 x5 x6 x7 (ix2 r k)
      = hidRow x0 x1 x2 x3 x4 x5 x6 x7 r k := by
  unfold hid unit1
  simp only [pay6_apply, pay5_apply, tokensOf_apply, vecOf_apply, projOf_apply]

theorem acc0_apply (r : Fin 256) (d : Fin 1024) :
    acc0 harg2 harg3 harg4 harg5 harg6 harg7 harg8 harg9 harg11 harg12 x0 x1 x2 x3 x4 x5 x6 x7 x9 x10 (ix2 r d)
      = cut (hidRow x0 x1 x2 x3 x4 x5 x6 x7 r) (fun k f => x9 (ix3 0 k f)) (fun f d => x10 (ix3 0 f d)) 0 d := by
  unfold acc0 unit1
  rw [pay7_apply]
  simp only [pay6_apply, pay5_apply, tokensOf_apply, vecOf_apply, projOf_apply, upCut_apply, downCut_apply]
  rfl

theorem accStep_apply (h : FVec Ideal S256x1024 .bf16) (cu : Fin 8) (a : FVec Ideal S256x1024 .f32) (r : Fin 256) (d : Fin 1024) :
    accStep harg11 harg12 x9 x10 h cu a (ix2 r d)
      = a (ix2 r d)
        + cut (fun k => h (ix2 r k)) (fun k f => x9 (ix3 0 k f)) (fun f d => x10 (ix3 0 f d)) cu d := by
  unfold accStep
  rw [pay14_apply]
  simp only [upCut_apply, downCut_apply]
  rfl

variable {c : Dev nD}

/-- The step stores one block, token by token the layer's second half. -/
theorem run_block : ∃ w : S1x256x1024.Idx → Elt Ideal .f32,
    (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16
        x0 x1 x2 x3 x4 x5 x6 x7 x8 x9 x10 x11 x12).1
      = [⟨Rect.unit ![0, 0, 0] S1x256x1024.size inb_S1x256x1024_S1x256x1024_0_0_0, w⟩]
    ∧ ∀ (r : Fin 256) (d : Fin 1024), w (ix3 0 r d)
      = fedRow (attRow x0 x1 x2 x3 x4 x5 r) (fun d => x6 (ix3 0 r d))
          (fun d => x7 (ix3 0 r d)) (fun d => x8 (ix3 0 r d))
          (fun k f => x9 (ix3 0 k f)) (fun f d => x10 (ix3 0 f d))
          (fun d => x11 (ix3 0 0 d)) (fun d => x12 (ix3 0 0 d)) d := by
  obtain ⟨a, h₁, step, h₂, h₃⟩ := run_store (c := c) i harg2 harg3 harg4 harg5 harg6 harg7 harg8 harg9 harg10
    harg11 harg12 harg13 harg14 (harg15 := harg15) (harg16 := harg16) x0 x1 x2 x3 x4 x5 x6 x7 x8 x9 x10 x11 x12
  refine ⟨_, h₁, fun r d => ?_⟩
  rw [pay1_apply, h₃, h₂]
  simp only [tokensOf_apply, vecOf_apply, accStep_apply, acc0_apply, hid_apply, rows1_apply]
  unfold fedRow
  congr 2
  exact funext fun d => (feed_cut _ _ _ d).symm

end Steps

end

end Cert.Kernel6Ideal.StepMlp
-- ==== Proof.StepOprojFinal.lean ====
module
public import proofs.«01_k».proof.Proof.StepOprojElements

/-! # The sample batch's output projection and feed-forward: the kernel's result array -/

set_option maxRecDepth 16384

namespace Cert.Kernel6Ideal.StepMlp

open Cert.Kernel6Ideal Cert.Kernel6Ideal.Gen Cert.Rows Cert.Loads Cert.StepLoads
open Idealize.ShloMosaic Idealize.ShloMosaic.Pipeline
open Cert.Kernel2Ideal.Mlp (proj attended fedRow)

@[expose] public section

/-! ## The windows -/

section Windows

/-- The windows of the tokens, the attention's rows, the output projection and the result are whole arrays. -/
theorem index_whole : ∀ t : Fin cfg0.N, win0_0.index t = ![0, 0, 0] ∧ win0_1.index t = ![0, 0, 0]
    ∧ win0_3.index t = ![0, 0, 0] ∧ win0_13.index t = ![0, 0, 0] :=
  (by decide +kernel : ∀ t : Fin grid0.N, win0_0.index t = ![0, 0, 0] ∧ win0_1.index t = ![0, 0, 0]
    ∧ win0_3.index t = ![0, 0, 0] ∧ win0_13.index t = ![0, 0, 0])

/-- The four windows of the modulation rows. -/
theorem index_mod : ∀ t : Fin cfg0.N, win0_2.index t = ![1, 0, 2] ∧ win0_6.index t = ![1, 0, 3]
    ∧ win0_7.index t = ![1, 0, 4] ∧ win0_8.index t = ![1, 0, 5] :=
  (by decide +kernel : ∀ t : Fin grid0.N, win0_2.index t = ![1, 0, 2] ∧ win0_6.index t = ![1, 0, 3]
    ∧ win0_7.index t = ![1, 0, 4] ∧ win0_8.index t = ![1, 0, 5])

/-- The windows of the gains, biases and feed-forward weights. -/
theorem index_weights : ∀ t : Fin cfg0.N, win0_4.index t = ![2, 0, 0] ∧ win0_5.index t = ![2, 0, 0]
    ∧ win0_9.index t = ![1, 0, 0] ∧ win0_10.index t = ![1, 0, 0]
    ∧ win0_11.index t = ![3, 0, 0] ∧ win0_12.index t = ![3, 0, 0] :=
  (by decide +kernel : ∀ t : Fin grid0.N, win0_4.index t = ![2, 0, 0] ∧ win0_5.index t = ![2, 0, 0]
    ∧ win0_9.index t = ![1, 0, 0] ∧ win0_10.index t = ![1, 0, 0]
    ∧ win0_11.index t = ![3, 0, 0] ∧ win0_12.index t = ![3, 0, 0])

variable (m : (ℓ : Loc nD τ sig) → Buf (Elt Ideal) ℓ) (c : Dev nD) (t : Fin cfg0.N)

theorem tokens_block (r : Fin 256) (d : Fin 1024) :
    iblk m c 0 t (ix3 0 r d) = m (c.tc.loc main_arg0) (ix3 0 r d) := by
  refine congrArg (m (c.tc.loc main_arg0)) (place_ext ?_ ?_ ?_) <;> blk_simp [(index_whole t).1] <;> rfl

theorem att_block (r : Fin 256) (d : Fin 1024) :
    iblk m c 1 t (ix3 0 r d) = m (c.tc.loc main_arg1) (ix3 0 r d) := by
  refine congrArg (m (c.tc.loc main_arg1)) (place_ext ?_ ?_ ?_) <;> blk_simp [(index_whole t).2.1] <;> rfl

theorem wo_block (k d : Fin 1024) :
    iblk m c 3 t (ix3 0 k d) = m (c.tc.loc main_arg3) (ix3 0 k d) := by
  refine congrArg (m (c.tc.loc main_arg3)) (place_ext ?_ ?_ ?_) <;> blk_simp [(index_whole t).2.2.1] <;> rfl

theorem gate1_block (r : Fin 256) (d : Fin 1024) :
    X0_2 m c t (ix3 0 r d) = m (c.tc.loc main_arg2) (ix3 1 (modAt r) ⟨2048 + d.val, by omega⟩) := by
  unfold X0_2 Window.fill
  rw [dif_pos (moved0_2 t _)]
  refine congrArg (m (c.tc.loc main_arg2)) (place_ext ?_ ?_ ?_) <;> blk_simp [(index_mod t).1] <;> rfl

theorem shift_block (r : Fin 256) (d : Fin 1024) :
    X0_6 m c t (ix3 0 r d) = m (c.tc.loc main_arg2) (ix3 1 (modAt r) ⟨3072 + d.val, by omega⟩) := by
  unfold X0_6 Window.fill
  rw [dif_pos (moved0_6 t _)]
  refine congrArg (m (c.tc.loc main_arg2)) (place_ext ?_ ?_ ?_) <;> blk_simp [(index_mod t).2.1] <;> rfl

theorem scale_block (r : Fin 256) (d : Fin 1024) :
    X0_7 m c t (ix3 0 r d) = m (c.tc.loc main_arg2) (ix3 1 (modAt r) ⟨4096 + d.val, by omega⟩) := by
  unfold X0_7 Window.fill
  rw [dif_pos (moved0_7 t _)]
  refine congrArg (m (c.tc.loc main_arg2)) (place_ext ?_ ?_ ?_) <;> blk_simp [(index_mod t).2.2.1] <;> rfl

theorem gate2_block (r : Fin 256) (d : Fin 1024) :
    X0_8 m c t (ix3 0 r d) = m (c.tc.loc main_arg2) (ix3 1 (modAt r) ⟨5120 + d.val, by omega⟩) := by
  unfold X0_8 Window.fill
  rw [dif_pos (moved0_8 t _)]
  refine congrArg (m (c.tc.loc main_arg2)) (place_ext ?_ ?_ ?_) <;> blk_simp [(index_mod t).2.2.2] <;> rfl

theorem gain1_block (d : Fin 1024) :
    iblk m c 4 t (ix3 0 0 d) = m (c.tc.loc main_arg4) (ix3 2 0 d) := by
  refine congrArg (m (c.tc.loc main_arg4)) (place_ext ?_ ?_ ?_) <;> blk_simp [(index_weights t).1] <;> rfl

theorem bias1_block (d : Fin 1024) :
    iblk m c 5 t (ix3 0 0 d) = m (c.tc.loc main_arg5) (ix3 2 0 d) := by
  refine congrArg (m (c.tc.loc main_arg5)) (place_ext ?_ ?_ ?_) <;> blk_simp [(index_weights t).2.1] <;> rfl

theorem up_block (k : Fin 1024) (f : Fin 4096) :
    iblk m c 9 t (ix3 0 k f) = m (c.tc.loc main_arg6) (ix3 1 k f) := by
  refine congrArg (m (c.tc.loc main_arg6)) (place_ext ?_ ?_ ?_) <;> blk_simp [(index_weights t).2.2.1] <;> rfl

theorem down_block (f : Fin 4096) (d : Fin 1024) :
    iblk m c 10 t (ix3 0 f d) = m (c.tc.loc main_arg7) (ix3 1 f d) := by
  refine congrArg (m (c.tc.loc main_arg7)) (place_ext ?_ ?_ ?_) <;> blk_simp [(index_weights t).2.2.2.1] <;> rfl

theorem gain2_block (d : Fin 1024) :
    iblk m c 11 t (ix3 0 0 d) = m (c.tc.loc main_arg4) (ix3 3 0 d) := by
  refine congrArg (m (c.tc.loc main_arg4)) (place_ext ?_ ?_ ?_) <;> blk_simp [(index_weights t).2.2.2.2.1] <;> rfl

theorem bias2_block (d : Fin 1024) :
    iblk m c 12 t (ix3 0 0 d) = m (c.tc.loc main_arg5) (ix3 3 0 d) := by
  refine congrArg (m (c.tc.loc main_arg5)) (place_ext ?_ ?_ ?_) <;> blk_simp [(index_weights t).2.2.2.2.2] <;> rfl

end Windows

/-! ## The result -/

/-- The second half of the layer for sample token `s`, from the call's arrays. -/
noncomputable def stepAt (x o : S1x256x1024.Idx → EReal) (ada : (⟨3, ![2, 296, 6144]⟩ : Shape).Idx → EReal)
    (wo : (⟨3, ![1, 1024, 1024]⟩ : Shape).Idx → EReal) (g b : (⟨3, ![4, 1, 1024]⟩ : Shape).Idx → EReal)
    (wu : (⟨3, ![2, 1024, 4096]⟩ : Shape).Idx → EReal) (wd : (⟨3, ![2, 4096, 1024]⟩ : Shape).Idx → EReal)
    (s : Fin 256) : Fin 1024 → EReal :=
  fedRow
    (attended (fun d => x (ix3 0 s d)) (fun k => o (ix3 0 s k))
      (fun d => ada (ix3 1 (modAt s) ⟨2048 + d.val, by omega⟩)) (fun k d => wo (ix3 0 k d))
      (fun d => g (ix3 2 0 d)) (fun d => b (ix3 2 0 d)))
    (fun d => ada (ix3 1 (modAt s) ⟨3072 + d.val, by omega⟩))
    (fun d => ada (ix3 1 (modAt s) ⟨4096 + d.val, by omega⟩))
    (fun d => ada (ix3 1 (modAt s) ⟨5120 + d.val, by omega⟩))
    (fun k f => wu (ix3 1 k f)) (fun f d => wd (ix3 1 f d)) (fun d => g (ix3 3 0 d)) (fun d => b (ix3 3 0 d))

variable (m : (ℓ : Loc nD τ sig) → Buf (Elt Ideal) ℓ) (c : Dev nD)

/-- The result, as a whole array. -/
noncomputable def result : Buf (Elt Ideal) ((c.tc : Thread nD τ).loc main_v0) := fun (y : S1x256x1024.Idx) =>
  stepAt (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (y 1) (y 2)

/-- Where the step's output element lies in the array. -/
theorem out_place (t : Fin cfg0.N) (r : Fin 256) (d : Fin 1024) :
    (((cfg0.win 13).blk t).view.emb (ix3 0 r d) : S1x256x1024.Idx) = ix3 0 r d := by
  refine place_ext ?_ ?_ ?_ <;> blk_simp [(index_whole t).2.2.2] <;> rfl

/-- What the step writes back is the result. -/
theorem flushed_eq (t : Fin cfg0.N) :
    (dats m 0 c).flushed 13 t = ((cfg0.win 13).blk t).view.read (Elt Ideal) (result m c) := by
  rw [Value.flushed13_A]
  obtain ⟨w, h₁, h₂⟩ := run_block (c := c) (harg15 := hs0_13 t) (arg16 := scM0_0) (harg16 := Memref.isWhole_whole _)
    (grid0.coords t) (hs0_0 t) (hs0_1 t) (hs0_2 t) (hs0_3 t) (hs0_4 t) (hs0_5 t) (hs0_6 t) (hs0_7 t) (hs0_8 t)
    (hs0_9 t) (hs0_10 t) (hs0_11 t) (hs0_12 t) (iblk m c 0 t) (iblk m c 1 t) (X0_2 m c t) (iblk m c 3 t)
    (iblk m c 4 t) (iblk m c 5 t) (X0_6 m c t) (X0_7 m c t) (X0_8 m c t) (iblk m c 9 t) (iblk m c 10 t)
    (iblk m c 11 t) (iblk m c 12 t)
  unfold out0_A_13
  rw [h₁]
  refine (View.read_writes_full _ _ _ _ _).trans (funext fun y => ?_)
  obtain ⟨r, d, rfl⟩ := block_cases y
  rw [h₂]
  refine Eq.trans ?_ (congrArg (result m c) (out_place t r d)).symm
  simp only [attRow, tokens_block, att_block, wo_block, gate1_block, shift_block, scale_block, gate2_block, up_block,
    down_block, gain1_block, bias1_block, gain2_block, bias2_block]
  rfl

/-- The grid has a point. -/
abbrev point : Fin cfg0.N := ⟨0, by rw [show cfg0.N = 1 from N_0]; exact Nat.one_pos⟩

/-- Its block is the whole array. -/
theorem cover (y : S1x256x1024.Idx) :
    ∃ t : Fin cfg0.N, (cfg0.win 13).flush t = true ∧ y ∈ ((cfg0.win 13).blk t).view.set := by
  have h0 : (y 0).val < 1 := (y 0).isLt
  have h1 : (y 1).val < 256 := (y 1).isLt
  have h2 : (y 2).val < 1024 := (y 2).isLt
  refine ⟨point, flush0_13 _, ?_⟩
  mem_blk [(index_whole point).2.2.2]
  omega

/-- So the result array ends holding the layer. -/
theorem final : (dats m 0 c).arrAt 13 cfg0.N = result m c :=
  (dats m 0 c).arrAt_eq_of_cover 13 (result m c) (fun t _ => flushed_eq m c t) cover

end

end Cert.Kernel6Ideal.StepMlp
-- ==== Proof.StepHostRows.lean ====
module
public import proofs.«01_k».proof.Proof.Rows
public import proofs.«01_k».proof.Proof.Gen.Reference6Ideal.Read

/-! # The host operations on the array of sample tokens, token by token

Here every token has modulation rows of its own. -/

set_option maxRecDepth 16384

namespace Cert.StepHostRows

open Cert.Reference6Ideal Cert.Reference6Ideal.Gen Cert.Reference6Ideal.Read Cert.Rows Idealize.ShloMosaic

@[expose] public section

variable (x y u v : FVec Ideal S1x256x1024 .f32) (g b : FVec Ideal S1024 .f32)
  (wu : FVec Ideal S1024x4096 .f32) (wd : FVec Ideal S4096x1024 .f32) (s : Fin 256)

/-- The modulated tokens. -/
noncomputable def modulTokens : FVec Ideal S1x256x1024 .f32 :=
  addf (mulf x (addf (val_main_v50 (F := Ideal)) u)) v

/-- The residual sums. -/
noncomputable def residTokens : FVec Ideal S1x256x1024 .f32 :=
  addf (mulf (val_main_v18 (F := Ideal)) x) (mulf u y)

/-- The feed-forward of every token. -/
noncomputable def feedTokens : FVec Ideal S1x256x1024 .f32 :=
  let h : FVec Ideal S1x256x4096 .f32 := Host.dotGeneral dot_S1x256x1024_S1024x4096_S1x256x4096_2_0_01_1_n_n none x wu
  let p : FVec Ideal S1x256x4096 .f32 := maximumf h (val_main_call0_v0 (F := Ideal))
  Host.dotGeneral dot_S1x256x4096_S4096x1024_S1x256x1024_2_0_01_1_n_n none (mulf p p) wd

/-- The tokens' means. -/
noncomputable def meanTokens : FVec Ideal S1x256x1 .f32 :=
  Host.divf (broadcastInDim S1x256x1 ![0, 1] bcast_S1x256_S1x256x1_0_1
    (Host.reduceAdd x (val_main_cst_0 (F := Ideal)) reducesTo_S1x256x1024_S1x256_d2 h_S_)) (val_main_v28 (F := Ideal))

/-- The tokens, centred. -/
noncomputable def centreTokens : FVec Ideal S1x256x1024 .f32 :=
  subf x (broadcastInDim S1x256x1024 ![0, 1, 2] bcast_S1x256x1_S1x256x1024_0_1_2 (meanTokens x))

/-- The layer norm of every token. -/
noncomputable def normTokens : FVec Ideal S1x256x1024 .f32 :=
  addf
    (mulf
      (mulf (centreTokens x) (broadcastInDim S1x256x1024 ![0, 1, 2] bcast_S1x256x1_S1x256x1024_0_1_2
        (Host.rsqrt (addf (meanTokens (mulf (centreTokens x) (centreTokens x))) (val_main_v39 (F := Ideal))))))
      (broadcastInDim S1x256x1024 ![0, 1, 2] bcast_S1x1x1024_S1x256x1024_0_1_2
        (broadcastInDim S1x1x1024 ![2] bcast_S1024_S1x1x1024_2 g)))
    (broadcastInDim S1x256x1024 ![0, 1, 2] bcast_S1x1x1024_S1x256x1024_0_1_2
      (broadcastInDim S1x1x1024 ![2] bcast_S1024_S1x1x1024_2 b))

theorem modulTokens_apply (d : Fin 1024) :
    modulTokens x u v (ix3 0 s d)
      = modul (fun d => x (ix3 0 s d)) (fun d => u (ix3 0 s d)) (fun d => v (ix3 0 s d)) d := by
  pointwise [modulTokens, val_main_v50, val_main_cst_5, modul]

theorem residTokens_apply (d : Fin 1024) :
    residTokens x y u (ix3 0 s d)
      = resid (fun d => x (ix3 0 s d)) (fun d => u (ix3 0 s d)) (fun d => y (ix3 0 s d)) d := by
  pointwise [residTokens, val_main_v18, val_main_cst, resid]

theorem feedTokens_apply (d : Fin 1024) :
    feedTokens x wu wd (ix3 0 s d)
      = feed (fun d => x (ix3 0 s d)) (fun k f => wu (ix2 k f)) (fun f d => wd (ix2 f d)) d := by
  pointwise [feedTokens, val_main_call0_v0, val_main_call0_cst, feed]

theorem meanTokens_apply : meanTokens x (ix3 0 s 0) = mean (fun d => x (ix3 0 s d)) := by
  pointwise [meanTokens, val_main_v28, val_main_cst_0, val_main_cst_1, mean]

theorem centreTokens_apply (d : Fin 1024) :
    centreTokens x (ix3 0 s d) = x (ix3 0 s d) - mean (fun d => x (ix3 0 s d)) := by
  rw [← meanTokens_apply]
  unfold centreTokens
  generalize meanTokens x = z
  pointwise

theorem normTokens_apply (d : Fin 1024) :
    normTokens x g b (ix3 0 s d)
      = Rows.norm (fun d => x (ix3 0 s d)) (fun d => g (ix1 d)) (fun d => b (ix1 d)) d := by
  have e : normTokens x g b (ix3 0 s d)
      = centreTokens x (ix3 0 s d)
          * Ideal.rsqrt (meanTokens (mulf (centreTokens x) (centreTokens x)) (ix3 0 s 0) + Ideal.ofBits .f32 0x3727C5AC#32)
          * g (ix1 d) + b (ix1 d) := by
    unfold normTokens
    generalize meanTokens (mulf (centreTokens x) (centreTokens x)) = z
    generalize centreTokens x = y
    pointwise [val_main_v39, val_main_cst_4]
  have e' : (fun d => mulf (centreTokens x) (centreTokens x) (ix3 0 s d))
      = fun d => (x (ix3 0 s d) - mean (fun d => x (ix3 0 s d))) * (x (ix3 0 s d) - mean (fun d => x (ix3 0 s d))) :=
    funext fun d => congrArg (fun t => t * t) (centreTokens_apply x s d)
  rw [e, meanTokens_apply, e', centreTokens_apply]
  rfl

end

end Cert.StepHostRows
-- ==== Proof.StepOprojReference.lean ====
module
public import proofs.«01_k».proof.Proof.StepOprojFinal
public import proofs.«01_k».proof.Proof.StepHostRows

/-! # The sample batch's output projection and feed-forward: the reference, element by element -/

set_option maxRecDepth 16384

namespace Cert.Reference6Ideal.StepMlp

open Cert.Reference6Ideal Cert.Reference6Ideal.Read Cert.Rows Cert.StepHostRows Cert.StepLoads Cert.Kernel6Ideal.StepMlp
open Idealize.ShloMosaic
open Cert.Kernel2Ideal.Mlp (proj attended)

@[expose] public section

variable (x : FVec Ideal S1x256x1024 .f32) (o : FVec Ideal S1x256x1024 .bf16) (ada : FVec Ideal S2x296x6144 .f32)
  (wo : FVec Ideal S1x1024x1024 .bf16) (g b : FVec Ideal S4x1x1024 .f32)
  (wu : FVec Ideal S2x1024x4096 .bf16) (wd : FVec Ideal S2x4096x1024 .bf16) (s : Fin 256)

theorem gate1_apply (d : Fin 1024) :
    val_main_v10 (F := Ideal) ada (ix3 0 s d) = ada (ix3 1 (modAt s) ⟨2048 + d.val, by omega⟩) := by
  pointwise [val_main_v10, val_main_v4, val_main_v1, val_main_v0]

theorem shift_apply (d : Fin 1024) :
    val_main_v11 (F := Ideal) ada (ix3 0 s d) = ada (ix3 1 (modAt s) ⟨3072 + d.val, by omega⟩) := by
  pointwise [val_main_v11, val_main_v5, val_main_v1, val_main_v0]

theorem scale_apply (d : Fin 1024) :
    val_main_v12 (F := Ideal) ada (ix3 0 s d) = ada (ix3 1 (modAt s) ⟨4096 + d.val, by omega⟩) := by
  pointwise [val_main_v12, val_main_v6, val_main_v1, val_main_v0]

theorem gate2_apply (d : Fin 1024) :
    val_main_v13 (F := Ideal) ada (ix3 0 s d) = ada (ix3 1 (modAt s) ⟨5120 + d.val, by omega⟩) := by
  pointwise [val_main_v13, val_main_v7, val_main_v1, val_main_v0]

theorem up_apply (k : Fin 1024) (f : Fin 4096) : val_main_v56 (F := Ideal) wu (ix2 k f) = wu (ix3 1 k f) := by
  pointwise [val_main_v56, val_main_v55, val_main_v54]

theorem down_apply (f : Fin 4096) (d : Fin 1024) : val_main_v62 (F := Ideal) wd (ix2 f d) = wd (ix3 1 f d) := by
  pointwise [val_main_v62, val_main_v61, val_main_v60]

theorem gain1_apply (d : Fin 1024) : val_main_v23 (F := Ideal) g (ix1 d) = g (ix3 2 0 d) := by
  pointwise [val_main_v23, val_main_v22]

theorem bias1_apply (d : Fin 1024) : val_main_v25 (F := Ideal) b (ix1 d) = b (ix3 2 0 d) := by
  pointwise [val_main_v25, val_main_v24]

theorem gain2_apply (d : Fin 1024) : val_main_v69 (F := Ideal) g (ix1 d) = g (ix3 3 0 d) := by
  pointwise [val_main_v69, val_main_v68]

theorem bias2_apply (d : Fin 1024) : val_main_v71 (F := Ideal) b (ix1 d) = b (ix3 3 0 d) := by
  pointwise [val_main_v71, val_main_v70]

/-- The output projection. -/
theorem proj_apply (d : Fin 1024) :
    val_main_v17 (F := Ideal) o wo (ix3 0 s d) = proj (fun k => o (ix3 0 s k)) (fun k d => wo (ix3 0 k d)) d := by
  pointwise [val_main_v17, val_main_v16, val_main_v15, val_main_v14, proj]

/-- The tokens after the attention's norm. -/
noncomputable def attTokens : FVec Ideal S1x256x1024 .f32 :=
  normTokens (residTokens x (val_main_v17 (F := Ideal) o wo) (val_main_v10 (F := Ideal) ada))
    (val_main_v23 (F := Ideal) g) (val_main_v25 (F := Ideal) b)

/-- The reference, as the whole-array operations. -/
theorem result_eq : val_main_v95 (F := Ideal) x o ada wo g b wu wd
    = normTokens
        (residTokens (attTokens x o ada wo g b)
          (feedTokens (modulTokens (attTokens x o ada wo g b) (val_main_v12 (F := Ideal) ada) (val_main_v11 (F := Ideal) ada))
            (val_main_v56 (F := Ideal) wu) (val_main_v62 (F := Ideal) wd))
          (val_main_v13 (F := Ideal) ada))
        (val_main_v69 (F := Ideal) g) (val_main_v71 (F := Ideal) b) := rfl

theorem attTokens_apply (d : Fin 1024) :
    attTokens x o ada wo g b (ix3 0 s d)
      = attended (fun d => x (ix3 0 s d)) (fun k => o (ix3 0 s k))
          (fun d => ada (ix3 1 (modAt s) ⟨2048 + d.val, by omega⟩)) (fun k d => wo (ix3 0 k d))
          (fun d => g (ix3 2 0 d)) (fun d => b (ix3 2 0 d)) d := by
  unfold attTokens
  rw [normTokens_apply]
  simp only [residTokens_apply, proj_apply, gate1_apply, gain1_apply, bias1_apply]
  rfl

/-- The reference's result is the layer's second half of its arguments. -/
theorem result_apply (d : Fin 1024) :
    val_main_v95 (F := Ideal) x o ada wo g b wu wd (ix3 0 s d) = stepAt x o ada wo g b wu wd s d := by
  rw [result_eq, normTokens_apply]
  simp only [residTokens_apply, feedTokens_apply, modulTokens_apply, attTokens_apply, shift_apply, scale_apply,
    gate2_apply, up_apply, down_apply, gain2_apply, bias2_apply]
  rfl

end

end Cert.Reference6Ideal.StepMlp
-- ==== Proof.StepOprojClaims.lean ====
module
public import proofs.«01_k».proof.Defs
public import proofs.«01_k».proof.Proof.StepOprojReference
public import proofs.«01_k».proof.Proof.Gen.Reference6Ideal.Run

/-! # The sample batch's output projection and feed-forward: the kernel's result is the reference's -/

set_option maxRecDepth 16384

namespace Cert.Proof.StepOproj

open Idealize.ShloMosaic Idealize.SL.Sem

@[expose] public section

/-- The reference's run leaves its arguments and the semaphores as they were. -/
theorem reference_frame [hReference6Ideal : Cert.Reference6Ideal.Facts] : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Kernel and reference compute the same array. -/
theorem algebraic : Cert.algebraic_Kernel6Ideal_Reference6Ideal := by
  intro m g m' g' _ hagree
  refine ⟨fun c => Cert.Kernel6Ideal.StepMlp.result m c, ?_, ?_⟩
  · exact (θ_run Cert.Kernel6Ideal.defs _ _).mono
      (fun _ h c => ⟨(h c).1.trans (Cert.Kernel6Ideal.StepMlp.final m c), (h c).2⟩)
      (Cert.Kernel6Ideal.Value.run_blocks (F := Ideal) m g)
  · refine (θ_run Cert.Reference6Ideal.defs _ _).mono (fun _ h c => ⟨(h c).1.trans ?_, (h c).2⟩)
      (Cert.Reference6Ideal.Value.run (F := Ideal) m' g')
    obtain ⟨h0, h1, h2, h3, h4, h5, h6, h7⟩ := hagree c
    rw [Cert.Reference6Ideal.Read.val_main_v95_eq]
    change Cert.Reference6Ideal.Read.val_main_v95 (F := Ideal) (m' (c.tc.loc Cert.Reference6Ideal.main_arg0))
      (m' (c.tc.loc Cert.Reference6Ideal.main_arg1)) (m' (c.tc.loc Cert.Reference6Ideal.main_arg2))
      (m' (c.tc.loc Cert.Reference6Ideal.main_arg3)) (m' (c.tc.loc Cert.Reference6Ideal.main_arg4))
      (m' (c.tc.loc Cert.Reference6Ideal.main_arg5)) (m' (c.tc.loc Cert.Reference6Ideal.main_arg6))
      (m' (c.tc.loc Cert.Reference6Ideal.main_arg7)) = _
    rw [h0, h1, h2, h3, h4, h5, h6, h7]
    exact Cert.StepLoads.tokens_ext fun s d => Cert.Reference6Ideal.StepMlp.result_apply _ _ _ _ _ _ _ _ s d

end

end Cert.Proof.StepOproj
-- ==== Proof.StepKvqRun.lean ====
module
public import proofs.«01_k».proof.Proof.StepLoads
public import proofs.«01_k».proof.Proof.KvqRun

/-! # The sample batch's keys, values and queries: what the one grid step stores -/

set_option maxRecDepth 16384

namespace Cert.Kernel5Ideal.StepKvq

open Cert.Kernel5Ideal Cert.Kernel5Ideal.Gen Cert.StepLoads Idealize.ShloMosaic Idealize.ShloMosaic.Pipeline

@[expose] public section

section Step

variable {F : FTy → Type} [FloatOps F] (i : grid0.Coords) {c : Dev nD}
  {arg2 : Memref sig .tc .vmem S1x256x1024 .f32} (harg2 : arg2.IsWhole)
  {arg3 : Memref sig .tc .vmem S1x256x1024 .f32} (harg3 : arg3.IsWhole)
  {arg4 : Memref sig .tc .vmem S1x256x1024 .f32} (harg4 : arg4.IsWhole)
  {arg5 : Memref sig .tc .vmem S1024x2048 .bf16} (harg5 : arg5.IsWhole)
  {arg6 : Memref sig .tc .vmem S1x1024x1024 .bf16} (harg6 : arg6.IsWhole)
  {arg7 : Memref sig .tc .vmem S1x256x1024 .f32} {harg7 : arg7.IsWhole}
  {arg8 : Memref sig .tc .vmem S1x256x1024 .f32} {harg8 : arg8.IsWhole}
  {arg9 : Memref sig .tc .vmem S1x1024x256 .f32} {harg9 : arg9.IsWhole}
  {arg10 : Memref sig .tc .vmem S1x1024x256 .f32} {harg10 : arg10.IsWhole}
  {arg11 : Memref sig .tc .vmem S1x256x1024 .f32} {harg11 : arg11.IsWhole}
  (x0 x1 x2 : Vec F S1x256x1024 .f32) (x3 : Vec F S1024x2048 .bf16) (x4 : Vec F S1x1024x1024 .bf16)

/-- The step's five stores: the keys, the values, both with the positions last, and the queries. -/
theorem stores :
    let run := kernelRun0_A c i arg2 harg2 arg3 harg3 arg4 harg4 arg5 harg5 arg6 harg6 arg7 harg7 arg8 harg8
        arg9 harg9 arg10 harg10 arg11 harg11 x0 x1 x2 x3 x4
    run.1 = [⟨Rect.unit ![0, 0, 0] S1x256x1024.size inb_S1x256x1024_S1x256x1024_0_0_0,
          k0_pay6 (tokensOf harg2 x0) (wkvOf harg5 x3)⟩]
    ∧ run.2.1 = [⟨Rect.unit ![0, 0, 0] S1x256x1024.size inb_S1x256x1024_S1x256x1024_0_0_0,
          k0_pay7 (tokensOf harg2 x0) (wkvOf harg5 x3)⟩]
    ∧ run.2.2.1 = [⟨Rect.unit ![0, 0, 0] S1x1024x256.size inb_S1x1024x256_S1x1024x256_0_0_0,
          k0_pay8 (tokensOf harg2 x0) (wkvOf harg5 x3)⟩]
    ∧ run.2.2.2.1 = [⟨Rect.unit ![0, 0, 0] S1x1024x256.size inb_S1x1024x256_S1x1024x256_0_0_0,
          k0_pay9 (tokensOf harg2 x0) (wkvOf harg5 x3)⟩]
    ∧ run.2.2.2.2.1 = [⟨Rect.unit ![0, 0, 0] S1x256x1024.size inb_S1x256x1024_S1x256x1024_0_0_0,
          k0_pay1 (k0_pay10 (tokensOf harg2 x0) (tokensOf harg4 x2) (tokensOf harg3 x1)) (projOf harg6 x4)⟩] := by
  delta kernelRun0_A
  exact ⟨rfl, rfl, rfl, rfl, rfl⟩

end Step

/-! ## Element by element -/

section Elements

open Cert.Rows
open Cert.Kernel4Ideal.Kvq (dot vcol kcol)

variable (x : FVec Ideal S1x256x1024 .f32) (w : FVec Ideal S1024x2048 .bf16)

theorem pay6_apply (r : Fin 256) (d : Fin 1024) :
    k0_pay6 (F := Ideal) x w (ix3 0 r d) = dot (fun k => x (ix3 0 r k)) (fun k e => w (ix2 k e)) (kcol d) := by
  pointwise [k0_pay6, k0_pay4, k0_pay3, k0_pay2, dot]

theorem pay7_apply (r : Fin 256) (d : Fin 1024) :
    k0_pay7 (F := Ideal) x w (ix3 0 r d) = dot (fun k => x (ix3 0 r k)) (fun k e => w (ix2 k e)) (vcol d) := by
  pointwise [k0_pay7, k0_pay5, k0_pay3, k0_pay2, dot]

theorem pay8_apply (d : Fin 1024) (r : Fin 256) :
    k0_pay8 (F := Ideal) x w (ix3 0 d r) = dot (fun k => x (ix3 0 r k)) (fun k e => w (ix2 k e)) (kcol d) := by
  pointwise [k0_pay8, k0_pay4, k0_pay3, k0_pay2, dot]

theorem pay9_apply (d : Fin 1024) (r : Fin 256) :
    k0_pay9 (F := Ideal) x w (ix3 0 d r) = dot (fun k => x (ix3 0 r k)) (fun k e => w (ix2 k e)) (vcol d) := by
  pointwise [k0_pay9, k0_pay5, k0_pay3, k0_pay2, dot]

theorem pay1_apply (h : FVec Ideal S256x1024 .f32) (w : FVec Ideal S1x1024x1024 .bf16) (r : Fin 256) (d : Fin 1024) :
    k0_pay1 (F := Ideal) h w (ix3 0 r d)
      = dot (fun k => h (ix2 r k)) (fun k e => w (ix3 0 k e)) d * Ideal.ofBits .f32 0x3E000000#32 := by
  pointwise [k0_pay1, dot]

theorem pay10_apply (sc sh : FVec Ideal S1x256x1024 .f32) (r : Fin 256) (d : Fin 1024) :
    k0_pay10 (F := Ideal) x sc sh (ix2 r d)
      = modul (fun d => x (ix3 0 r d)) (fun d => sc (ix3 0 r d)) (fun d => sh (ix3 0 r d)) d := by
  pointwise [k0_pay10, k0_pay2, modul]

end Elements

end

end Cert.Kernel5Ideal.StepKvq
-- ==== Proof.StepKvqFinal.lean ====
module
public import proofs.«01_k».proof.Proof.StepKvqRun

/-! # The sample batch's keys, values and queries: the kernel's result arrays -/

set_option maxRecDepth 16384

namespace Cert.Kernel5Ideal.StepKvq

open Cert.Kernel5Ideal Cert.Kernel5Ideal.Gen Cert.Rows Cert.Loads Cert.StepLoads
open Idealize.ShloMosaic Idealize.ShloMosaic.Pipeline
open Cert.Kernel4Ideal.Kvq (dot vcol kcol query)

@[expose] public section

/-! ## The windows -/

section Windows

theorem index_data : ∀ t : Fin cfg0.N, win0_0.index t = ![0, 0, 0] ∧ win0_1.index t = ![1, 0, 0]
    ∧ win0_2.index t = ![1, 0, 1] ∧ win0_3.index t = ![0, 0] ∧ win0_4.index t = ![0, 0, 0] :=
  (by decide +kernel : ∀ t : Fin grid0.N, win0_0.index t = ![0, 0, 0] ∧ win0_1.index t = ![1, 0, 0]
    ∧ win0_2.index t = ![1, 0, 1] ∧ win0_3.index t = ![0, 0] ∧ win0_4.index t = ![0, 0, 0])

theorem index_result : ∀ t : Fin cfg0.N, win0_5.index t = ![0, 0, 0] ∧ win0_6.index t = ![0, 0, 0]
    ∧ win0_7.index t = ![0, 0, 0] ∧ win0_8.index t = ![0, 0, 0] ∧ win0_9.index t = ![0, 0, 0] :=
  (by decide +kernel : ∀ t : Fin grid0.N, win0_5.index t = ![0, 0, 0] ∧ win0_6.index t = ![0, 0, 0]
    ∧ win0_7.index t = ![0, 0, 0] ∧ win0_8.index t = ![0, 0, 0] ∧ win0_9.index t = ![0, 0, 0])

variable (m : (ℓ : Loc nD τ sig) → Buf (Elt Ideal) ℓ) (c : Dev nD) (t : Fin cfg0.N)

theorem tokens_block (r : Fin 256) (d : Fin 1024) :
    iblk m c 0 t (ix3 0 r d) = m (c.tc.loc main_arg0) (ix3 0 r d) := by
  refine congrArg (m (c.tc.loc main_arg0)) (place_ext ?_ ?_ ?_) <;> blk_simp [(index_data t).1] <;> rfl

theorem shift_block (r : Fin 256) (d : Fin 1024) :
    X0_1 m c t (ix3 0 r d) = m (c.tc.loc main_arg1) (ix3 1 (modAt r) ⟨d.val, by omega⟩) := by
  unfold X0_1 Window.fill
  rw [dif_pos (moved0_1 t _)]
  refine congrArg (m (c.tc.loc main_arg1)) (place_ext ?_ ?_ ?_) <;> blk_simp [(index_data t).2.1] <;> rfl

theorem scale_block (r : Fin 256) (d : Fin 1024) :
    X0_2 m c t (ix3 0 r d) = m (c.tc.loc main_arg1) (ix3 1 (modAt r) ⟨1024 + d.val, by omega⟩) := by
  unfold X0_2 Window.fill
  rw [dif_pos (moved0_2 t _)]
  refine congrArg (m (c.tc.loc main_arg1)) (place_ext ?_ ?_ ?_) <;> blk_simp [(index_data t).2.2.1] <;> rfl

theorem wkv_block (k : Fin 1024) (e : Fin 2048) :
    iblk m c 3 t (ix2 k e) = m (c.tc.loc main_arg2) (ix2 k e) := by
  refine congrArg (m (c.tc.loc main_arg2)) (funext fun a => Fin.ext ?_)
  match a with
  | ⟨0, _⟩ => blk_simp [(index_data t).2.2.2.1] <;> rfl
  | ⟨1, _⟩ => blk_simp [(index_data t).2.2.2.1] <;> rfl

theorem wq_block (k d : Fin 1024) :
    iblk m c 4 t (ix3 0 k d) = m (c.tc.loc main_arg3) (ix3 0 k d) := by
  refine congrArg (m (c.tc.loc main_arg3)) (place_ext ?_ ?_ ?_) <;> blk_simp [(index_data t).2.2.2.2] <;> rfl

end Windows

/-! ## The results -/

/-- A column of the joint keys and values of a token. -/
noncomputable def kvAt (x : S1x256x1024.Idx → EReal) (w : S1024x2048.Idx → EReal) (s : Fin 256) : Fin 2048 → EReal :=
  dot (fun k => x (ix3 0 s k)) (fun k e => w (ix2 k e))

/-- The query of a token. -/
noncomputable def queryAt (x : S1x256x1024.Idx → EReal) (ada : (⟨3, ![2, 296, 6144]⟩ : Shape).Idx → EReal)
    (w : S1x1024x1024.Idx → EReal) (s : Fin 256) : Fin 1024 → EReal :=
  query (fun k => x (ix3 0 s k)) (fun d => ada (ix3 1 (modAt s) ⟨1024 + d.val, by omega⟩))
    (fun d => ada (ix3 1 (modAt s) ⟨d.val, by omega⟩)) (fun k d => w (ix3 0 k d))

section Results

variable (m : (ℓ : Loc nD τ sig) → Buf (Elt Ideal) ℓ) (c : Dev nD)

/-- The keys. -/
noncomputable def keys : S1x256x1024.Idx → EReal := fun y =>
  kvAt (m (c.tc.loc main_arg0)) (m (c.tc.loc main_arg2)) (y 1) (kcol (y 2))

/-- The values. -/
noncomputable def values : S1x256x1024.Idx → EReal := fun y =>
  kvAt (m (c.tc.loc main_arg0)) (m (c.tc.loc main_arg2)) (y 1) (vcol (y 2))

/-- The keys, the tokens last. -/
noncomputable def keysT : S1x1024x256.Idx → EReal := fun y =>
  kvAt (m (c.tc.loc main_arg0)) (m (c.tc.loc main_arg2)) (y 2) (kcol (y 1))

/-- The values, the tokens last. -/
noncomputable def valuesT : S1x1024x256.Idx → EReal := fun y =>
  kvAt (m (c.tc.loc main_arg0)) (m (c.tc.loc main_arg2)) (y 2) (vcol (y 1))

/-- The queries. -/
noncomputable def queries : S1x256x1024.Idx → EReal := fun y =>
  queryAt (m (c.tc.loc main_arg0)) (m (c.tc.loc main_arg1)) (m (c.tc.loc main_arg3)) (y 1) (y 2)

/-- An element of the transposed block. -/
theorem columns_cases (y : S1x1024x256.Idx) : ∃ (d : Fin 1024) (r : Fin 256), y = ix3 0 d r :=
  ⟨y 1, y 2, funext fun b => match b with
    | ⟨0, _⟩ => Subsingleton.elim (α := Fin 1) _ _
    | ⟨1, _⟩ => rfl
    | ⟨2, _⟩ => rfl⟩

/-- Two transposed arrays agree when they do at every column and token. -/
theorem columns_ext {f g : S1x1024x256.Idx → EReal}
    (h : ∀ (d : Fin 1024) (s : Fin 256), f (ix3 0 d s) = g (ix3 0 d s)) : f = g := funext fun y => by
  obtain ⟨d, r, rfl⟩ := columns_cases y
  exact h d r

/-- The grid has a point. -/
abbrev point : Fin cfg0.N := ⟨0, by rw [show cfg0.N = 1 from N_0]; exact Nat.one_pos⟩

variable (t : Fin cfg0.N)

/-! ## The keys -/

/-- What the step writes back are the keys. -/
theorem flushed5_eq : (dats m 0 c).flushed 5 t = ((cfg0.win 5).blk t).view.read (Elt Ideal) (keys m c) := by
  rw [Value.flushed5_A]
  unfold out0_A_5
  rw [(stores _ _ _ _ _ _ _ _ _ _ _).1]
  refine (View.read_writes_full _ _ _ _ _).trans (funext fun y => ?_)
  obtain ⟨r, d, rfl⟩ := block_cases y
  have place : (((cfg0.win 5).blk t).view.emb (ix3 0 r d) : S1x256x1024.Idx) = ix3 0 r d := by
    refine place_ext ?_ ?_ ?_ <;> blk_simp [(index_result t).1] <;> rfl
  refine Eq.trans ?_ (congrArg (keys m c) place).symm
  rw [pay6_apply]
  simp only [tokensOf_apply, wkvOf_apply, tokens_block, wkv_block]
  rfl

theorem cover5 (y : S1x256x1024.Idx) :
    ∃ t : Fin cfg0.N, (cfg0.win 5).flush t = true ∧ y ∈ ((cfg0.win 5).blk t).view.set := by
  have h0 : (y 0).val < 1 := (y 0).isLt
  have h1 : (y 1).val < 256 := (y 1).isLt
  have h2 : (y 2).val < 1024 := (y 2).isLt
  refine ⟨point, flush0_5 _, ?_⟩
  mem_blk [(index_result point).1]
  omega

theorem final5 : (dats m 0 c).arrAt 5 cfg0.N = keys m c :=
  (dats m 0 c).arrAt_eq_of_cover 5 (keys m c) (fun t _ => flushed5_eq m c t) cover5

/-! ## The values -/

/-- What the step writes back are the values. -/
theorem flushed6_eq : (dats m 0 c).flushed 6 t = ((cfg0.win 6).blk t).view.read (Elt Ideal) (values m c) := by
  rw [Value.flushed6_A]
  unfold out0_A_6
  rw [(stores _ _ _ _ _ _ _ _ _ _ _).2.1]
  refine (View.read_writes_full _ _ _ _ _).trans (funext fun y => ?_)
  obtain ⟨r, d, rfl⟩ := block_cases y
  have place : (((cfg0.win 6).blk t).view.emb (ix3 0 r d) : S1x256x1024.Idx) = ix3 0 r d := by
    refine place_ext ?_ ?_ ?_ <;> blk_simp [(index_result t).2.1] <;> rfl
  refine Eq.trans ?_ (congrArg (values m c) place).symm
  rw [pay7_apply]
  simp only [tokensOf_apply, wkvOf_apply, tokens_block, wkv_block]
  rfl

theorem cover6 (y : S1x256x1024.Idx) :
    ∃ t : Fin cfg0.N, (cfg0.win 6).flush t = true ∧ y ∈ ((cfg0.win 6).blk t).view.set := by
  have h0 : (y 0).val < 1 := (y 0).isLt
  have h1 : (y 1).val < 256 := (y 1).isLt
  have h2 : (y 2).val < 1024 := (y 2).isLt
  refine ⟨point, flush0_6 _, ?_⟩
  mem_blk [(index_result point).2.1]
  omega

theorem final6 : (dats m 0 c).arrAt 6 cfg0.N = values m c :=
  (dats m 0 c).arrAt_eq_of_cover 6 (values m c) (fun t _ => flushed6_eq m c t) cover6

/-! ## The keys, the tokens last -/

/-- What the step writes back are the transposed keys. -/
theorem flushed7_eq : (dats m 0 c).flushed 7 t = ((cfg0.win 7).blk t).view.read (Elt Ideal) (keysT m c) := by
  rw [Value.flushed7_A]
  unfold out0_A_7
  rw [(stores _ _ _ _ _ _ _ _ _ _ _).2.2.1]
  refine (View.read_writes_full _ _ _ _ _).trans (funext fun y => ?_)
  obtain ⟨d, r, rfl⟩ := columns_cases y
  have place : (((cfg0.win 7).blk t).view.emb (ix3 0 d r) : S1x1024x256.Idx) = ix3 0 d r := by
    refine place_ext ?_ ?_ ?_ <;> blk_simp [(index_result t).2.2.1] <;> rfl
  refine Eq.trans ?_ (congrArg (keysT m c) place).symm
  rw [pay8_apply]
  simp only [tokensOf_apply, wkvOf_apply, tokens_block, wkv_block]
  rfl

theorem cover7 (y : S1x1024x256.Idx) :
    ∃ t : Fin cfg0.N, (cfg0.win 7).flush t = true ∧ y ∈ ((cfg0.win 7).blk t).view.set := by
  have h0 : (y 0).val < 1 := (y 0).isLt
  have h1 : (y 1).val < 1024 := (y 1).isLt
  have h2 : (y 2).val < 256 := (y 2).isLt
  refine ⟨point, flush0_7 _, ?_⟩
  mem_blk [(index_result point).2.2.1]
  omega

theorem final7 : (dats m 0 c).arrAt 7 cfg0.N = keysT m c :=
  (dats m 0 c).arrAt_eq_of_cover 7 (keysT m c) (fun t _ => flushed7_eq m c t) cover7

/-! ## The values, the tokens last -/

/-- What the step writes back are the transposed values. -/
theorem flushed8_eq : (dats m 0 c).flushed 8 t = ((cfg0.win 8).blk t).view.read (Elt Ideal) (valuesT m c) := by
  rw [Value.flushed8_A]
  unfold out0_A_8
  rw [(stores _ _ _ _ _ _ _ _ _ _ _).2.2.2.1]
  refine (View.read_writes_full _ _ _ _ _).trans (funext fun y => ?_)
  obtain ⟨d, r, rfl⟩ := columns_cases y
  have place : (((cfg0.win 8).blk t).view.emb (ix3 0 d r) : S1x1024x256.Idx) = ix3 0 d r := by
    refine place_ext ?_ ?_ ?_ <;> blk_simp [(index_result t).2.2.2.1] <;> rfl
  refine Eq.trans ?_ (congrArg (valuesT m c) place).symm
  rw [pay9_apply]
  simp only [tokensOf_apply, wkvOf_apply, tokens_block, wkv_block]
  rfl

theorem cover8 (y : S1x1024x256.Idx) :
    ∃ t : Fin cfg0.N, (cfg0.win 8).flush t = true ∧ y ∈ ((cfg0.win 8).blk t).view.set := by
  have h0 : (y 0).val < 1 := (y 0).isLt
  have h1 : (y 1).val < 1024 := (y 1).isLt
  have h2 : (y 2).val < 256 := (y 2).isLt
  refine ⟨point, flush0_8 _, ?_⟩
  mem_blk [(index_result point).2.2.2.1]
  omega

theorem final8 : (dats m 0 c).arrAt 8 cfg0.N = valuesT m c :=
  (dats m 0 c).arrAt_eq_of_cover 8 (valuesT m c) (fun t _ => flushed8_eq m c t) cover8

/-! ## The queries -/

/-- What the step writes back are the queries. -/
theorem flushed9_eq : (dats m 0 c).flushed 9 t = ((cfg0.win 9).blk t).view.read (Elt Ideal) (queries m c) := by
  rw [Value.flushed9_A]
  unfold out0_A_9
  rw [(stores _ _ _ _ _ _ _ _ _ _ _).2.2.2.2]
  refine (View.read_writes_full _ _ _ _ _).trans (funext fun y => ?_)
  obtain ⟨r, d, rfl⟩ := block_cases y
  have place : (((cfg0.win 9).blk t).view.emb (ix3 0 r d) : S1x256x1024.Idx) = ix3 0 r d := by
    refine place_ext ?_ ?_ ?_ <;> blk_simp [(index_result t).2.2.2.2] <;> rfl
  refine Eq.trans ?_ (congrArg (queries m c) place).symm
  rw [pay1_apply]
  simp only [pay10_apply, tokensOf_apply, projOf_apply, tokens_block, shift_block, scale_block, wq_block]
  rfl

theorem cover9 (y : S1x256x1024.Idx) :
    ∃ t : Fin cfg0.N, (cfg0.win 9).flush t = true ∧ y ∈ ((cfg0.win 9).blk t).view.set := by
  have h0 : (y 0).val < 1 := (y 0).isLt
  have h1 : (y 1).val < 256 := (y 1).isLt
  have h2 : (y 2).val < 1024 := (y 2).isLt
  refine ⟨point, flush0_9 _, ?_⟩
  mem_blk [(index_result point).2.2.2.2]
  omega

theorem final9 : (dats m 0 c).arrAt 9 cfg0.N = queries m c :=
  (dats m 0 c).arrAt_eq_of_cover 9 (queries m c) (fun t _ => flushed9_eq m c t) cover9

end Results

end

end Cert.Kernel5Ideal.StepKvq
-- ==== Proof.StepKvqReference.lean ====
module
public import proofs.«01_k».proof.Proof.StepKvqFinal
public import proofs.«01_k».proof.Proof.Gen.Reference5Ideal.Read

/-! # The sample batch's keys, values and queries: the reference, element by element -/

set_option maxRecDepth 16384

namespace Cert.Reference5Ideal.StepKvq

open Cert.Reference5Ideal Cert.Reference5Ideal.Read Cert.Rows Cert.StepLoads Cert.Kernel5Ideal.StepKvq Idealize.ShloMosaic
open Cert.Kernel4Ideal.Kvq (dot vcol kcol)

@[expose] public section

variable (x : FVec Ideal S1x256x1024 .f32) (ada : FVec Ideal S2x296x6144 .f32) (wkv : FVec Ideal S1024x2048 .bf16)
  (wq : FVec Ideal S1x1024x1024 .bf16) (s : Fin 256)

theorem shift_apply (d : Fin 1024) :
    val_main_v8 (F := Ideal) ada (ix3 0 s d) = ada (ix3 1 (modAt s) ⟨d.val, by omega⟩) := by
  pointwise [val_main_v8, val_main_v2, val_main_v1, val_main_v0]

theorem scale_apply (d : Fin 1024) :
    val_main_v9 (F := Ideal) ada (ix3 0 s d) = ada (ix3 1 (modAt s) ⟨1024 + d.val, by omega⟩) := by
  pointwise [val_main_v9, val_main_v3, val_main_v1, val_main_v0]

/-- The joint keys and values. -/
theorem kv_apply (e : Fin 2048) : val_main_v15 (F := Ideal) x wkv (ix3 0 s e) = kvAt x wkv s e := by
  pointwise [val_main_v15, val_main_v14, kvAt, dot]

/-- The keys. -/
theorem keys_apply (d : Fin 1024) : val_main_v16 (F := Ideal) x wkv (ix3 0 s d) = kvAt x wkv s (kcol d) := by
  rw [← kv_apply]
  unfold val_main_v16
  generalize val_main_v15 (F := Ideal) x wkv = y
  pointwise

/-- The values. -/
theorem values_apply (d : Fin 1024) : val_main_v17 (F := Ideal) x wkv (ix3 0 s d) = kvAt x wkv s (vcol d) := by
  rw [← kv_apply]
  unfold val_main_v17
  generalize val_main_v15 (F := Ideal) x wkv = y
  pointwise

/-- The keys, the tokens last. -/
theorem keysT_apply (d : Fin 1024) : val_main_v27 (F := Ideal) x wkv (ix3 0 d s) = kvAt x wkv s (kcol d) := by
  rw [← keys_apply]
  unfold val_main_v27
  generalize val_main_v16 (F := Ideal) x wkv = y
  pointwise

/-- The values, the tokens last. -/
theorem valuesT_apply (d : Fin 1024) : val_main_v28 (F := Ideal) x wkv (ix3 0 d s) = kvAt x wkv s (vcol d) := by
  rw [← values_apply]
  unfold val_main_v28
  generalize val_main_v17 (F := Ideal) x wkv = y
  pointwise

/-- The modulated tokens. -/
theorem modulated_apply (d : Fin 1024) :
    val_main_v21 (F := Ideal) x ada (ix3 0 s d)
      = modul (fun k => x (ix3 0 s k)) (fun d => val_main_v9 (F := Ideal) ada (ix3 0 s d))
          (fun d => val_main_v8 (F := Ideal) ada (ix3 0 s d)) d := by
  unfold val_main_v21 val_main_v20 val_main_v19
  generalize val_main_v9 (F := Ideal) ada = u
  generalize val_main_v8 (F := Ideal) ada = v
  pointwise [val_main_v18, val_main_cst, modul]

/-- The queries. -/
theorem queries_apply (d : Fin 1024) : val_main_v26 (F := Ideal) x ada wq (ix3 0 s d) = queryAt x ada wq s d := by
  have e : val_main_v26 (F := Ideal) x ada wq (ix3 0 s d)
      = dot (fun k => val_main_v21 (F := Ideal) x ada (ix3 0 s k)) (fun k d => wq (ix3 0 k d)) d
        * Ideal.ofBits .f32 0x3E000000#32 := by
    unfold val_main_v26 val_main_v24
    generalize val_main_v21 (F := Ideal) x ada = h
    pointwise [val_main_v25, val_main_v23, val_main_v22, val_main_cst_0, dot]
  rw [e]
  simp only [modulated_apply, shift_apply, scale_apply]
  rfl

end

end Cert.Reference5Ideal.StepKvq
-- ==== Proof.StepKvqClaims.lean ====
module
public import proofs.«01_k».proof.Defs
public import proofs.«01_k».proof.Proof.StepKvqReference
public import proofs.«01_k».proof.Proof.Gen.Reference5Ideal.Run

/-! # The sample batch's keys, values and queries: the kernel's results are the reference's -/

set_option maxRecDepth 16384

namespace Cert.Proof.StepKvq

open Idealize.ShloMosaic Idealize.SL.Sem Cert.Reference5Ideal.Read Cert.Reference5Ideal.StepKvq Cert.Kernel5Ideal.StepKvq
open Cert.StepLoads (tokens_ext)

@[expose] public section

/-- The reference's run leaves its arguments and the semaphores as they were. -/
theorem reference_frame [hReference5Ideal : Cert.Reference5Ideal.Facts] : Cert.quiescent_Reference5Ideal := fun m ρ _ =>
  (θ_run Cert.Reference5Ideal.defs _ _).mono
    (fun r h => ⟨fun c => (h c).2.2.2.2.2, sem_eq_zero_of_no_sems (by decide) r.2⟩)
    (Cert.Reference5Ideal.Value.run (F := Ideal) m ρ)

/-- Kernel and reference compute the same arrays. -/
theorem algebraic : Cert.algebraic_Kernel5Ideal_Reference5Ideal := by
  intro m g m' g' _ hagree
  refine ⟨fun c => keys m c, fun c => values m c, fun c => keysT m c, fun c => valuesT m c, fun c => queries m c, ?_, ?_⟩
  · exact (θ_run Cert.Kernel5Ideal.defs _ _).mono
      (fun _ h c => ⟨(h c).1.trans (final5 m c), (h c).2.1.trans (final6 m c), (h c).2.2.1.trans (final7 m c),
        (h c).2.2.2.1.trans (final8 m c), (h c).2.2.2.2.1.trans (final9 m c), (h c).2.2.2.2.2⟩)
      (Cert.Kernel5Ideal.Value.run_blocks (F := Ideal) m g)
  · refine (θ_run Cert.Reference5Ideal.defs _ _).mono
      (fun _ h c => ⟨(h c).1.trans ?_, (h c).2.1.trans ?_, (h c).2.2.1.trans ?_, (h c).2.2.2.1.trans ?_,
        (h c).2.2.2.2.1.trans ?_, (h c).2.2.2.2.2⟩)
      (Cert.Reference5Ideal.Value.run (F := Ideal) m' g')
    all_goals obtain ⟨h0, h1, h2, h3⟩ := hagree c
    · rw [val_main_v16_eq, h0, h2]
      exact tokens_ext fun s d => keys_apply _ _ s d
    · rw [val_main_v17_eq, h0, h2]
      exact tokens_ext fun s d => values_apply _ _ s d
    · rw [val_main_v27_eq, h0, h2]
      exact columns_ext fun d s => keysT_apply _ _ s d
    · rw [val_main_v28_eq, h0, h2]
      exact columns_ext fun d s => valuesT_apply _ _ s d
    · rw [val_main_v26_eq, h0, h1, h3]
      exact tokens_ext fun s d => queries_apply _ _ _ s d

end

end Cert.Proof.StepKvq
-- ==== Proof.StepMixerRun.lean ====
module
public import proofs.«01_k».proof.Proof.Loads
public import proofs.«01_k».proof.Proof.Gen.Kernel7Ideal.Value

/-! # The sample batch's mixer: what one grid step stores

A step takes eight sequences. Its scratch `ext` has forty rows for each: the past, whose last fifteen
rows are the history, and the eight tokens. Three further scratches hold sums of 2, 4 and 8 rows. The
functions here take the sequence as an argument. -/

set_option maxRecDepth 16384

namespace Cert.Kernel7Ideal.StepMixer

open Cert.Kernel7Ideal Cert.Kernel7Ideal.Gen Cert.Loads Idealize.ShloMosaic Idealize.ShloMosaic.Pipeline

@[expose] public section

section Step

variable {F : FTy → Type} [FloatOps F] (i : grid0.Coords)
  {arg2 : Memref sig .tc .vmem S8x8x1024 .f32} (harg2 : arg2.IsWhole)
  {arg3 : Memref sig .tc .vmem S8x15x1024 .f32} (harg3 : arg3.IsWhole)
  {arg4 : Memref sig .tc .vmem S1x8x1024 .f32} (harg4 : arg4.IsWhole)
  {arg5 : Memref sig .tc .vmem S1x8x1024 .f32} (harg5 : arg5.IsWhole)
  {arg6 : Memref sig .tc .vmem S1x8x1024 .f32} (harg6 : arg6.IsWhole)
  {arg7 : Memref sig .tc .vmem S1x4x256x256 .bf16} (harg7 : arg7.IsWhole)
  {arg8 : Memref sig .tc .vmem S1x1024 .f32} (harg8 : arg8.IsWhole)
  {arg9 : Memref sig .tc .vmem S1x1x1024 .f32} (harg9 : arg9.IsWhole)
  {arg10 : Memref sig .tc .vmem S1x1x1024 .f32} (harg10 : arg10.IsWhole)
  {arg11 : Memref sig .tc .vmem S8x8x1024 .f32} {harg11 : arg11.IsWhole}
  {arg12 : Memref sig .tc .vmem S8x15x1024 .f32} {harg12 : arg12.IsWhole}
  {arg13 : Memref sig .tc .vmem S320x1024 .f32} {harg13 : arg13.IsWhole}
  {arg14 : Memref sig .tc .vmem S320x768 .f32} {harg14 : arg14.IsWhole}
  {arg15 : Memref sig .tc .vmem S320x768 .f32} {harg15 : arg15.IsWhole}
  {arg16 : Memref sig .tc .vmem S320x512 .f32} {harg16 : arg16.IsWhole}
  (v13 : View sig .tc .vmem S320x1024 .f32) (v14 v15 : View sig .tc .vmem S320x768 .f32)
  (v16 : View sig .tc .vmem S320x512 .f32)
  (x0 : Vec F S8x8x1024 .f32) (x1 : Vec F S8x15x1024 .f32) (x2 x3 x4 : Vec F S1x8x1024 .f32)
  (x5 : Vec F S1x4x256x256 .bf16) (x6 : Vec F S1x1024 .f32) (x7 x8 : Vec F S1x1x1024 .f32)

/-! ## The loads of the inputs -/

/-- The eight tokens of sequence `s`. -/
noncomputable def xOf (s : Fin 8) : Vec F S1x8x1024 .f32 :=
  View.readAt (Elt F) arg2.view
    (Rect.unit (s := S8x8x1024) ![s.val, 0, 0] S1x8x1024.size (by revert s; decide +kernel)).toLoadRect (harg2.unread x0)

/-- The history of sequence `s`. -/
noncomputable def histOf (s : Fin 8) : Vec F S1x15x1024 .f32 :=
  View.readAt (Elt F) arg3.view
    (Rect.unit (s := S8x15x1024) ![s.val, 0, 0] S1x15x1024.size (by revert s; decide +kernel)).toLoadRect (harg3.unread x1)

/-- The modulation row of sequence `s`. -/
noncomputable def modOf {arg : Memref sig .tc .vmem S1x8x1024 .f32} (harg : arg.IsWhole) (x : Vec F S1x8x1024 .f32)
    (s : Fin 8) : Vec F S1x1x1024 .f32 :=
  View.readAt (Elt F) arg.view
    (Rect.unit (s := S1x8x1024) (k0_off1 i (BitVec.ofNat 32 s.val)) S1x1x1024.size (k0_off1_inb i s)).toLoadRect
    (harg.unread x)

/-- The weights of group `q`. -/
noncomputable def wOf (q : Fin 4) : Vec F S1x1x256x256 .bf16 :=
  View.readAt (Elt F) arg7.view
    (Rect.unit (s := S1x4x256x256) ![0, q.val, 0, 0] S1x1x256x256.size (by revert q; decide +kernel)).toLoadRect
    (harg7.unread x5)

/-- The scale of the pooled rows. -/
noncomputable def psOf : Vec F S1x1024 .f32 :=
  View.readAt (Elt F) arg8.view
    (Rect.unit (s := S1x1024) ![0, 0] S1x1024.size inb_S1x1024_S1x1024_0_0).toLoadRect (harg8.unread x6)

/-! ## The scratch -/

/-- The modulated tokens of sequence `s`. -/
noncomputable def hOf (s : Fin 8) : FVec F S8x1024 .f32 :=
  k0_pay22 (k0_pay21 (xOf harg2 x0 s) (modOf i harg5 x3 s)) (modOf i harg4 x2 s)

/-- The rows before the history, zero. -/
noncomputable def zeroP (s : Fin 8) : View.Piece (Elt F) S320x1024 .f32 :=
  ⟨Rect.unit (s := S320x1024) ![40 * s.val, 0] S17x1024.size (by revert s; decide +kernel), k0_pay3⟩

/-- The history's rows. -/
noncomputable def histP (s : Fin 8) : View.Piece (Elt F) S320x1024 .f32 :=
  ⟨Rect.unit (s := S320x1024) ![40 * s.val + 17, 0] S15x1024.size (by revert s; decide +kernel),
    k0_pay4 (histOf harg3 x1 s)⟩

/-- The tokens' rows. -/
noncomputable def tokP (s : Fin 8) : View.Piece (Elt F) S320x1024 .f32 :=
  ⟨Rect.unit (s := S320x1024) ![40 * s.val + 32, 0] S8x1024.size (by revert s; decide +kernel),
    hOf i harg2 harg4 harg5 x0 x2 x3 s⟩

/-- All that is stored in `ext` before the sums are taken. -/
noncomputable def extL : List (View.Piece (Elt F) S320x1024 .f32) :=
  let t := tokP i harg2 harg4 harg5 x0 x2 x3
  let h := histP harg3 x1
  [t 7, t 6, t 5, t 4, t 3, t 2, t 1, t 0, h 7, zeroP 7, h 6, zeroP 6, h 5, zeroP 5, h 4, zeroP 4,
    h 3, zeroP 3, h 2, zeroP 2, h 1, zeroP 1, h 0, zeroP 0]

section Sums

variable (E : List (View.Piece (Elt F) S320x1024 .f32))

/-- Sums of two rows. -/
noncomputable def s2L : List (View.Piece (Elt F) S320x768 .f32) :=
  [⟨Rect.unit (s := S320x768) ![8, 0] S312x768.size inb_S320x768_S312x768_8_0,
    k0_pay37
      (v13.readCov E (Rect.unit (s := S320x1024) ![8, 256] S312x768.size inb_S320x1024_S312x768_8_256).toLoadRect)
      (v13.readCov E (Rect.unit (s := S320x1024) ![7, 256] S312x768.size inb_S320x1024_S312x768_7_256).toLoadRect)⟩]

/-- Sums of four rows. -/
noncomputable def s4L (E2 : List (View.Piece (Elt F) S320x768 .f32)) : List (View.Piece (Elt F) S320x768 .f32) :=
  [⟨Rect.unit (s := S320x768) ![16, 0] S304x768.size inb_S320x768_S304x768_16_0,
    k0_pay38
      (v14.readCov E2 (Rect.unit (s := S320x768) ![16, 0] S304x768.size inb_S320x768_S304x768_16_0).toLoadRect)
      (v14.readCov E2 (Rect.unit (s := S320x768) ![14, 0] S304x768.size inb_S320x768_S304x768_14_0).toLoadRect)⟩]

/-- Sums of eight rows. -/
noncomputable def s8L (E4 : List (View.Piece (Elt F) S320x768 .f32)) : List (View.Piece (Elt F) S320x512 .f32) :=
  [⟨Rect.unit (s := S320x512) ![24, 0] S296x512.size inb_S320x512_S296x512_24_0,
    k0_pay39
      (v15.readCov E4 (Rect.unit (s := S320x768) ![24, 256] S296x512.size inb_S320x768_S296x512_24_256).toLoadRect)
      (v15.readCov E4 (Rect.unit (s := S320x768) ![20, 256] S296x512.size inb_S320x768_S296x512_20_256).toLoadRect)⟩]

/-- Eight rows of `ext` from row `40 s + 32`, in group `q`. -/
noncomputable def eAt (s : Fin 8) (q : Fin 4) : Vec F S8x256 .f32 :=
  v13.readCov E (Rect.unit (s := S320x1024) ![40 * s.val + 32, 256 * q.val] S8x256.size
    (by revert s q; decide +kernel)).toLoadRect

/-- The same one row earlier, in the first group. -/
noncomputable def eBefore (s : Fin 8) : Vec F S8x256 .f32 :=
  v13.readCov E (Rect.unit (s := S320x1024) ![40 * s.val + 31, 0] S8x256.size
    (by revert s; decide +kernel)).toLoadRect

/-- The sums of four, in the second group. -/
noncomputable def s4At (E4 : List (View.Piece (Elt F) S320x768 .f32)) (s : Fin 8) : Vec F S8x256 .f32 :=
  v15.readCov E4 (Rect.unit (s := S320x768) ![40 * s.val + 32, 0] S8x256.size
    (by revert s; decide +kernel)).toLoadRect

/-- The sums of eight from row `40 s + r`, in the third or fourth group. -/
noncomputable def s8At (E8 : List (View.Piece (Elt F) S320x512 .f32)) (s : Fin 8) (q : Fin 2) : Vec F S8x256 .f32 :=
  v16.readCov E8 (Rect.unit (s := S320x512) ![40 * s.val + 32, 256 * q.val] S8x256.size
    (by revert s q; decide +kernel)).toLoadRect

/-- The same eight rows earlier, in the fourth group. -/
noncomputable def s8Before (E8 : List (View.Piece (Elt F) S320x512 .f32)) (s : Fin 8) : Vec F S8x256 .f32 :=
  v16.readCov E8 (Rect.unit (s := S320x512) ![40 * s.val + 24, 256] S8x256.size
    (by revert s; decide +kernel)).toLoadRect

/-! ## The pooled rows -/

/-- The positions of the eight tokens. -/
noncomputable def posOf : IVec S8x1 32 := k0_pay40 (BitVec.ofNat 32 (i 1).val)

/-- The pooled rows of sequence `s`, group after group, less the tokens. -/
noncomputable def dif0 (s : Fin 8) : FVec F S8x256 .f32 :=
  k0_pay53 (k0_pay42 (posOf i) k0_pay41) (eAt v13 E s 0) (eBefore v13 E s) (eAt v13 E s 0)
noncomputable def dif1 (E4 : List (View.Piece (Elt F) S320x768 .f32)) (s : Fin 8) : FVec F S8x256 .f32 :=
  k0_pay54 (k0_pay43 (posOf i)) (s4At v15 E4 s) (eAt v13 E s 1)
noncomputable def dif2 (E8 : List (View.Piece (Elt F) S320x512 .f32)) (s : Fin 8) : FVec F S8x256 .f32 :=
  k0_pay55 (k0_pay44 (posOf i)) (s8At v16 E8 s 0) (eAt v13 E s 2)
noncomputable def dif3 (E8 : List (View.Piece (Elt F) S320x512 .f32)) (s : Fin 8) : FVec F S8x256 .f32 :=
  k0_pay51 (k0_pay45 (posOf i)) (k0_pay46 (s8At v16 E8 s 1) (s8Before v16 E8 s)) (eAt v13 E s 3)

/-- One group's mix: the eight sequences one below the other, times the group's weights. -/
noncomputable def mixOf (D : Fin 8 → FVec F S8x256 .f32) (w : Vec F S1x1x256x256 .bf16) : FVec F S64x256 .f32 :=
  matmul dot_S64x256_S256x256_S64x256_1_0_0_1_n_n none
    (truncf .bf16 (concatenate S64x256 0 [⟨S8x256, D 0⟩, ⟨S8x256, D 1⟩, ⟨S8x256, D 2⟩, ⟨S8x256, D 3⟩, ⟨S8x256, D 4⟩,
      ⟨S8x256, D 5⟩, ⟨S8x256, D 6⟩, ⟨S8x256, D 7⟩] concatenates_S8x256_S8x256_S8x256_S8x256_S8x256_S8x256_S8x256_S8x256_S64x256_d0)
      bitsLt_bf16_f32)
    (shapeCast S256x256 w shapeCasts_S1x1x256x256_S256x256) (constant S64x256 .f32 0x00000000#32)

end Sums

/-- The four groups side by side, scaled. -/
noncomputable def scaledOf (m0 m1 m2 m3 : FVec F S64x256 .f32) (ps : Vec F S1x1024 .f32) : FVec F S64x1024 .f32 :=
  mulf (concatenate S64x1024 1 [⟨S64x256, m0⟩, ⟨S64x256, m1⟩, ⟨S64x256, m2⟩, ⟨S64x256, m3⟩]
      concatenates_S64x256_S64x256_S64x256_S64x256_S64x1024_d1)
    (broadcastTo S64x1024 ps broadcasts_S1x1024_S64x1024)

/-- The residual sum of sequence `s`. -/
noncomputable def resOf (M : FVec F S64x1024 .f32) (x : Vec F S1x8x1024 .f32) (gate : Vec F S1x1x1024 .f32) (s : Fin 8) :
    FVec F S8x1024 .f32 :=
  addf (mulf (broadcast S8x1024 (Scalar.ofBits .f32 0x3FB504F3#32)) (shapeCast S8x1024 x shapeCasts_S1x8x1024_S8x1024))
    (mulf (broadcastTo S8x1024 (shapeCast S1x1024 gate shapeCasts_S1x1x1024_S1x1024) broadcasts_S1x1024_S8x1024)
      (extractStridedSlice S8x1024 ![8 * s.val, 0] M (by revert s; decide +kernel)))

/-- What is stored for sequence `s`. -/
noncomputable def outP (M : FVec F S64x1024 .f32) (s : Fin 8) : View.Piece (Elt F) S8x8x1024 .f32 :=
  ⟨Rect.unit (s := S8x8x1024) ![s.val, 0, 0] S1x8x1024.size (by revert s; decide +kernel),
    k0_pay88 (resOf M (xOf harg2 x0 s) (modOf i harg6 x4 s) s) (k0_pay87 (vecOf harg9 x7)) (vecOf harg10 x8)⟩

/-- The new history of sequence `s`, read from `ext`. -/
noncomputable def newP (E : List (View.Piece (Elt F) S320x1024 .f32)) (s : Fin 8) : View.Piece (Elt F) S8x15x1024 .f32 :=
  ⟨Rect.unit (s := S8x15x1024) ![s.val, 0, 0] S1x15x1024.size (by revert s; decide +kernel),
    k0_pay89 (v13.readCov E (Rect.unit (s := S320x1024) ![40 * s.val + 25, 0] S15x1024.size
      (by revert s; decide +kernel)).toLoadRect)⟩

/-- The shift of `ext` after sequence `s`: the new past. -/
noncomputable def shiftP (E : List (View.Piece (Elt F) S320x1024 .f32)) (s : Fin 8) : View.Piece (Elt F) S320x1024 .f32 :=
  ⟨Rect.unit (s := S320x1024) ![40 * s.val, 0] S32x1024.size (by revert s; decide +kernel),
    k0_pay90 (v13.readCov E (Rect.unit (s := S320x1024) ![40 * s.val + 8, 0] S32x1024.size
      (by revert s; decide +kernel)).toLoadRect)⟩

/-- `ext` when sequence `s` has been taken. -/
noncomputable def shifted (E : List (View.Piece (Elt F) S320x1024 .f32)) (s : Fin 8) :
    List (View.Piece (Elt F) S320x1024 .f32) := shiftP v13 E s :: E

/-- The mix of the step. -/
noncomputable def mixAll (E : List (View.Piece (Elt F) S320x1024 .f32)) (E4 : List (View.Piece (Elt F) S320x768 .f32))
    (E8 : List (View.Piece (Elt F) S320x512 .f32)) : FVec F S64x1024 .f32 :=
  scaledOf (mixOf (dif0 i v13 E) (wOf harg7 x5 0)) (mixOf (dif1 i v13 v15 E E4) (wOf harg7 x5 1))
    (mixOf (dif2 i v13 v16 E E8) (wOf harg7 x5 2)) (mixOf (dif3 i v13 v16 E E8) (wOf harg7 x5 3)) (psOf harg8 x6)

variable {c : Dev nD} (hc0 : cond0_0 i)

/-- The new histories, sequence after sequence, each read from what the step has left in `ext`. -/
noncomputable def newL (E : List (View.Piece (Elt F) S320x1024 .f32)) : List (View.Piece (Elt F) S8x15x1024 .f32) :=
  let E1 := shifted v13 E 0
  let E2 := shifted v13 E1 1
  let E3 := shifted v13 E2 2
  let E4 := shifted v13 E3 3
  let E5 := shifted v13 E4 4
  let E6 := shifted v13 E5 5
  let E7 := shifted v13 E6 6
  [newP v13 E7 7, newP v13 E6 6, newP v13 E5 5, newP v13 E4 4, newP v13 E3 3, newP v13 E2 2, newP v13 E1 1, newP v13 E 0]

/-- The results, sequence after sequence. -/
noncomputable def outL (M : FVec F S64x1024 .f32) : List (View.Piece (Elt F) S8x8x1024 .f32) :=
  let o := outP i harg2 harg6 harg9 harg10 x0 x4 x7 x8 M
  [o 7, o 6, o 5, o 4, o 3, o 2, o 1, o 0]

set_option maxHeartbeats 0 in
/-- The stores of the new histories. -/
theorem run_new :
    (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16 hc0
        x0 x1 x2 x3 x4 x5 x6 x7 x8).2.1
      = newL arg13.view (extL i harg2 harg3 harg4 harg5 x0 x1 x2 x3) := by
  delta kernelRun0_A
  exact rfl

set_option maxHeartbeats 0 in
/-- The stores of the results. -/
theorem run_out : ∃ E E2 E4 E8, E = extL i harg2 harg3 harg4 harg5 x0 x1 x2 x3 ∧ E2 = s2L arg13.view E
    ∧ E4 = s4L arg14.view E2 ∧ E8 = s8L arg15.view E4
    ∧ (kernelRun0_A c i arg2 harg2 arg3 harg3 arg4 harg4 arg5 harg5 arg6 harg6 arg7 harg7 arg8 harg8
        arg9 harg9 arg10 harg10 arg11 harg11 arg12 harg12 arg13 harg13 arg14 harg14 arg15 harg15 arg16 harg16 hc0
        x0 x1 x2 x3 x4 x5 x6 x7 x8).1
      = outL i harg2 harg6 harg9 harg10 x0 x4 x7 x8
          (mixAll i harg7 harg8 arg13.view arg15.view arg16.view x5 x6 E E4 E8) := by
  refine ⟨_, _, _, _, rfl, rfl, rfl, rfl, ?_⟩
  delta kernelRun0_A
  exact rfl

end Step

end

end Cert.Kernel7Ideal.StepMixer
-- ==== Proof.StepMixerScratch.lean ====
module
public import proofs.«01_k».proof.Proof.StepMixerRun
public import Idealize.ShloMosaic.Lib.Pointwise
public import Idealize.ShloMosaic.Lib.Pipeline.ReadBack

/-! # The sample batch's mixer: what the scratch holds

Row `40 s + r` of `ext` is row `r` of sequence `s`: zero for `r < 17`, then the history, then the
tokens. The scratches of sums hold, at the same row, the sums of the last 2, 4 and 8 rows. -/

set_option maxRecDepth 16384

namespace Cert.Kernel7Ideal.StepMixer

open Cert.Kernel7Ideal Cert.Kernel7Ideal.Gen Cert.Rows Cert.Loads Idealize.ShloMosaic Idealize.ShloMosaic.Pipeline

@[expose] public section

/-- A load of a part of a matrix that a list of stores has written, element by element. -/
theorem readCov_block {sg : RefSig} {a b m n p q : ℕ} (v : View sg .tc .vmem ⟨2, ![a, b]⟩ .f32)
    (L : List (View.Piece (Elt Ideal) ⟨2, ![a, b]⟩ .f32))
    (inb : ∀ x, (![p, q] : Fin 2 → ℕ) x + (⟨2, ![m, n]⟩ : Shape).size x ≤ (⟨2, ![a, b]⟩ : Shape).size x)
    (r : Fin m) (d : Fin n) (hr : p + r.val < a) (hd : q + d.val < b) :
    v.readCov L (Rect.unit (s := ⟨2, ![a, b]⟩) ![p, q] (⟨2, ![m, n]⟩ : Shape).size inb).toLoadRect (ix2 r d)
      = View.canon L (ix2 ⟨p + r.val, hr⟩ ⟨q + d.val, hd⟩) := by
  rw [View.readCov_eq_canon']
  refine congrArg (View.canon L) (funext fun x => Fin.ext ?_)
  match x with
  | ⟨0, _⟩ => exact congrArg (p + ·) (Nat.one_mul _)
  | ⟨1, _⟩ => exact congrArg (q + ·) (Nat.one_mul _)

/-- An element that the last store wrote. -/
theorem canon_block {a b m n p q : ℕ} (L : List (View.Piece (Elt Ideal) ⟨2, ![a, b]⟩ .f32))
    (inb : ∀ x, (![p, q] : Fin 2 → ℕ) x + (⟨2, ![m, n]⟩ : Shape).size x ≤ (⟨2, ![a, b]⟩ : Shape).size x)
    (w : (⟨2, ![m, n]⟩ : Shape).Idx → Elt Ideal .f32)
    (r : Fin m) (d : Fin n) (hr : p + r.val < a) (hd : q + d.val < b) :
    View.canon (⟨Rect.unit (s := ⟨2, ![a, b]⟩) ![p, q] (⟨2, ![m, n]⟩ : Shape).size inb, w⟩ :: L)
      (ix2 ⟨p + r.val, hr⟩ ⟨q + d.val, hd⟩) = w (ix2 r d) := by
  refine Eq.trans (congrArg (View.canon _) (funext fun x => Fin.ext ?_))
    (View.canon_cons_emb (Rect.unit (s := ⟨2, ![a, b]⟩) ![p, q] (⟨2, ![m, n]⟩ : Shape).size inb) w L (ix2 r d))
  match x with
  | ⟨0, _⟩ => exact (congrArg (p + ·) (Nat.one_mul _)).symm
  | ⟨1, _⟩ => exact (congrArg (q + ·) (Nat.one_mul _)).symm

/-! ## The rows -/

section Rows

variable (h : Fin 8 → Fin 15 → Fin 1024 → EReal) (t : Fin 8 → Fin 8 → Fin 1024 → EReal)

/-- Row `r` of sequence `s`, with history `h` and tokens `t`. -/
noncomputable def fullRow (s : Fin 8) (r : ℕ) (d : Fin 1024) : EReal :=
  if r < 17 then 0
  else if hr : r - 17 < 15 then h s ⟨r - 17, hr⟩ d
  else if hr : r - 32 < 8 then t s ⟨r - 32, hr⟩ d else 0

/-- All the rows, one sequence below the other. -/
noncomputable def extG (y : S320x1024.Idx) : EReal :=
  fullRow h t ⟨(y 0).val / 40, by have : (y 0).val < 320 := (y 0).isLt; omega⟩ ((y 0).val % 40) (y 1)

theorem extG_apply (s : Fin 8) (r : ℕ) (hr : r < 40) (hy : 40 * s.val + r < 320) (d : Fin 1024) :
    extG h t (ix2 ⟨40 * s.val + r, hy⟩ d) = fullRow h t s r d := by
  have e1 : (40 * s.val + r) / 40 = s.val := by omega
  have e2 : (40 * s.val + r) % 40 = r := by omega
  unfold extG
  show fullRow h t ⟨(40 * s.val + r) / 40, _⟩ ((40 * s.val + r) % 40) d = _
  rw [e2]
  exact congrArg (fun s => fullRow h t s r d) (Fin.ext e1)

theorem fullRow_zero (s : Fin 8) (r : Fin 17) (d : Fin 1024) : fullRow h t s r.val d = 0 := if_pos r.isLt

theorem fullRow_hist (s : Fin 8) (r : Fin 15) (d : Fin 1024) : fullRow h t s (17 + r.val) d = h s r d := by
  unfold fullRow
  rw [if_neg (by omega), dif_pos (by omega)]
  exact congrArg (fun r => h s r d) (Fin.ext (Nat.add_sub_cancel_left ..))

theorem fullRow_tok (s : Fin 8) (r : Fin 8) (d : Fin 1024) : fullRow h t s (32 + r.val) d = t s r d := by
  unfold fullRow
  rw [if_neg (by omega), dif_neg (by omega), dif_pos (by omega)]
  exact congrArg (fun r => t s r d) (Fin.ext (Nat.add_sub_cancel_left ..))

end Rows

/-- A row that lies in a stored block of rows. -/
theorem mem_rows {p m : ℕ}
    {inb : ∀ x, (![p, 0] : Fin 2 → ℕ) x + (⟨2, ![m, 1024]⟩ : Shape).size x ≤ S320x1024.size x} (y : S320x1024.Idx)
    (h1 : p ≤ (y 0).val) (h2 : (y 0).val < p + m) :
    y ∈ (Rect.unit (s := S320x1024) ![p, 0] (⟨2, ![m, 1024]⟩ : Shape).size inb).set :=
  Rect.mem_set_unit.mpr fun a => match a with
    | ⟨0, _⟩ => ⟨h1, h2⟩
    | ⟨1, _⟩ => ⟨Nat.zero_le _, (y 1).isLt.trans_eq (Nat.zero_add 1024).symm⟩

/-- A row that does not. -/
theorem not_mem_rows {p m : ℕ}
    {inb : ∀ x, (![p, 0] : Fin 2 → ℕ) x + (⟨2, ![m, 1024]⟩ : Shape).size x ≤ S320x1024.size x} (y : S320x1024.Idx)
    (h : p + m ≤ (y 0).val) :
    y ∉ (Rect.unit (s := S320x1024) ![p, 0] (⟨2, ![m, 1024]⟩ : Shape).size inb).set := fun hy =>
  absurd ((Rect.mem_set_unit.mp hy) 0).2 (Nat.not_lt.mpr h)

/-- A stored block of rows agrees with `extG` if it does row by row. -/
theorem agree {h : Fin 8 → Fin 15 → Fin 1024 → EReal} {t : Fin 8 → Fin 8 → Fin 1024 → EReal} {p m : ℕ}
    (inb : ∀ x, (![p, 0] : Fin 2 → ℕ) x + (⟨2, ![m, 1024]⟩ : Shape).size x ≤ S320x1024.size x)
    {w : (⟨2, ![m, 1024]⟩ : Shape).Idx → Elt Ideal .f32} (hp : p + m ≤ 320)
    (e : ∀ (r : Fin m) (d : Fin 1024), w (ix2 r d) = extG h t (ix2 ⟨p + r.val, by omega⟩ d)) :
    ∀ x : (⟨2, ![m, 1024]⟩ : Shape).Idx, w x
      = extG h t ((Rect.unit (s := S320x1024) ![p, 0] (⟨2, ![m, 1024]⟩ : Shape).size inb).emb x) := fun x => by
  have hx : x = ix2 (x 0 : Fin m) (x 1 : Fin 1024) := funext fun a => match a with
    | ⟨0, _⟩ => rfl
    | ⟨1, _⟩ => rfl
  refine Eq.trans (congrArg w hx) ((e (x 0) (x 1)).trans (congrArg (extG h t) (funext fun a => Fin.ext ?_)))
  match a with
  | ⟨0, _⟩ => exact (congrArg (p + ·) (Nat.one_mul _)).symm
  | ⟨1, _⟩ => exact ((congrArg (0 + ·) (Nat.one_mul _)).trans (Nat.zero_add _)).symm

section Step

variable (i : grid0.Coords)
  {arg2 : Memref sig .tc .vmem S8x8x1024 .f32} (harg2 : arg2.IsWhole)
  {arg3 : Memref sig .tc .vmem S8x15x1024 .f32} (harg3 : arg3.IsWhole)
  {arg4 : Memref sig .tc .vmem S1x8x1024 .f32} (harg4 : arg4.IsWhole)
  {arg5 : Memref sig .tc .vmem S1x8x1024 .f32} (harg5 : arg5.IsWhole)
  (v13 : View sig .tc .vmem S320x1024 .f32) (v14 v15 : View sig .tc .vmem S320x768 .f32)
  (v16 : View sig .tc .vmem S320x512 .f32)
  (x0 : Vec Ideal S8x8x1024 .f32) (x1 : Vec Ideal S8x15x1024 .f32) (x2 x3 : Vec Ideal S1x8x1024 .f32)

/-! ## The loads -/

theorem xOf_apply (s : Fin 8) (r : Fin 8) (d : Fin 1024) :
    xOf (F := Ideal) harg2 x0 s (ix3 0 r d) = x0 (ix3 s r d) := by
  unfold xOf
  rw [View.readAt_eq_ld, harg2.read_unread]
  pointwise

theorem histOf_apply (s : Fin 8) (r : Fin 15) (d : Fin 1024) :
    histOf (F := Ideal) harg3 x1 s (ix3 0 r d) = x1 (ix3 s r d) := by
  unfold histOf
  rw [View.readAt_eq_ld, harg3.read_unread]
  pointwise

theorem off_eq : ∀ (i : grid0.Coords) (s : Fin 8), k0_off1 i (BitVec.ofNat 32 s.val) = ![0, s.val, 0] :=
  (by decide +kernel : ∀ (i : grid0.Coords) (s : Fin 8), k0_off1 i (BitVec.ofNat 32 s.val) = ![0, s.val, 0])

theorem modOf_apply {arg : Memref sig .tc .vmem S1x8x1024 .f32} (harg : arg.IsWhole) (x : Vec Ideal S1x8x1024 .f32)
    (s : Fin 8) (d : Fin 1024) : modOf (F := Ideal) i harg x s (ix3 0 0 d) = x (ix3 0 s d) := by
  have e : ∀ a, k0_off1 i (BitVec.ofNat 32 s.val) a = (![0, s.val, 0] : Fin 3 → ℕ) a := fun a => by rw [off_eq]
  unfold modOf
  rw [View.readAt_eq_ld, harg.read_unread]
  pointwise
  simp [e]

/-- The modulated tokens. -/
noncomputable abbrev tokRow (s r : Fin 8) : Fin 1024 → EReal :=
  modul (fun d => x0 (ix3 s r d)) (fun d => x3 (ix3 0 s d)) (fun d => x2 (ix3 0 s d))

theorem pay22_apply (x : FVec Ideal S1x8x1024 .f32) (sc sh : FVec Ideal S1x1x1024 .f32) (r : Fin 8) (d : Fin 1024) :
    k0_pay22 (F := Ideal) (k0_pay21 x sc) sh (ix2 r d)
      = modul (fun d => x (ix3 0 r d)) (fun d => sc (ix3 0 0 d)) (fun d => sh (ix3 0 0 d)) d := by
  pointwise [k0_pay22, k0_pay21, modul]

theorem hOf_apply (s r : Fin 8) (d : Fin 1024) :
    hOf (F := Ideal) i harg2 harg4 harg5 x0 x2 x3 s (ix2 r d) = tokRow x0 x2 x3 s r d := by
  unfold hOf
  rw [pay22_apply]
  simp only [xOf_apply, modOf_apply]

/-! ## What `ext` holds -/

/-- All the rows of the step. -/
noncomputable abbrev rowsG : S320x1024.Idx → EReal := extG (fun s r d => x1 (ix3 s r d)) (tokRow x0 x2 x3)

theorem tokP_agree (s : Fin 8) :
    ∀ x, (tokP (F := Ideal) i harg2 harg4 harg5 x0 x2 x3 s).2 x
      = rowsG x0 x1 x2 x3 ((tokP (F := Ideal) i harg2 harg4 harg5 x0 x2 x3 s).1.emb x) :=
  agree (p := 40 * s.val + 32) (m := 8) (by revert s; decide +kernel) (by omega) fun r d => by
    refine (hOf_apply i harg2 harg4 harg5 x0 x2 x3 s r d).trans ?_
    refine ((extG_apply (fun s r d => x1 (ix3 s r d)) (tokRow x0 x2 x3) s (32 + r.val) (by omega) (by omega) d).trans (fullRow_tok (fun s r d => x1 (ix3 s r d)) (tokRow x0 x2 x3) s r d)).symm.trans ?_
    exact congrArg (rowsG x0 x1 x2 x3) (congrArg (fun k => ix2 k d) (Fin.ext (Nat.add_assoc ..).symm))

theorem histP_agree (s : Fin 8) :
    ∀ x, (histP (F := Ideal) harg3 x1 s).2 x = rowsG x0 x1 x2 x3 ((histP (F := Ideal) harg3 x1 s).1.emb x) :=
  agree (p := 40 * s.val + 17) (m := 15) (by revert s; decide +kernel) (by omega) fun r d => by
    have e : k0_pay4 (F := Ideal) (histOf harg3 x1 s) (ix2 r d) = x1 (ix3 s r d) := by
      rw [← histOf_apply harg3 x1 s r d]
      generalize histOf (F := Ideal) harg3 x1 s = y
      pointwise [k0_pay4]
    refine e.trans ?_
    refine ((extG_apply (fun s r d => x1 (ix3 s r d)) (tokRow x0 x2 x3) s (17 + r.val) (by omega) (by omega) d).trans (fullRow_hist (fun s r d => x1 (ix3 s r d)) (tokRow x0 x2 x3) s r d)).symm.trans ?_
    exact congrArg (rowsG x0 x1 x2 x3) (congrArg (fun k => ix2 k d) (Fin.ext (Nat.add_assoc ..).symm))

theorem zeroP_agree (s : Fin 8) :
    ∀ x, (zeroP (F := Ideal) s).2 x = rowsG x0 x1 x2 x3 ((zeroP (F := Ideal) s).1.emb x) :=
  agree (p := 40 * s.val) (m := 17) (by revert s; decide +kernel) (by omega) fun r d => by
    have e : k0_pay3 (F := Ideal) (ix2 r d) = 0 := by pointwise [k0_pay3]
    refine e.trans ?_
    exact ((extG_apply (fun s r d => x1 (ix3 s r d)) (tokRow x0 x2 x3) s r.val (by omega) (by omega) d).trans (fullRow_zero (fun s r d => x1 (ix3 s r d)) (tokRow x0 x2 x3) s r d)).symm

theorem ext_pieces : View.PiecesOf (rowsG x0 x1 x2 x3) (extL (F := Ideal) i harg2 harg3 harg4 harg5 x0 x1 x2 x3) :=
  have t := tokP_agree i harg2 harg4 harg5 x0 x1 x2 x3
  have h := histP_agree harg3 x0 x1 x2 x3
  have z := zeroP_agree x0 x1 x2 x3
  ⟨t 7, t 6, t 5, t 4, t 3, t 2, t 1, t 0, h 7, z 7, h 6, z 6, h 5, z 5, h 4, z 4, h 3, z 3, h 2, z 2, h 1, z 1,
    h 0, z 0, trivial⟩

theorem mem_ext (s : Fin 8) : tokP (F := Ideal) i harg2 harg4 harg5 x0 x2 x3 s ∈ extL i harg2 harg3 harg4 harg5 x0 x1 x2 x3
    ∧ histP (F := Ideal) harg3 x1 s ∈ extL i harg2 harg3 harg4 harg5 x0 x1 x2 x3
    ∧ zeroP (F := Ideal) s ∈ extL i harg2 harg3 harg4 harg5 x0 x1 x2 x3 := by
  unfold extL
  fin_cases s <;> simp

theorem zero_inb : ∀ (s : Fin 8) (x : Fin 2), (![40 * s.val, 0] : Fin 2 → ℕ) x + S17x1024.size x ≤ S320x1024.size x := by
  decide +kernel

theorem hist_inb : ∀ (s : Fin 8) (x : Fin 2),
    (![40 * s.val + 17, 0] : Fin 2 → ℕ) x + S15x1024.size x ≤ S320x1024.size x := by
  decide +kernel

theorem tok_inb : ∀ (s : Fin 8) (x : Fin 2),
    (![40 * s.val + 32, 0] : Fin 2 → ℕ) x + S8x1024.size x ≤ S320x1024.size x := by
  decide +kernel

/-- Every row of `ext` has been stored. -/
theorem ext_canon (y : S320x1024.Idx) :
    View.canon (extL (F := Ideal) i harg2 harg3 harg4 harg5 x0 x1 x2 x3) y = rowsG x0 x1 x2 x3 y := by
  have hy : (y 0).val < 320 := (y 0).isLt
  have hm := mem_ext i harg2 harg3 harg4 harg5 x0 x1 x2 x3 ⟨(y 0).val / 40, by omega⟩
  refine View.canon_append_of_piecesOf _ [] _ (ext_pieces i harg2 harg3 harg4 harg5 x0 x1 x2 x3) y ?_
  rcases Nat.lt_or_ge ((y 0).val % 40) 17 with h | h
  · exact ⟨_, hm.2.2, mem_rows (m := 17) (inb := zero_inb ⟨(y 0).val / 40, by omega⟩) y (by dsimp only; omega) (by dsimp only; omega)⟩
  rcases Nat.lt_or_ge ((y 0).val % 40) 32 with h' | h'
  · exact ⟨_, hm.2.1, mem_rows (m := 15) (inb := hist_inb ⟨(y 0).val / 40, by omega⟩) y (by dsimp only; omega) (by dsimp only; omega)⟩
  · exact ⟨_, hm.1, mem_rows (m := 8) (inb := tok_inb ⟨(y 0).val / 40, by omega⟩) y (by dsimp only; omega) (by dsimp only; omega)⟩

end Step

end

end Cert.Kernel7Ideal.StepMixer
-- ==== Proof.StepMixerSums.lean ====
module
public import proofs.«01_k».proof.Proof.StepMixerScratch

/-! # The sample batch's mixer: the sums of rows

Over any stores that leave the sequences' rows in `ext`, each doubling adds what lies two, four, eight
rows back; rows of one sequence only, as far as they are read. -/

set_option maxRecDepth 16384

namespace Cert.Kernel7Ideal.StepMixer

open Cert.Kernel7Ideal Cert.Kernel7Ideal.Gen Cert.Rows Cert.Loads Idealize.ShloMosaic Idealize.ShloMosaic.Pipeline

@[expose] public section

/-- An element that the last store wrote, found by its own position. -/
theorem canon_block_at {a b m n p q : ℕ} (L : List (View.Piece (Elt Ideal) ⟨2, ![a, b]⟩ .f32))
    (inb : ∀ x, (![p, q] : Fin 2 → ℕ) x + (⟨2, ![m, n]⟩ : Shape).size x ≤ (⟨2, ![a, b]⟩ : Shape).size x)
    (w : (⟨2, ![m, n]⟩ : Shape).Idx → Elt Ideal .f32)
    (k d : ℕ) (hk : k < a) (hd : d < b) (hr : k - p < m) (hc : d - q < n) (hp : p ≤ k) (hq : q ≤ d) :
    View.canon (⟨Rect.unit (s := ⟨2, ![a, b]⟩) ![p, q] (⟨2, ![m, n]⟩ : Shape).size inb, w⟩ :: L) (ix2 ⟨k, hk⟩ ⟨d, hd⟩)
      = w (ix2 ⟨k - p, hr⟩ ⟨d - q, hc⟩) := by
  obtain ⟨k, rfl⟩ := Nat.exists_eq_add_of_le hp
  obtain ⟨d, rfl⟩ := Nat.exists_eq_add_of_le hq
  have e1 : p + k - p = k := by omega
  have e2 : q + d - q = d := by omega
  refine (canon_block L inb w ⟨k, by omega⟩ ⟨d, by omega⟩ hk hd).trans (congrArg w ?_)
  exact congrArg₂ ix2 (Fin.ext e1.symm) (Fin.ext e2.symm)

section Sums

variable (v13 : View sig .tc .vmem S320x1024 .f32) (v14 v15 : View sig .tc .vmem S320x768 .f32)
  (v16 : View sig .tc .vmem S320x512 .f32)
  (h : Fin 8 → Fin 15 → Fin 1024 → EReal) (t : Fin 8 → Fin 8 → Fin 1024 → EReal)

/-- Sums of two, four and eight rows, ending with row `k`. -/
noncomputable def two (s : Fin 8) (k : ℕ) (d : Fin 1024) : EReal := fullRow h t s k d + fullRow h t s (k - 1) d
noncomputable def four (s : Fin 8) (k : ℕ) (d : Fin 1024) : EReal := two h t s k d + two h t s (k - 2) d
noncomputable def eight (s : Fin 8) (k : ℕ) (d : Fin 1024) : EReal := four h t s k d + four h t s (k - 4) d

variable {E : List (View.Piece (Elt Ideal) S320x1024 .f32)} (hE : ∀ y, View.canon E y = extG h t y)

include hE

theorem ext_at (a b : ℕ) (ha : a < 320) (hb : b < 1024) (s : Fin 8) (k : ℕ) (hk : k < 40) (e : a = 40 * s.val + k) :
    View.canon E (ix2 ⟨a, ha⟩ ⟨b, hb⟩) = fullRow h t s k ⟨b, hb⟩ := by
  subst e
  rw [hE]
  exact extG_apply h t s k hk ha ⟨b, hb⟩

theorem two_at (a b : ℕ) (ha : a < 320) (hb : b < 768) (s : Fin 8) (k : ℕ) (hk : k < 40) (h8 : 8 ≤ k)
    (e : a = 40 * s.val + k) :
    View.canon (s2L (F := Ideal) v13 E) (ix2 ⟨a, ha⟩ ⟨b, hb⟩) = two h t s k ⟨256 + b, by omega⟩ := by
  have add (x y : FVec Ideal S312x768 .f32) (r : Fin 312) (d : Fin 768) :
      k0_pay37 x y (ix2 r d) = x (ix2 r d) + y (ix2 r d) := by pointwise [k0_pay37]
  refine (canon_block_at [] _ _ a b ha hb (by omega) (by omega) (by omega) (by omega)).trans ?_
  refine (add _ _ _ _).trans (congrArg₂ (· + ·) ?_ ?_)
  · refine (readCov_block v13 E _ _ _ (by dsimp only; omega) (by dsimp only; omega)).trans ?_
    exact ext_at h t hE _ _ _ _ s k hk (by dsimp only; omega)
  · refine (readCov_block v13 E _ _ _ (by dsimp only; omega) (by dsimp only; omega)).trans ?_
    exact ext_at h t hE _ _ _ _ s (k - 1) (by omega) (by dsimp only; omega)

theorem four_at (a b : ℕ) (ha : a < 320) (hb : b < 768) (s : Fin 8) (k : ℕ) (hk : k < 40) (h16 : 16 ≤ k)
    (e : a = 40 * s.val + k) :
    View.canon (s4L (F := Ideal) v14 (s2L v13 E)) (ix2 ⟨a, ha⟩ ⟨b, hb⟩) = four h t s k ⟨256 + b, by omega⟩ := by
  have add (x y : FVec Ideal S304x768 .f32) (r : Fin 304) (d : Fin 768) :
      k0_pay38 x y (ix2 r d) = x (ix2 r d) + y (ix2 r d) := by pointwise [k0_pay38]
  refine (canon_block_at [] _ _ a b ha hb (by omega) (by omega) (by omega) (by omega)).trans ?_
  refine (add _ _ _ _).trans (congrArg₂ (· + ·) ?_ ?_)
  · refine (readCov_block v14 _ _ _ _ (by dsimp only; omega) (by dsimp only; omega)).trans ?_
    refine (two_at v13 h t hE _ _ _ _ s k hk (by omega) (by dsimp only; omega)).trans ?_
    exact congrArg (two h t s k) (Fin.ext (by dsimp only; omega))
  · refine (readCov_block v14 _ _ _ _ (by dsimp only; omega) (by dsimp only; omega)).trans ?_
    refine (two_at v13 h t hE _ _ _ _ s (k - 2) (by omega) (by omega) (by dsimp only; omega)).trans ?_
    exact congrArg (two h t s (k - 2)) (Fin.ext (by dsimp only; omega))

theorem eight_at (a b : ℕ) (ha : a < 320) (hb : b < 512) (s : Fin 8) (k : ℕ) (hk : k < 40) (h24 : 24 ≤ k)
    (e : a = 40 * s.val + k) :
    View.canon (s8L (F := Ideal) v15 (s4L v14 (s2L v13 E))) (ix2 ⟨a, ha⟩ ⟨b, hb⟩)
      = eight h t s k ⟨512 + b, by omega⟩ := by
  have add (x y : FVec Ideal S296x512 .f32) (r : Fin 296) (d : Fin 512) :
      k0_pay39 x y (ix2 r d) = x (ix2 r d) + y (ix2 r d) := by pointwise [k0_pay39]
  refine (canon_block_at [] _ _ a b ha hb (by omega) (by omega) (by omega) (by omega)).trans ?_
  refine (add _ _ _ _).trans (congrArg₂ (· + ·) ?_ ?_)
  · refine (readCov_block v15 _ _ _ _ (by dsimp only; omega) (by dsimp only; omega)).trans ?_
    refine (four_at v13 v14 h t hE _ _ _ _ s k hk (by omega) (by dsimp only; omega)).trans ?_
    exact congrArg (four h t s k) (Fin.ext (by dsimp only; omega))
  · refine (readCov_block v15 _ _ _ _ (by dsimp only; omega) (by dsimp only; omega)).trans ?_
    refine (four_at v13 v14 h t hE _ _ _ _ s (k - 4) (by omega) (by omega) (by dsimp only; omega)).trans ?_
    exact congrArg (four h t s (k - 4)) (Fin.ext (by dsimp only; omega))

/-! ## The loads -/

theorem eAt_apply (s : Fin 8) (q : Fin 4) (r : Fin 8) (e : Fin 256) :
    eAt (F := Ideal) v13 E s q (ix2 r e) = t s r ⟨256 * q.val + e.val, by omega⟩ := by
  refine (readCov_block v13 E _ r e (by omega) (by omega)).trans ?_
  exact (ext_at h t hE _ _ _ _ s (32 + r.val) (by omega) (by omega)).trans (fullRow_tok h t s r _)

theorem eBefore_apply (s : Fin 8) (r : Fin 8) (e : Fin 256) :
    eBefore (F := Ideal) v13 E s (ix2 r e) = fullRow h t s (31 + r.val) ⟨e.val, by omega⟩ := by
  refine (readCov_block v13 E _ r e (by omega) (by omega)).trans ?_
  refine (ext_at h t hE _ _ _ _ s (31 + r.val) (by omega) (by omega)).trans ?_
  exact congrArg (fullRow h t s (31 + r.val)) (Fin.ext (Nat.zero_add _))

theorem s4At_apply (s : Fin 8) (r : Fin 8) (e : Fin 256) :
    s4At (F := Ideal) v15 (s4L v14 (s2L v13 E)) s (ix2 r e) = four h t s (32 + r.val) ⟨256 + e.val, by omega⟩ := by
  refine (readCov_block v15 _ _ r e (by omega) (by omega)).trans ?_
  refine (four_at v13 v14 h t hE _ _ _ _ s (32 + r.val) (by omega) (by omega) (by omega)).trans ?_
  exact congrArg (four h t s (32 + r.val)) (Fin.ext (by dsimp only; omega))

theorem s8At_apply (s : Fin 8) (q : Fin 2) (r : Fin 8) (e : Fin 256) :
    s8At (F := Ideal) v16 (s8L v15 (s4L v14 (s2L v13 E))) s q (ix2 r e)
      = eight h t s (32 + r.val) ⟨512 + (256 * q.val + e.val), by omega⟩ := by
  refine (readCov_block v16 _ _ r e (by omega) (by omega)).trans ?_
  exact eight_at v13 v14 v15 h t hE _ _ _ _ s (32 + r.val) (by omega) (by omega) (by omega)

theorem s8Before_apply (s : Fin 8) (r : Fin 8) (e : Fin 256) :
    s8Before (F := Ideal) v16 (s8L v15 (s4L v14 (s2L v13 E))) s (ix2 r e)
      = eight h t s (24 + r.val) ⟨768 + e.val, by omega⟩ := by
  refine (readCov_block v16 _ _ r e (by omega) (by omega)).trans ?_
  refine (eight_at v13 v14 v15 h t hE _ _ _ _ s (24 + r.val) (by omega) (by omega) (by omega)).trans ?_
  exact congrArg (eight h t s (24 + r.val)) (Fin.ext (by dsimp only; omega))

end Sums

/-! ## The new histories -/

section New

variable (v13 : View sig .tc .vmem S320x1024 .f32)
  (h : Fin 8 → Fin 15 → Fin 1024 → EReal) (t : Fin 8 → Fin 8 → Fin 1024 → EReal)

/-- From row `n` on, `ext` still holds the rows. -/
def HoldsFrom (n : ℕ) (E : List (View.Piece (Elt Ideal) S320x1024 .f32)) : Prop :=
  ∀ y : S320x1024.Idx, n ≤ (y 0).val → View.canon E y = extG h t y

theorem shift_inb : ∀ (s : Fin 8) (x : Fin 2), (![40 * s.val, 0] : Fin 2 → ℕ) x + S32x1024.size x ≤ S320x1024.size x := by
  decide +kernel

/-- The shift of one sequence leaves the later ones. -/
theorem HoldsFrom.shifted {E : List (View.Piece (Elt Ideal) S320x1024 .f32)} (s : Fin 8)
    (hE : HoldsFrom h t (40 * s.val) E) : HoldsFrom h t (40 * (s.val + 1)) (shifted v13 E s) := fun y hy =>
  (View.canon_cons_of_not_mem (shiftP v13 E s) E (not_mem_rows (m := 32) (inb := shift_inb s) y (by omega))).trans
    (hE y (by omega))

/-- The new histories: the last fifteen rows. -/
noncomputable def newG (y : S8x15x1024.Idx) : EReal := fullRow h t (y 0) (25 + (y 1).val) (y 2)

theorem newP_agree {E : List (View.Piece (Elt Ideal) S320x1024 .f32)} (s : Fin 8)
    (hE : HoldsFrom h t (40 * s.val) E) :
    ∀ x, (newP v13 E s).2 x = newG h t ((newP v13 E s).1.emb x) := fun (x : S1x15x1024.Idx) => by
  have hx0 : (x 0 : Fin 1).val = 0 := Nat.lt_one_iff.mp (x 0 : Fin 1).isLt
  have hx1 : (x 1).val < 15 := (x 1).isLt
  have pay (z : Vec Ideal S15x1024 .f32) : k0_pay89 (F := Ideal) z x = z (ix2 (x 1 : Fin 15) (x 2 : Fin 1024)) := by
    obtain ⟨j, d, rfl⟩ : ∃ (j : Fin 15) (d : Fin 1024), x = ix3 (0 : Fin 1) j d :=
      ⟨x 1, x 2, funext fun a => match a with
        | ⟨0, _⟩ => Fin.ext hx0
        | ⟨1, _⟩ => rfl
        | ⟨2, _⟩ => rfl⟩
    pointwise [k0_pay89]
  refine (pay _).trans ((readCov_block v13 E _ (x 1 : Fin 15) (x 2 : Fin 1024) (by omega)
    ((Nat.zero_add _).trans_lt (x 2 : Fin 1024).isLt)).trans ?_)
  refine (hE _ (by show 40 * s.val ≤ 40 * s.val + 25 + (x 1).val; omega)).trans ?_
  have e := extG_apply h t s (25 + (x 1).val) (by omega) (by omega) (x 2)
  refine Eq.trans (congrArg (extG h t) ?_) (e.trans ?_)
  · exact congrArg₂ ix2 (Fin.ext (Nat.add_assoc ..)) (Fin.ext (Nat.zero_add _))
  · unfold newG
    have e0 : s = ((newP v13 E s).1.emb x) 0 := Fin.ext (by
      show s.val = s.val + 1 * (x 0 : Fin 1).val
      omega)
    have e1 : (x 1).val = (((newP v13 E s).1.emb x) 1).val := by
      show (x 1).val = 0 + 1 * (x 1).val
      omega
    have e2 : (x 2 : Fin 1024) = ((newP v13 E s).1.emb x) 2 := Fin.ext (by
      show (x 2).val = 0 + 1 * (x 2).val
      omega)
    rw [← e1]
    exact congrArg₂ (fun s d => fullRow h t s (25 + (x 1).val) d) e0 e2

theorem new_inb : ∀ (s : Fin 8) (x : Fin 3), (![s.val, 0, 0] : Fin 3 → ℕ) x + S1x15x1024.size x ≤ S8x15x1024.size x := by
  decide +kernel

theorem mem_new {s : Fin 8} (y : S8x15x1024.Idx) (e : y 0 = s) :
    y ∈ (Rect.unit (s := S8x15x1024) ![s.val, 0, 0] S1x15x1024.size (new_inb s)).set :=
  Rect.mem_set_unit.mpr fun a => match a with
    | ⟨0, _⟩ => e ▸ ⟨le_rfl, Nat.lt_succ_self _⟩
    | ⟨1, _⟩ => ⟨Nat.zero_le _, (y 1).isLt.trans_eq (Nat.zero_add 15).symm⟩
    | ⟨2, _⟩ => ⟨Nat.zero_le _, (y 2).isLt.trans_eq (Nat.zero_add 1024).symm⟩

theorem mem_newL (E : List (View.Piece (Elt Ideal) S320x1024 .f32)) (s : Fin 8) :
    ∃ F, newP (F := Ideal) v13 F s ∈ newL v13 E := by
  unfold newL
  fin_cases s <;> apply Exists.intro <;> repeat (first | exact List.Mem.head _ | apply List.Mem.tail)

/-- What the stores of the new histories leave. -/
theorem new_canon {E : List (View.Piece (Elt Ideal) S320x1024 .f32)} (hE : ∀ y, View.canon E y = extG h t y)
    (y : S8x15x1024.Idx) : View.canon (newL (F := Ideal) v13 E) y = newG h t y := by
  have h0 : HoldsFrom h t (40 * (0 : Fin 8).val) E := fun y _ => hE y
  have h1 := h0.shifted v13 h t 0
  have h2 := HoldsFrom.shifted v13 h t 1 h1
  have h3 := HoldsFrom.shifted v13 h t 2 h2
  have h4 := HoldsFrom.shifted v13 h t 3 h3
  have h5 := HoldsFrom.shifted v13 h t 4 h4
  have h6 := HoldsFrom.shifted v13 h t 5 h5
  have h7 := HoldsFrom.shifted v13 h t 6 h6
  have n (s : Fin 8) {E} := newP_agree v13 h t (E := E) s
  have hp : View.PiecesOf (newG h t) (newL v13 E) :=
    ⟨n 7 h7, n 6 h6, n 5 h5, n 4 h4, n 3 h3, n 2 h2, n 1 h1, n 0 h0, trivial⟩
  rw [← List.append_nil (newL v13 E)]
  refine View.canon_append_of_piecesOf (newG h t) [] (newL v13 E) hp y ?_
  obtain ⟨F, hF⟩ := mem_newL v13 E (y 0)
  exact ⟨_, hF, mem_new y rfl⟩

end New

end

end Cert.Kernel7Ideal.StepMixer
-- ==== Proof.StepMixerRows.lean ====
module
public import proofs.«01_k».proof.Proof.StepMixerSums

/-! # The sample batch's mixer: the maths of one sequence

A sequence is fifteen rows of history and eight rows of tokens. Each group of 256 columns is averaged
over its own number of rows, less the token, and mixed by its own matrix. -/

set_option maxRecDepth 16384

namespace Cert.StepMix

open Cert.Rows Idealize.ShloMosaic

@[expose] public section

/-- The rows averaged over in each group. -/
def width : Fin 4 → ℕ := ![2, 4, 8, 16]

/-- How many they are, as the program counts them. -/
noncomputable def count (q : Fin 4) : EReal := (((BitVec.ofNat 32 (width q)).toInt : ℝ) : EReal)

theorem count_eq : ∀ q : Fin 4, (BitVec.ofNat 32 (width q)).toInt = (width q : ℤ) := by decide +kernel

theorem count_ne (q : Fin 4) : count q ≠ 0 := by
  unfold count
  rw [count_eq]
  fin_cases q <;> norm_num [width]

/-- Dividing is multiplying by the inverse. -/
theorem mul_inverse (x : EReal) (q : Fin 4) : x * Ideal.div 1 (count q) = Ideal.div x (count q) := by
  unfold Ideal.div
  rw [if_neg (count_ne q), if_neg (count_ne q), one_mul]

variable (h : Fin 15 → Fin 1024 → EReal) (t : Fin 8 → Fin 1024 → EReal)

/-- Row `k` of the sequence. -/
noncomputable def rowAt (k : ℕ) (d : Fin 1024) : EReal :=
  if hk : k < 15 then h ⟨k, hk⟩ d else if hk : k - 15 < 8 then t ⟨k - 15, hk⟩ d else 0

/-- The average of a token's rows, less the token. -/
noncomputable def pooled (q : Fin 4) (r : Fin 8) (d : Fin 1024) : EReal :=
  Ideal.div (∑ j ∈ Finset.range (width q), rowAt h t (15 + r.val - j) d) (count q) - t r d

/-- One column of one group's mix. -/
noncomputable def mix (w : Fin 4 → Fin 256 → Fin 256 → EReal) (r : Fin 8) (q : Fin 4) (e : Fin 256) : EReal :=
  ∑ k : Fin 256, pooled h t q r ⟨256 * q.val + k.val, by omega⟩ * w q k e

/-- The mix of a token, all groups side by side, scaled. -/
noncomputable def mixRow (w : Fin 4 → Fin 256 → Fin 256 → EReal) (ps : Fin 1024 → EReal) (r : Fin 8) (d : Fin 1024) :
    EReal :=
  mix h t w r ⟨d.val / 256, by omega⟩ ⟨d.val % 256, by omega⟩ * ps d

/-- A column is a column of a group. -/
theorem column_cases (d : Fin 1024) : ∃ (q : Fin 4) (e : Fin 256), d = ⟨256 * q.val + e.val, by omega⟩ :=
  ⟨⟨d.val / 256, by omega⟩, ⟨d.val % 256, by omega⟩, Fin.ext (Nat.div_add_mod d.val 256).symm⟩

theorem mixRow_apply (w : Fin 4 → Fin 256 → Fin 256 → EReal) (ps : Fin 1024 → EReal) (r : Fin 8) (q : Fin 4) (e : Fin 256) :
    mixRow h t w ps r ⟨256 * q.val + e.val, by omega⟩ = mix h t w r q e * ps ⟨256 * q.val + e.val, by omega⟩ := by
  unfold mixRow
  refine congrArg (· * ps _) (congrArg₂ (mix h t w r) (Fin.ext ?_) (Fin.ext ?_)) <;> dsimp only <;> omega

/-- The layer's result for a token. -/
noncomputable def mixed (x : Fin 1024 → EReal) (gate : Fin 1024 → EReal) (w : Fin 4 → Fin 256 → Fin 256 → EReal)
    (ps g b : Fin 1024 → EReal) (r : Fin 8) : Fin 1024 → EReal :=
  norm (resid x gate (mixRow h t w ps r)) g b

end

end Cert.StepMix

namespace Cert.Kernel7Ideal.StepMixer

open Cert.StepMix

@[expose] public section

variable (h : Fin 8 → Fin 15 → Fin 1024 → EReal) (t : Fin 8 → Fin 8 → Fin 1024 → EReal)

/-- The rows behind the zeros are the sequence. -/
theorem fullRow_eq (s : Fin 8) (k : ℕ) (h17 : 17 ≤ k) (d : Fin 1024) :
    fullRow h t s k d = rowAt (h s) (t s) (k - 17) d := by
  obtain ⟨k, rfl⟩ := Nat.exists_eq_add_of_le h17
  have e : 17 + k - 17 = k := by omega
  have e' : 17 + k - 32 = k - 15 := by omega
  unfold fullRow rowAt
  rw [if_neg (by omega)]
  simp only [e, e']

theorem two_eq (s : Fin 8) (r : Fin 8) (d : Fin 1024) :
    fullRow h t s (32 + r.val) d + fullRow h t s (31 + r.val) d
      = ∑ j ∈ Finset.range (width 0), rowAt (h s) (t s) (15 + r.val - j) d := by
  rw [fullRow_eq h t s _ (by omega), fullRow_eq h t s _ (by omega)]
  show _ = ∑ j ∈ Finset.range 2, _
  simp only [Finset.sum_range_succ, Finset.sum_range_zero, zero_add]
  refine congrArg₂ (· + ·) (congrArg (fun k => rowAt (h s) (t s) k d) ?_) (congrArg (fun k => rowAt (h s) (t s) k d) ?_) <;> omega

theorem four_sum (s : Fin 8) (k : ℕ) (hk : 32 ≤ k) (d : Fin 1024) :
    four h t s k d = ∑ j ∈ Finset.range 4, fullRow h t s (k - j) d := by
  simp only [Finset.sum_range_succ, Finset.sum_range_zero, zero_add, four, two, Nat.sub_sub, Nat.sub_zero, add_assoc,
    Nat.reduceAdd]

theorem eight_sum (s : Fin 8) (k : ℕ) (d : Fin 1024) :
    eight h t s k d = ∑ j ∈ Finset.range 8, fullRow h t s (k - j) d := by
  simp only [Finset.sum_range_succ, Finset.sum_range_zero, zero_add, eight, four, two, Nat.sub_sub, Nat.sub_zero, add_assoc,
    Nat.reduceAdd]

/-- A sum of rows of `ext`, as one of the sequence. -/
theorem sum_rows (s : Fin 8) (r : Fin 8) (n : ℕ) (hn : n ≤ 16) (d : Fin 1024) :
    ∑ j ∈ Finset.range n, fullRow h t s (32 + r.val - j) d
      = ∑ j ∈ Finset.range n, rowAt (h s) (t s) (15 + r.val - j) d := by
  refine Finset.sum_congr rfl fun j hj => ?_
  have := Finset.mem_range.mp hj
  rw [fullRow_eq h t s _ (by omega)]
  exact congrArg (fun k => rowAt (h s) (t s) k d) (by omega)

theorem four_eq (s : Fin 8) (r : Fin 8) (d : Fin 1024) :
    four h t s (32 + r.val) d = ∑ j ∈ Finset.range (width 1), rowAt (h s) (t s) (15 + r.val - j) d :=
  (four_sum h t s _ (by omega) d).trans (sum_rows h t s r 4 (by omega) d)

theorem eight_eq (s : Fin 8) (r : Fin 8) (d : Fin 1024) :
    eight h t s (32 + r.val) d = ∑ j ∈ Finset.range (width 2), rowAt (h s) (t s) (15 + r.val - j) d :=
  (eight_sum h t s _ d).trans (sum_rows h t s r 8 (by omega) d)

theorem sixteen_eq (s : Fin 8) (r : Fin 8) (d : Fin 1024) :
    eight h t s (32 + r.val) d + eight h t s (24 + r.val) d
      = ∑ j ∈ Finset.range (width 3), rowAt (h s) (t s) (15 + r.val - j) d := by
  refine Eq.trans ?_ (sum_rows h t s r 16 (by omega) d)
  rw [eight_sum, eight_sum, show (16 : ℕ) = 8 + 8 from rfl, Finset.sum_range_add]
  refine congrArg (_ + ·) (Finset.sum_congr rfl fun j _ => congrArg (fun k => fullRow h t s k d) ?_)
  omega

end

end Cert.Kernel7Ideal.StepMixer
-- ==== Proof.StepMixerElements.lean ====
module
public import proofs.«01_k».proof.Proof.StepMixerRows

/-! # The sample batch's mixer: the kernel's step, element by element -/

set_option maxRecDepth 16384

namespace Cert.Kernel7Ideal.StepMixer

open Cert.Kernel7Ideal Cert.Kernel7Ideal.Gen Cert.Rows Cert.Loads Cert.StepMix
open Idealize.ShloMosaic Idealize.ShloMosaic.Pipeline

@[expose] public section

/-- No token has fewer rows than its group's window. -/
theorem rows_enough : ∀ (q : Fin 4) (r : Fin 8),
    IntOp.minsi (BitVec.ofNat 32 (width q))
      (IntOp.addi (IntOp.addi (Scalar.addi 8192#32 (Scalar.muli 0#32 8#32)) (BitVec.ofNat 32 r.val)) 1#32)
      = BitVec.ofNat 32 (width q) := by
  decide +kernel

/-- The inverse count times a sum is the average. -/
theorem average (x : EReal) (q : Fin 4) (r : Fin 8) :
    x * Ideal.div 1 (FloatOps.sitofp (F := Ideal) FTy.f32 (IntOp.minsi (BitVec.ofNat 32 (width q))
      (IntOp.addi (IntOp.addi (Scalar.addi 8192#32 (Scalar.muli 0#32 8#32)) (BitVec.ofNat 32 r.val)) 1#32)))
      = Ideal.div x (count q) := by
  rw [rows_enough]
  exact mul_inverse x q

section Mix

variable (i : grid0.Coords) (a b c : Vec Ideal S8x256 .f32) (r : Fin 8) (k : Fin 256)

theorem pay53_apply : k0_pay53 (k0_pay42 (F := Ideal) (posOf i) k0_pay41) a b c (ix2 r k)
    = Ideal.div (a (ix2 r k) + b (ix2 r k)) (count 0) - c (ix2 r k) := by
  rw [← average (a (ix2 r k) + b (ix2 r k)) 0 r]
  pointwise [k0_pay53, k0_pay42, k0_pay41, posOf, k0_pay40]
  rfl

theorem pay54_apply : k0_pay54 (k0_pay43 (F := Ideal) (posOf i)) a c (ix2 r k)
    = Ideal.div (a (ix2 r k)) (count 1) - c (ix2 r k) := by
  rw [← average (a (ix2 r k)) 1 r]
  pointwise [k0_pay54, k0_pay43, posOf, k0_pay40]
  rfl

theorem pay55_apply : k0_pay55 (k0_pay44 (F := Ideal) (posOf i)) a c (ix2 r k)
    = Ideal.div (a (ix2 r k)) (count 2) - c (ix2 r k) := by
  rw [← average (a (ix2 r k)) 2 r]
  pointwise [k0_pay55, k0_pay44, posOf, k0_pay40]
  rfl

theorem pay51_apply : k0_pay51 (k0_pay45 (F := Ideal) (posOf i)) (k0_pay46 a b) c (ix2 r k)
    = Ideal.div (a (ix2 r k) + b (ix2 r k)) (count 3) - c (ix2 r k) := by
  rw [← average (a (ix2 r k) + b (ix2 r k)) 3 r]
  pointwise [k0_pay51, k0_pay45, k0_pay46, posOf, k0_pay40]
  rfl

set_option maxHeartbeats 1600000 in
theorem mixOf_apply (D : Fin 8 → FVec Ideal S8x256 .f32) (w : Vec Ideal S1x1x256x256 .bf16) (s r : Fin 8) (e : Fin 256) :
    mixOf D w (ix2 ⟨8 * s.val + r.val, by omega⟩ e) = ∑ k : Fin 256, D s (ix2 r k) * w (ix4 0 0 k e) := by
  fin_cases s <;> pointwise [mixOf] <;>
    (refine Finset.sum_congr rfl fun k _ => congrArg (· * w (ix4 0 0 k e)) ?_
     repeat rw [dif_neg (by omega)]
     first
      | exact congrArg (fun r => D _ (ix2 r k)) (Fin.ext (by dsimp only; omega))
      | (rw [dif_pos (by omega)]
         exact congrArg (fun r => D _ (ix2 r k)) (Fin.ext (by dsimp only; omega))))

theorem scaledOf_apply (M : Fin 4 → FVec Ideal S64x256 .f32) (ps : Vec Ideal S1x1024 .f32) (q : Fin 4) (r : Fin 64) (e : Fin 256) :
    scaledOf (M 0) (M 1) (M 2) (M 3) ps (ix2 r ⟨256 * q.val + e.val, by omega⟩)
      = M q (ix2 r e) * ps (ix2 0 ⟨256 * q.val + e.val, by omega⟩) := by
  fin_cases q <;> pointwise [scaledOf] <;>
    (refine congrArg (· * ps _) ?_
     split_ifs <;> first
      | (exfalso; omega)
      | exact congrArg (fun e => M _ (ix2 r e)) (Fin.ext (by dsimp only; omega)))

/-- The residual sum and its norm. -/
theorem pay88_apply (M : FVec Ideal S64x1024 .f32) (x : Vec Ideal S1x8x1024 .f32) (gate g b : Vec Ideal S1x1x1024 .f32)
    (s r : Fin 8) (d : Fin 1024) :
    k0_pay88 (F := Ideal) (resOf M x gate s) (k0_pay87 g) b (ix3 0 r d)
      = Rows.norm (resid (fun d => x (ix3 0 r d)) (fun d => gate (ix3 0 0 d))
            (fun d => M (ix2 ⟨8 * s.val + r.val, by omega⟩ d)))
          (fun d => g (ix3 0 0 d)) (fun d => b (ix3 0 0 d)) d := by
  have e (r : Fin 8) (d : Fin 1024) : resOf M x gate s (ix2 r d)
      = resid (fun d => x (ix3 0 r d)) (fun d => gate (ix3 0 0 d))
          (fun d => M (ix2 ⟨8 * s.val + r.val, by omega⟩ d)) d := by
    pointwise [resOf, resid]
  pointwise [k0_pay88, k0_pay87, Rows.norm, Rows.mean, e]

end Mix

/-! ## The differences -/

section Differences

variable (i : grid0.Coords) (v13 : View sig .tc .vmem S320x1024 .f32) (v14 v15 : View sig .tc .vmem S320x768 .f32)
  (v16 : View sig .tc .vmem S320x512 .f32)
  (h : Fin 8 → Fin 15 → Fin 1024 → EReal) (t : Fin 8 → Fin 8 → Fin 1024 → EReal)
  {E : List (View.Piece (Elt Ideal) S320x1024 .f32)} (hE : ∀ y, View.canon E y = extG h t y)
  (s r : Fin 8) (k : Fin 256)

include hE

theorem dif0_apply : dif0 (F := Ideal) i v13 E s (ix2 r k) = pooled (h s) (t s) 0 r ⟨256 * (0 : Fin 4).val + k.val, by omega⟩ := by
  refine (pay53_apply i _ _ _ r k).trans (congrArg₂ (fun x y => Ideal.div x (count 0) - y) ?_ ?_)
  · rw [← two_eq h t s r, eAt_apply v13 h t hE, eBefore_apply v13 h t hE]
    refine congrArg₂ (· + ·) (fullRow_tok h t s r _).symm (congrArg (fullRow h t s (31 + r.val)) (Fin.ext ?_))
    exact (Nat.zero_add _).symm
  · exact eAt_apply v13 h t hE s 0 r k

theorem dif1_apply : dif1 (F := Ideal) i v13 v15 E (s4L v14 (s2L v13 E)) s (ix2 r k)
    = pooled (h s) (t s) 1 r ⟨256 * (1 : Fin 4).val + k.val, by omega⟩ := by
  refine (pay54_apply i _ _ r k).trans (congrArg₂ (fun x y => Ideal.div x (count 1) - y) ?_ ?_)
  · rw [← four_eq h t s r]
    exact s4At_apply v13 v14 v15 h t hE s r k
  · exact eAt_apply v13 h t hE s 1 r k

theorem dif2_apply : dif2 (F := Ideal) i v13 v16 E (s8L v15 (s4L v14 (s2L v13 E))) s (ix2 r k)
    = pooled (h s) (t s) 2 r ⟨256 * (2 : Fin 4).val + k.val, by omega⟩ := by
  refine (pay55_apply i _ _ r k).trans (congrArg₂ (fun x y => Ideal.div x (count 2) - y) ?_ ?_)
  · rw [← eight_eq h t s r]
    refine (s8At_apply v13 v14 v15 v16 h t hE s 0 r k).trans (congrArg (eight h t s (32 + r.val)) (Fin.ext ?_))
    exact congrArg (512 + ·) (Nat.zero_add _)
  · exact eAt_apply v13 h t hE s 2 r k

theorem dif3_apply : dif3 (F := Ideal) i v13 v16 E (s8L v15 (s4L v14 (s2L v13 E))) s (ix2 r k)
    = pooled (h s) (t s) 3 r ⟨256 * (3 : Fin 4).val + k.val, by omega⟩ := by
  refine (pay51_apply i _ _ _ r k).trans (congrArg₂ (fun x y => Ideal.div x (count 3) - y) ?_ ?_)
  · rw [← sixteen_eq h t s r]
    refine congrArg₂ (· + ·) ((s8At_apply v13 v14 v15 v16 h t hE s 1 r k).trans
      (congrArg (eight h t s (32 + r.val)) (Fin.ext ?_))) (s8Before_apply v13 v14 v15 v16 h t hE s r k)
    exact (Nat.add_assoc 512 256 k.val).symm
  · exact eAt_apply v13 h t hE s 3 r k

end Differences

end

end Cert.Kernel7Ideal.StepMixer
-- ==== Proof.StepMixerStep.lean ====
module
public import proofs.«01_k».proof.Proof.StepMixerElements

/-! # The sample batch's mixer: what one step leaves

The eight sequences' results and new histories, from the step's blocks. -/

set_option maxRecDepth 16384

namespace Cert.Kernel7Ideal.StepMixer

open Cert.Kernel7Ideal Cert.Kernel7Ideal.Gen Cert.Rows Cert.Loads Cert.StepMix
open Idealize.ShloMosaic Idealize.ShloMosaic.Pipeline

@[expose] public section

theorem out_inb : ∀ (s : Fin 8) (x : Fin 3), (![s.val, 0, 0] : Fin 3 → ℕ) x + S1x8x1024.size x ≤ S8x8x1024.size x := by
  decide +kernel

theorem mem_out {s : Fin 8} (y : S8x8x1024.Idx) (e : y 0 = s) :
    y ∈ (Rect.unit (s := S8x8x1024) ![s.val, 0, 0] S1x8x1024.size (out_inb s)).set :=
  Rect.mem_set_unit.mpr fun a => match a with
    | ⟨0, _⟩ => e ▸ ⟨le_rfl, Nat.lt_succ_self _⟩
    | ⟨1, _⟩ => ⟨Nat.zero_le _, (y 1).isLt.trans_eq (Nat.zero_add 8).symm⟩
    | ⟨2, _⟩ => ⟨Nat.zero_le _, (y 2).isLt.trans_eq (Nat.zero_add 1024).symm⟩

section Step

variable {c : Dev nD} (i : grid0.Coords)
  {arg2 : Memref sig .tc .vmem S8x8x1024 .f32} (harg2 : arg2.IsWhole)
  {arg3 : Memref sig .tc .vmem S8x15x1024 .f32} (harg3 : arg3.IsWhole)
  {arg4 : Memref sig .tc .vmem S1x8x1024 .f32} (harg4 : arg4.IsWhole)
  {arg5 : Memref sig .tc .vmem S1x8x1024 .f32} (harg5 : arg5.IsWhole)
  {arg6 : Memref sig .tc .vmem S1x8x1024 .f32} (harg6 : arg6.IsWhole)
  {arg7 : Memref sig .tc .vmem S1x4x256x256 .bf16} (harg7 : arg7.IsWhole)
  {arg8 : Memref sig .tc .vmem S1x1024 .f32} (harg8 : arg8.IsWhole)
  {arg9 : Memref sig .tc .vmem S1x1x1024 .f32} (harg9 : arg9.IsWhole)
  {arg10 : Memref sig .tc .vmem S1x1x1024 .f32} (harg10 : arg10.IsWhole)
  (x0 : Vec Ideal S8x8x1024 .f32) (x1 : Vec Ideal S8x15x1024 .f32) (x2 x3 x4 : Vec Ideal S1x8x1024 .f32)
  (x5 : Vec Ideal S1x4x256x256 .bf16) (x6 : Vec Ideal S1x1024 .f32) (x7 x8 : Vec Ideal S1x1x1024 .f32)

theorem wOf_apply (q : Fin 4) (k e : Fin 256) : wOf (F := Ideal) harg7 x5 q (ix4 0 0 k e) = x5 (ix4 0 q k e) := by
  unfold wOf
  rw [View.readAt_eq_ld, harg7.read_unread]
  pointwise

theorem psOf_apply (d : Fin 1024) : psOf (F := Ideal) harg8 x6 (ix2 0 d) = x6 (ix2 0 d) := by
  unfold psOf
  rw [View.readAt_eq_ld, harg8.read_unread]
  pointwise

/-- The mix of the step, token by token. -/
theorem mixAll_apply (v13 : View sig .tc .vmem S320x1024 .f32) (v14 v15 : View sig .tc .vmem S320x768 .f32)
    (v16 : View sig .tc .vmem S320x512 .f32) (h : Fin 8 → Fin 15 → Fin 1024 → EReal) (t : Fin 8 → Fin 8 → Fin 1024 → EReal)
    {E : List (View.Piece (Elt Ideal) S320x1024 .f32)} (hE : ∀ y, View.canon E y = extG h t y) (s r : Fin 8) (d : Fin 1024) :
    mixAll (F := Ideal) i harg7 harg8 v13 v15 v16 x5 x6 E (s4L v14 (s2L v13 E)) (s8L v15 (s4L v14 (s2L v13 E)))
        (ix2 ⟨8 * s.val + r.val, by omega⟩ d)
      = mixRow (h s) (t s) (fun q k e => x5 (ix4 0 q k e)) (fun d => x6 (ix2 0 d)) r d := by
  obtain ⟨q, e, rfl⟩ := column_cases d
  rw [mixRow_apply]
  refine (scaledOf_apply ![mixOf (dif0 i v13 E) (wOf harg7 x5 0), mixOf (dif1 i v13 v15 E _) (wOf harg7 x5 1),
    mixOf (dif2 i v13 v16 E _) (wOf harg7 x5 2), mixOf (dif3 i v13 v16 E _) (wOf harg7 x5 3)] (psOf harg8 x6) q
      ⟨8 * s.val + r.val, by omega⟩ e).trans (congrArg₂ (· * ·) ?_ (psOf_apply harg8 x6 _))
  unfold mix
  fin_cases q
  · refine (mixOf_apply _ _ s r e).trans (Finset.sum_congr rfl fun k _ => congrArg₂ (· * ·) ?_ (wOf_apply harg7 x5 0 k e))
    exact dif0_apply i v13 h t hE s r k
  · refine (mixOf_apply _ _ s r e).trans (Finset.sum_congr rfl fun k _ => congrArg₂ (· * ·) ?_ (wOf_apply harg7 x5 1 k e))
    exact dif1_apply i v13 v14 v15 h t hE s r k
  · refine (mixOf_apply _ _ s r e).trans (Finset.sum_congr rfl fun k _ => congrArg₂ (· * ·) ?_ (wOf_apply harg7 x5 2 k e))
    exact dif2_apply i v13 v14 v15 v16 h t hE s r k
  · refine (mixOf_apply _ _ s r e).trans (Finset.sum_congr rfl fun k _ => congrArg₂ (· * ·) ?_ (wOf_apply harg7 x5 3 k e))
    exact dif3_apply i v13 v14 v15 v16 h t hE s r k

/-- The step's results. -/
noncomputable def outG (y : S8x8x1024.Idx) : EReal :=
  mixed (fun j d => x1 (ix3 (y 0 : Fin 8) j d)) (tokRow x0 x2 x3 (y 0)) (fun d => x0 (ix3 (y 0 : Fin 8) (y 1 : Fin 8) d))
    (fun d => x4 (ix3 0 (y 0 : Fin 8) d)) (fun q k e => x5 (ix4 0 q k e)) (fun d => x6 (ix2 0 d))
    (fun d => x7 (ix3 0 0 d)) (fun d => x8 (ix3 0 0 d)) (y 1) (y 2)

theorem outP_agree {M : FVec Ideal S64x1024 .f32}
    (hM : ∀ (s r : Fin 8) (d : Fin 1024), M (ix2 ⟨8 * s.val + r.val, by omega⟩ d)
      = mixRow (fun j d => x1 (ix3 s j d)) (tokRow x0 x2 x3 s) (fun q k e => x5 (ix4 0 q k e)) (fun d => x6 (ix2 0 d)) r d)
    (s : Fin 8) :
    ∀ x, (outP (F := Ideal) i harg2 harg6 harg9 harg10 x0 x4 x7 x8 M s).2 x
      = outG x0 x1 x2 x3 x4 x5 x6 x7 x8 ((outP (F := Ideal) i harg2 harg6 harg9 harg10 x0 x4 x7 x8 M s).1.emb x) :=
  fun (x : S1x8x1024.Idx) => by
  have hx0 : (x 0 : Fin 1).val = 0 := Nat.lt_one_iff.mp (x 0 : Fin 1).isLt
  obtain ⟨r, d, rfl⟩ : ∃ (r : Fin 8) (d : Fin 1024), x = ix3 (0 : Fin 1) r d :=
    ⟨x 1, x 2, funext fun a => match a with
      | ⟨0, _⟩ => Fin.ext hx0
      | ⟨1, _⟩ => rfl
      | ⟨2, _⟩ => rfl⟩
  have e : (outP (F := Ideal) i harg2 harg6 harg9 harg10 x0 x4 x7 x8 M s).1.emb (ix3 (0 : Fin 1) r d) = ix3 s r d :=
    funext fun a => Fin.ext (match a with
      | ⟨0, _⟩ => rfl
      | ⟨1, _⟩ => (Nat.zero_add _).trans (Nat.one_mul _)
      | ⟨2, _⟩ => (Nat.zero_add _).trans (Nat.one_mul _))
  refine Eq.trans ?_ (congrArg (outG x0 x1 x2 x3 x4 x5 x6 x7 x8) e).symm
  refine (pay88_apply M _ _ _ _ s r d).trans ?_
  simp only [hM, xOf_apply, modOf_apply, vecOf_apply]
  rfl

theorem mem_outL (M : FVec Ideal S64x1024 .f32) (s : Fin 8) :
    outP (F := Ideal) i harg2 harg6 harg9 harg10 x0 x4 x7 x8 M s ∈ outL i harg2 harg6 harg9 harg10 x0 x4 x7 x8 M := by
  unfold outL
  fin_cases s <;> repeat (first | exact List.Mem.head _ | apply List.Mem.tail)

/-- What the stores of the results leave. -/
theorem out_canon {M : FVec Ideal S64x1024 .f32}
    (hM : ∀ (s r : Fin 8) (d : Fin 1024), M (ix2 ⟨8 * s.val + r.val, by omega⟩ d)
      = mixRow (fun j d => x1 (ix3 s j d)) (tokRow x0 x2 x3 s) (fun q k e => x5 (ix4 0 q k e)) (fun d => x6 (ix2 0 d)) r d)
    (y : S8x8x1024.Idx) :
    View.canon (outL (F := Ideal) i harg2 harg6 harg9 harg10 x0 x4 x7 x8 M) y = outG x0 x1 x2 x3 x4 x5 x6 x7 x8 y := by
  have n := outP_agree i harg2 harg6 harg9 harg10 x0 x1 x2 x3 x4 x5 x6 x7 x8 hM
  have hp : View.PiecesOf (outG x0 x1 x2 x3 x4 x5 x6 x7 x8) (outL (F := Ideal) i harg2 harg6 harg9 harg10 x0 x4 x7 x8 M) :=
    ⟨n 7, n 6, n 5, n 4, n 3, n 2, n 1, n 0, trivial⟩
  rw [← List.append_nil (outL i harg2 harg6 harg9 harg10 x0 x4 x7 x8 M)]
  exact View.canon_append_of_piecesOf _ [] _ hp y
    ⟨_, mem_outL i harg2 harg6 harg9 harg10 x0 x4 x7 x8 M (y 0), mem_out y rfl⟩

end Step

/-! ## The step's run -/

section Run

variable {c : Dev nD} (i : grid0.Coords)
  {arg2 : Memref sig .tc .vmem S8x8x1024 .f32} (harg2 : arg2.IsWhole)
  {arg3 : Memref sig .tc .vmem S8x15x1024 .f32} (harg3 : arg3.IsWhole)
  {arg4 : Memref sig .tc .vmem S1x8x1024 .f32} (harg4 : arg4.IsWhole)
  {arg5 : Memref sig .tc .vmem S1x8x1024 .f32} (harg5 : arg5.IsWhole)
  {arg6 : Memref sig .tc .vmem S1x8x1024 .f32} (harg6 : arg6.IsWhole)
  {arg7 : Memref sig .tc .vmem S1x4x256x256 .bf16} (harg7 : arg7.IsWhole)
  {arg8 : Memref sig .tc .vmem S1x1024 .f32} (harg8 : arg8.IsWhole)
  {arg9 : Memref sig .tc .vmem S1x1x1024 .f32} (harg9 : arg9.IsWhole)
  {arg10 : Memref sig .tc .vmem S1x1x1024 .f32} (harg10 : arg10.IsWhole)
  {arg11 : Memref sig .tc .vmem S8x8x1024 .f32} {harg11 : arg11.IsWhole}
  {arg12 : Memref sig .tc .vmem S8x15x1024 .f32} {harg12 : arg12.IsWhole}
  {arg13 : Memref sig .tc .vmem S320x1024 .f32} {harg13 : arg13.IsWhole}
  {arg14 : Memref sig .tc .vmem S320x768 .f32} {harg14 : arg14.IsWhole}
  {arg15 : Memref sig .tc .vmem S320x768 .f32} {harg15 : arg15.IsWhole}
  {arg16 : Memref sig .tc .vmem S320x512 .f32} {harg16 : arg16.IsWhole}
  (hc0 : cond0_0 i)
  (x0 : Vec Ideal S8x8x1024 .f32) (x1 : Vec Ideal S8x15x1024 .f32) (x2 x3 x4 : Vec Ideal S1x8x1024 .f32)
  (x5 : Vec Ideal S1x4x256x256 .bf16) (x6 : Vec Ideal S1x1024 .f32) (x7 x8 : Vec Ideal S1x1x1024 .f32)

/-- The results of the step. -/
theorem step_out :
    out0_A_9 c i arg2 harg2 arg3 harg3 arg4 harg4 arg5 harg5 arg6 harg6 arg7 harg7 arg8 harg8
        arg9 harg9 arg10 harg10 arg11 harg11 arg12 harg12 arg13 harg13 arg14 harg14 arg15 harg15 arg16 harg16 hc0
        x0 x1 x2 x3 x4 x5 x6 x7 x8
      = outG x0 x1 x2 x3 x4 x5 x6 x7 x8 := by
  obtain ⟨E, E2, E4, E8, rfl, rfl, rfl, rfl, he⟩ := run_out (c := c) i harg2 harg3 harg4 harg5 harg6 harg7 harg8 harg9 harg10
    (harg11 := harg11) (harg12 := harg12) (harg13 := harg13) (harg14 := harg14) (harg15 := harg15) (harg16 := harg16)
    x0 x1 x2 x3 x4 x5 x6 x7 x8 hc0
  unfold out0_A_9
  rw [he, View.read_writes_junk_eq_canon]
  exact funext fun y => out_canon i harg2 harg6 harg9 harg10 x0 x1 x2 x3 x4 x5 x6 x7 x8
    (fun s r d => mixAll_apply i harg7 harg8 x5 x6 _ _ _ _ _ _ (ext_canon i harg2 harg3 harg4 harg5 x0 x1 x2 x3) s r d) y

/-- The new histories of the step. -/
theorem step_new :
    out0_A_10 c i arg2 harg2 arg3 harg3 arg4 harg4 arg5 harg5 arg6 harg6 arg7 harg7 arg8 harg8
        arg9 harg9 arg10 harg10 arg11 harg11 arg12 harg12 arg13 harg13 arg14 harg14 arg15 harg15 arg16 harg16 hc0
        x0 x1 x2 x3 x4 x5 x6 x7 x8
      = newG (fun s r d => x1 (ix3 s r d)) (tokRow x0 x2 x3) := by
  unfold out0_A_10
  rw [run_new, View.read_writes_junk_eq_canon]
  exact funext fun y => new_canon _ _ _ (ext_canon i harg2 harg3 harg4 harg5 x0 x1 x2 x3) y

end Run

end

end Cert.Kernel7Ideal.StepMixer
-- ==== Proof.StepMixerFinal.lean ====
module
public import proofs.«01_k».proof.Proof.StepMixerStep

/-! # The sample batch's mixer: the kernel's result arrays -/

set_option maxRecDepth 16384

namespace Cert.Kernel7Ideal.StepMixer

open Cert.Kernel7Ideal Cert.Kernel7Ideal.Gen Cert.Rows Cert.Loads Cert.StepMix
open Idealize.ShloMosaic Idealize.ShloMosaic.Pipeline

@[expose] public section

/-! ## The windows -/

section Windows

/-- The windows that move with the sequences. -/
theorem index_seq : ∀ t : Fin cfg0.N, win0_0.index t = ![t.val, 0, 0] ∧ win0_1.index t = ![t.val, 0, 0]
    ∧ win0_9.index t = ![t.val, 0, 0] ∧ win0_10.index t = ![t.val, 0, 0] :=
  (by decide +kernel : ∀ t : Fin grid0.N, win0_0.index t = ![t.val, 0, 0] ∧ win0_1.index t = ![t.val, 0, 0]
    ∧ win0_9.index t = ![t.val, 0, 0] ∧ win0_10.index t = ![t.val, 0, 0])

/-- The windows of the modulation rows. -/
theorem index_mod : ∀ t : Fin cfg0.N, win0_2.index t = ![0, 33 + t.val, 0] ∧ win0_3.index t = ![0, 33 + t.val, 1]
    ∧ win0_4.index t = ![0, 33 + t.val, 2] :=
  (by decide +kernel : ∀ t : Fin grid0.N, win0_2.index t = ![0, 33 + t.val, 0] ∧ win0_3.index t = ![0, 33 + t.val, 1]
    ∧ win0_4.index t = ![0, 33 + t.val, 2])

/-- The windows of the weights, the scale, the gain and the bias. -/
theorem index_weights : ∀ t : Fin cfg0.N, win0_5.index t = ![0, 0, 0, 0] ∧ win0_6.index t = ![0, 0]
    ∧ win0_7.index t = ![0, 0, 0] ∧ win0_8.index t = ![0, 0, 0] :=
  (by decide +kernel : ∀ t : Fin grid0.N, win0_5.index t = ![0, 0, 0, 0] ∧ win0_6.index t = ![0, 0]
    ∧ win0_7.index t = ![0, 0, 0] ∧ win0_8.index t = ![0, 0, 0])

theorem points : cfg0.N = 4 := N_0

/-- The sequence that is the step's `s`-th. -/
abbrev seqAt (t : Fin cfg0.N) (s : Fin 8) : Fin 32 := ⟨8 * t.val + s.val, by have := t.isLt; have := points; omega⟩

theorem seqAt_val (t : Fin cfg0.N) (s : Fin 8) : (seqAt t s).val = 8 * t.val + s.val := rfl

/-- The modulation row of sequence `n`. -/
abbrev modAt (n : Fin 32) : Fin 296 := ⟨264 + n.val, by omega⟩

theorem modAt_val (n : Fin 32) : (modAt n).val = 264 + n.val := rfl

variable (m : (ℓ : Loc nD τ sig) → Buf (Elt Ideal) ℓ) (c : Dev nD) (t : Fin cfg0.N)

theorem tokens_block (s r : Fin 8) (d : Fin 1024) :
    iblk m c 0 t (ix3 s r d) = m (c.tc.loc main_arg0) (ix3 (seqAt t s) r d) := by
  have := seqAt_val t s
  refine congrArg (m (c.tc.loc main_arg0)) (place_ext ?_ ?_ ?_) <;> blk_simp [(index_seq t).1] <;> omega

theorem hist_block (s : Fin 8) (r : Fin 15) (d : Fin 1024) :
    iblk m c 1 t (ix3 s r d) = m (c.tc.loc main_arg1) (ix3 (seqAt t s) r d) := by
  have := seqAt_val t s
  refine congrArg (m (c.tc.loc main_arg1)) (place_ext ?_ ?_ ?_) <;> blk_simp [(index_seq t).2.1] <;> omega

theorem shift_block (s : Fin 8) (d : Fin 1024) :
    iblk m c 2 t (ix3 0 s d) = m (c.tc.loc main_arg2) (ix3 0 (modAt (seqAt t s)) ⟨d.val, by omega⟩) := by
  have := seqAt_val t s
  have := modAt_val (seqAt t s)
  refine congrArg (m (c.tc.loc main_arg2)) (place_ext ?_ ?_ ?_) <;> blk_simp [(index_mod t).1] <;> omega

theorem scale_block (s : Fin 8) (d : Fin 1024) :
    iblk m c 3 t (ix3 0 s d) = m (c.tc.loc main_arg2) (ix3 0 (modAt (seqAt t s)) ⟨1024 + d.val, by omega⟩) := by
  have := seqAt_val t s
  have := modAt_val (seqAt t s)
  refine congrArg (m (c.tc.loc main_arg2)) (place_ext ?_ ?_ ?_) <;> blk_simp [(index_mod t).2.1] <;> omega

theorem gate_block (s : Fin 8) (d : Fin 1024) :
    iblk m c 4 t (ix3 0 s d) = m (c.tc.loc main_arg2) (ix3 0 (modAt (seqAt t s)) ⟨2048 + d.val, by omega⟩) := by
  have := seqAt_val t s
  have := modAt_val (seqAt t s)
  refine congrArg (m (c.tc.loc main_arg2)) (place_ext ?_ ?_ ?_) <;> blk_simp [(index_mod t).2.2] <;> omega

theorem weights_block (q : Fin 4) (k e : Fin 256) :
    iblk m c 5 t (ix4 0 q k e) = m (c.tc.loc main_arg3) (ix4 0 q k e) := by
  refine congrArg (m (c.tc.loc main_arg3)) (funext fun a => Fin.ext ?_)
  match a with
  | ⟨0, _⟩ => blk_simp [(index_weights t).1] <;> rfl
  | ⟨1, _⟩ => blk_simp [(index_weights t).1] <;> rfl
  | ⟨2, _⟩ => blk_simp [(index_weights t).1] <;> rfl
  | ⟨3, _⟩ => blk_simp [(index_weights t).1] <;> rfl

theorem pool_block (d : Fin 1024) : iblk m c 6 t (ix2 0 d) = m (c.tc.loc main_arg4) (ix2 0 d) := by
  refine congrArg (m (c.tc.loc main_arg4)) (funext fun a => Fin.ext ?_)
  match a with
  | ⟨0, _⟩ => blk_simp [(index_weights t).2.1] <;> rfl
  | ⟨1, _⟩ => blk_simp [(index_weights t).2.1] <;> rfl

theorem gain_block (d : Fin 1024) : iblk m c 7 t (ix3 0 0 d) = m (c.tc.loc main_arg5) (ix3 0 0 d) := by
  refine congrArg (m (c.tc.loc main_arg5)) (place_ext ?_ ?_ ?_) <;> blk_simp [(index_weights t).2.2.1] <;> rfl

theorem bias_block (d : Fin 1024) : iblk m c 8 t (ix3 0 0 d) = m (c.tc.loc main_arg6) (ix3 0 0 d) := by
  refine congrArg (m (c.tc.loc main_arg6)) (place_ext ?_ ?_ ?_) <;> blk_simp [(index_weights t).2.2.2] <;> rfl

end Windows

/-! ## The results -/

section Spec

variable (x : S32x8x1024.Idx → EReal) (hist : S32x15x1024.Idx → EReal) (ada : S2x296x6144.Idx → EReal)
  (wp : S1x4x256x256.Idx → EReal) (ps : S1x1024.Idx → EReal) (g b : S4x1x1024.Idx → EReal)

/-- The history of sequence `n`. -/
noncomputable def histAt (n : Fin 32) (j : Fin 15) (d : Fin 1024) : EReal := hist (ix3 n j d)

/-- The modulated tokens of sequence `n`. -/
noncomputable def tokAt (n : Fin 32) (r : Fin 8) : Fin 1024 → EReal :=
  modul (fun d => x (ix3 n r d)) (fun d => ada (ix3 0 (modAt n) ⟨1024 + d.val, by omega⟩))
    (fun d => ada (ix3 0 (modAt n) ⟨d.val, by omega⟩))

/-- The layer's first half for token `r` of sequence `n`. -/
noncomputable def stepAt (n : Fin 32) (r : Fin 8) : Fin 1024 → EReal :=
  mixed (histAt hist n) (tokAt x ada n) (fun d => x (ix3 n r d))
    (fun d => ada (ix3 0 (modAt n) ⟨2048 + d.val, by omega⟩)) (fun q k e => wp (ix4 0 q k e)) (fun d => ps (ix2 0 d))
    (fun d => g (ix3 0 0 d)) (fun d => b (ix3 0 0 d)) r

/-- The new history: the last fifteen of the twenty-three rows. -/
noncomputable def newAt (n : Fin 32) (j : Fin 15) (d : Fin 1024) : EReal :=
  rowAt (histAt hist n) (tokAt x ada n) (8 + j.val) d

end Spec

variable (m : (ℓ : Loc nD τ sig) → Buf (Elt Ideal) ℓ) (c : Dev nD)

/-- The tokens, as a whole array. -/
noncomputable def result : Buf (Elt Ideal) ((c.tc : Thread nD τ).loc main_v0_0) := fun (y : S32x8x1024.Idx) =>
  stepAt (m (c.tc.loc main_arg0)) (m (c.tc.loc main_arg1)) (m (c.tc.loc main_arg2)) (m (c.tc.loc main_arg3))
    (m (c.tc.loc main_arg4)) (m (c.tc.loc main_arg5)) (m (c.tc.loc main_arg6)) (y 0) (y 1) (y 2)

/-- The new histories, as a whole array. -/
noncomputable def history : Buf (Elt Ideal) ((c.tc : Thread nD τ).loc main_v0_1) := fun (y : S32x15x1024.Idx) =>
  newAt (m (c.tc.loc main_arg0)) (m (c.tc.loc main_arg1)) (m (c.tc.loc main_arg2)) (y 0) (y 1) (y 2)

theorem out_place (t : Fin cfg0.N) (s r : Fin 8) (d : Fin 1024) :
    (((cfg0.win 9).blk t).view.emb (ix3 s r d) : S32x8x1024.Idx) = ix3 (seqAt t s) r d := by
  have := seqAt_val t s
  refine place_ext ?_ ?_ ?_ <;> blk_simp [(index_seq t).2.2.1] <;> omega

theorem new_place (t : Fin cfg0.N) (s : Fin 8) (j : Fin 15) (d : Fin 1024) :
    (((cfg0.win 10).blk t).view.emb (ix3 s j d) : S32x15x1024.Idx) = ix3 (seqAt t s) j d := by
  have := seqAt_val t s
  refine place_ext ?_ ?_ ?_ <;> blk_simp [(index_seq t).2.2.2] <;> omega

/-- The step's rows are the sequences' rows. -/
theorem tokRow_block (t : Fin cfg0.N) (s r : Fin 8) :
    tokRow (iblk m c 0 t) (iblk m c 2 t) (iblk m c 3 t) s r
      = tokAt (m (c.tc.loc main_arg0)) (m (c.tc.loc main_arg2)) (seqAt t s) r := by
  unfold tokAt
  simp only [tokRow, tokens_block, shift_block, scale_block]

theorem outG_block (t : Fin cfg0.N) (s r : Fin 8) (d : Fin 1024) :
    outG (iblk m c 0 t) (iblk m c 1 t) (iblk m c 2 t) (iblk m c 3 t) (iblk m c 4 t) (iblk m c 5 t) (iblk m c 6 t)
        (iblk m c 7 t) (iblk m c 8 t) (ix3 s r d)
      = stepAt (m (c.tc.loc main_arg0)) (m (c.tc.loc main_arg1)) (m (c.tc.loc main_arg2)) (m (c.tc.loc main_arg3))
          (m (c.tc.loc main_arg4)) (m (c.tc.loc main_arg5)) (m (c.tc.loc main_arg6)) (seqAt t s) r d := by
  have e := funext (tokRow_block m c t s)
  unfold outG stepAt
  simp only [ix3_0, ix3_1, ix3_2, e, tokens_block, hist_block, gate_block, weights_block, pool_block, gain_block, bias_block]
  rfl

theorem flushed_out (t : Fin cfg0.N) :
    (dats m 0 c).flushed 9 t = ((cfg0.win 9).blk t).view.read (Elt Ideal) (result m c) := by
  rw [Value.flushed9_A, step_out]
  refine funext fun (y : S8x8x1024.Idx) => ?_
  obtain ⟨s, r, d, rfl⟩ : ∃ (s r : Fin 8) (d : Fin 1024), y = ix3 s r d := ⟨y 0, y 1, y 2, eq_ix3 y⟩
  refine Eq.trans ?_ (congrArg (result m c) (out_place t s r d)).symm
  exact outG_block m c t s r d

theorem flushed_new (t : Fin cfg0.N) :
    (dats m 0 c).flushed 10 t = ((cfg0.win 10).blk t).view.read (Elt Ideal) (history m c) := by
  rw [Value.flushed10_A, step_new]
  refine funext fun (y : S8x15x1024.Idx) => ?_
  obtain ⟨s, j, d, rfl⟩ : ∃ (s : Fin 8) (j : Fin 15) (d : Fin 1024), y = ix3 s j d := ⟨y 0, y 1, y 2, eq_ix3 y⟩
  refine Eq.trans ?_ (congrArg (history m c) (new_place t s j d)).symm
  show fullRow _ _ s (25 + j.val) d = rowAt _ _ (8 + j.val) d
  rw [fullRow_eq _ _ s _ (by omega), show 25 + j.val - 17 = 8 + j.val by omega, funext (tokRow_block m c t s)]
  simp only [hist_block]
  rfl

/-- The step that takes sequence `n`. -/
abbrev pointOf (n : ℕ) (h : n < 32) : Fin cfg0.N := ⟨n / 8, by rw [points]; omega⟩

theorem cover_out (y : S32x8x1024.Idx) :
    ∃ t : Fin cfg0.N, (cfg0.win 9).flush t = true ∧ y ∈ ((cfg0.win 9).blk t).view.set := by
  have h0 : (y 0).val < 32 := (y 0).isLt
  have h1 : (y 1).val < 8 := (y 1).isLt
  have h2 : (y 2).val < 1024 := (y 2).isLt
  refine ⟨pointOf (y 0).val h0, flush0_9 _, ?_⟩
  have hp : (pointOf (y 0).val h0).val = (y 0).val / 8 := rfl
  mem_blk [(index_seq (pointOf (y 0).val h0)).2.2.1]
  omega

theorem cover_new (y : S32x15x1024.Idx) :
    ∃ t : Fin cfg0.N, (cfg0.win 10).flush t = true ∧ y ∈ ((cfg0.win 10).blk t).view.set := by
  have h0 : (y 0).val < 32 := (y 0).isLt
  have h1 : (y 1).val < 15 := (y 1).isLt
  have h2 : (y 2).val < 1024 := (y 2).isLt
  refine ⟨pointOf (y 0).val h0, flush0_10 _, ?_⟩
  have hp : (pointOf (y 0).val h0).val = (y 0).val / 8 := rfl
  mem_blk [(index_seq (pointOf (y 0).val h0)).2.2.2]
  omega

/-- The tokens' array ends holding the layer's first half. -/
theorem final9 : (dats m 0 c).arrAt 9 cfg0.N = result m c :=
  (dats m 0 c).arrAt_eq_of_cover 9 (result m c) (fun t _ => flushed_out m c t) cover_out

/-- The histories' array ends holding the new histories. -/
theorem final10 : (dats m 0 c).arrAt 10 cfg0.N = history m c :=
  (dats m 0 c).arrAt_eq_of_cover 10 (history m c) (fun t _ => flushed_new m c t) cover_new

end

end Cert.Kernel7Ideal.StepMixer
-- ==== Proof.StepMixerReference.lean ====
module
public import proofs.«01_k».proof.Proof.StepMixerFinal
public import proofs.«01_k».proof.Proof.Gen.Reference7Ideal.Read

/-! # The sample batch's mixer: the reference, element by element -/

set_option maxRecDepth 16384

namespace Cert.Reference7Ideal.StepMixer

open Cert.Reference7Ideal Cert.Reference7Ideal.Read Cert.Rows Cert.StepMix Cert.Kernel7Ideal.StepMixer
open Idealize.ShloMosaic

@[expose] public section

variable (x : FVec Ideal S32x8x1024 .f32) (hist : FVec Ideal S32x15x1024 .f32) (ada : FVec Ideal S2x296x6144 .f32)
  (wp : FVec Ideal S1x4x256x256 .bf16) (ps : FVec Ideal S1x1024 .f32) (g b : FVec Ideal S4x1x1024 .f32)

theorem gate_apply (n : Fin 32) (d : Fin 1024) :
    val_main_v10 (F := Ideal) ada (ix3 n 0 d) = ada (ix3 0 (modAt n) ⟨2048 + d.val, by omega⟩) := by
  pointwise [val_main_v10, val_main_v4, val_main_v1, val_main_v0]

theorem tokens_apply (n : Fin 32) (r : Fin 8) (d : Fin 1024) :
    val_main_v19 (F := Ideal) x ada (ix3 n r d) = tokAt x ada n r d := by
  pointwise [val_main_v19, val_main_v18, val_main_v17, val_main_v16, val_main_v15, val_main_v14, val_main_cst,
    val_main_v9, val_main_v8, val_main_v3, val_main_v2, val_main_v1, val_main_v0, tokAt, modul]

/-- The twenty-three rows. -/
theorem rows_apply (n : Fin 32) (k : Fin 23) (d : Fin 1024) :
    val_main_v20 (F := Ideal) x hist ada (ix3 n k d) = rowAt (histAt hist n) (tokAt x ada n) k.val d := by
  have e (r : Fin 8) := tokens_apply x ada n r d
  have h8 : k.val - 15 < 8 := by omega
  unfold rowAt
  simp only [dif_pos h8, ← e, histAt]
  generalize hv : val_main_v19 (F := Ideal) x ada = v
  unfold val_main_v20
  rw [hv]
  pointwise

/-- The new history. -/
theorem history_apply (n : Fin 32) (j : Fin 15) (d : Fin 1024) :
    val_main_v186 (F := Ideal) x hist ada (ix3 n j d) = newAt x hist ada n j d := by
  unfold newAt
  rw [← rows_apply x hist ada n ⟨8 + j.val, by omega⟩ d]
  unfold val_main_v186
  generalize val_main_v20 (F := Ideal) x hist ada = v
  pointwise

/-- The average, row by row as the reference takes them. -/
theorem pooled_eq (h : Fin 15 → Fin 1024 → EReal) (t : Fin 8 → Fin 1024 → EReal) (q : Fin 4) (r : Fin 8) (d : Fin 1024) :
    pooled h t q r d
      = Ideal.div (∑ j ∈ Finset.range (width q), rowAt h t (15 - j + r.val) d) (count q) - rowAt h t (15 + r.val) d := by
  have e : rowAt h t (15 + r.val) d = t r d := by
    unfold rowAt
    rw [dif_neg (by omega), dif_pos (by omega)]
    exact congrArg (fun r => t r d) (Fin.ext (Nat.add_sub_cancel_left ..))
  have hw : ∀ q, width q ≤ 16 := by decide
  have := hw q
  rw [e]
  refine congrArg (fun z => Ideal.div z (count q) - t r d) (Finset.sum_congr rfl fun j hj => ?_)
  have := Finset.mem_range.mp hj
  exact congrArg (fun k => rowAt h t k d) (by omega)

/-- No token has fewer rows than its group's window. -/
theorem rows_enough : ∀ (q : Fin 4) (r : Fin 8),
    IntOp.minsi (BitVec.ofNat 32 (width q)) (IntOp.addi (IntOp.addi 8192#32 (BitVec.ofNat 32 r.val)) 1#32)
      = BitVec.ofNat 32 (width q) := by
  decide +kernel

section Groups

variable (n : Fin 32) (r : Fin 8) (k : Fin 256)

set_option maxHeartbeats 1600000 in
theorem group0_apply : val_main_v39 (F := Ideal) x hist ada (ix3 n r k)
    = pooled (histAt hist n) (tokAt x ada n) 0 r ⟨256 * (0 : Fin 4).val + k.val, by omega⟩ := by
  rw [pooled_eq]
  have e := rows_apply x hist ada n
  generalize hv : val_main_v20 (F := Ideal) x hist ada = v at e
  pointwise [val_main_v24, val_main_v25, val_main_v26, val_main_v27, val_main_v28, val_main_v29, val_main_v30,
    val_main_v31, val_main_v32, val_main_v33, val_main_v34, val_main_v35, val_main_v36, val_main_v37, val_main_v38,
    val_main_v39, val_main_v21, val_main_v22, val_main_v23, val_main_cst_0, val_main_c, val_main_c_1, val_main_c_2,
    hv, e]
  unfold StepMix.count
  rw [← rows_enough 0 r]
  show _ = Ideal.div (∑ j ∈ Finset.range 2, _) _ - _
  simp only [Finset.sum_range_succ, Finset.sum_range_zero, zero_add, Nat.reduceSub]
  rfl

set_option maxHeartbeats 1600000 in
theorem group1_apply : val_main_v63 (F := Ideal) x hist ada (ix3 n r k)
    = pooled (histAt hist n) (tokAt x ada n) 1 r ⟨256 * (1 : Fin 4).val + k.val, by omega⟩ := by
  rw [pooled_eq]
  have e := rows_apply x hist ada n
  generalize hv : val_main_v20 (F := Ideal) x hist ada = v at e
  pointwise [val_main_v44, val_main_v45, val_main_v46, val_main_v47, val_main_v48, val_main_v49, val_main_v50,
    val_main_v51, val_main_v52, val_main_v53, val_main_v54, val_main_v55, val_main_v56, val_main_v57, val_main_v58,
    val_main_v59, val_main_v60, val_main_v61, val_main_v62, val_main_v63, val_main_v21, val_main_v22, val_main_v23,
    val_main_cst_3, val_main_c, val_main_c_4, val_main_c_5, hv, e]
  unfold StepMix.count
  rw [← rows_enough 1 r]
  show _ = Ideal.div (∑ j ∈ Finset.range 4, _) _ - _
  simp only [Finset.sum_range_succ, Finset.sum_range_zero, zero_add, Nat.reduceSub]
  rfl

set_option maxHeartbeats 1600000 in
theorem group2_apply : val_main_v95 (F := Ideal) x hist ada (ix3 n r k)
    = pooled (histAt hist n) (tokAt x ada n) 2 r ⟨256 * (2 : Fin 4).val + k.val, by omega⟩ := by
  rw [pooled_eq]
  have e := rows_apply x hist ada n
  generalize hv : val_main_v20 (F := Ideal) x hist ada = v at e
  pointwise [val_main_v68, val_main_v69, val_main_v70, val_main_v71, val_main_v72, val_main_v73, val_main_v74,
    val_main_v75, val_main_v76, val_main_v77, val_main_v78, val_main_v79, val_main_v80, val_main_v81, val_main_v82,
    val_main_v83, val_main_v84, val_main_v85, val_main_v86, val_main_v87, val_main_v88, val_main_v89, val_main_v90,
    val_main_v91, val_main_v92, val_main_v93, val_main_v94, val_main_v95, val_main_v21, val_main_v22, val_main_v23,
    val_main_cst_6, val_main_c, val_main_c_7, val_main_c_8, hv, e]
  unfold StepMix.count
  rw [← rows_enough 2 r]
  show _ = Ideal.div (∑ j ∈ Finset.range 8, _) _ - _
  simp only [Finset.sum_range_succ, Finset.sum_range_zero, zero_add, Nat.reduceSub]
  rfl

set_option maxHeartbeats 1600000 in
theorem group3_apply : val_main_v143 (F := Ideal) x hist ada (ix3 n r k)
    = pooled (histAt hist n) (tokAt x ada n) 3 r ⟨256 * (3 : Fin 4).val + k.val, by omega⟩ := by
  rw [pooled_eq]
  have e := rows_apply x hist ada n
  generalize hv : val_main_v20 (F := Ideal) x hist ada = v at e
  pointwise [val_main_v100, val_main_v101, val_main_v102, val_main_v103, val_main_v104, val_main_v105,
    val_main_v106, val_main_v107, val_main_v108, val_main_v109, val_main_v110, val_main_v111, val_main_v112,
    val_main_v113, val_main_v114, val_main_v115, val_main_v116, val_main_v117, val_main_v118, val_main_v119,
    val_main_v120, val_main_v121, val_main_v122, val_main_v123, val_main_v124, val_main_v125, val_main_v126,
    val_main_v127, val_main_v128, val_main_v129, val_main_v130, val_main_v131, val_main_v132, val_main_v133,
    val_main_v134, val_main_v135, val_main_v136, val_main_v137, val_main_v138, val_main_v139, val_main_v140,
    val_main_v141, val_main_v142, val_main_v143, val_main_v21, val_main_v22, val_main_v23, val_main_cst_9, val_main_c,
    val_main_c_10, val_main_c_11, hv, e]
  unfold StepMix.count
  rw [← rows_enough 3 r]
  show _ = Ideal.div (∑ j ∈ Finset.range 16, _) _ - _
  simp only [Finset.sum_range_succ, Finset.sum_range_zero, zero_add, Nat.reduceSub]
  rfl

end Groups

section Result

variable (n : Fin 32) (r : Fin 8)

/-- The weights of the call. -/
noncomputable abbrev weightsAt (q : Fin 4) (k e : Fin 256) : EReal := wp (ix4 0 q k e)

theorem mix0_apply (e : Fin 256) : val_main_v43 (F := Ideal) x hist ada wp (ix3 n r e)
    = mix (histAt hist n) (tokAt x ada n) (weightsAt wp) r 0 e := by
  have h (k : Fin 256) := group0_apply x hist ada n r k
  unfold mix weightsAt
  simp only [← h]
  unfold val_main_v43
  generalize val_main_v39 (F := Ideal) x hist ada = v
  pointwise [val_main_v42, val_main_v41, val_main_v40]

theorem mix1_apply (e : Fin 256) : val_main_v67 (F := Ideal) x hist ada wp (ix3 n r e)
    = mix (histAt hist n) (tokAt x ada n) (weightsAt wp) r 1 e := by
  have h (k : Fin 256) := group1_apply x hist ada n r k
  unfold mix weightsAt
  simp only [← h]
  unfold val_main_v67
  generalize val_main_v63 (F := Ideal) x hist ada = v
  pointwise [val_main_v66, val_main_v65, val_main_v64]

theorem mix2_apply (e : Fin 256) : val_main_v99 (F := Ideal) x hist ada wp (ix3 n r e)
    = mix (histAt hist n) (tokAt x ada n) (weightsAt wp) r 2 e := by
  have h (k : Fin 256) := group2_apply x hist ada n r k
  unfold mix weightsAt
  simp only [← h]
  unfold val_main_v99
  generalize val_main_v95 (F := Ideal) x hist ada = v
  pointwise [val_main_v98, val_main_v97, val_main_v96]

theorem mix3_apply (e : Fin 256) : val_main_v147 (F := Ideal) x hist ada wp (ix3 n r e)
    = mix (histAt hist n) (tokAt x ada n) (weightsAt wp) r 3 e := by
  have h (k : Fin 256) := group3_apply x hist ada n r k
  unfold mix weightsAt
  simp only [← h]
  unfold val_main_v147
  generalize val_main_v143 (F := Ideal) x hist ada = v
  pointwise [val_main_v146, val_main_v145, val_main_v144]

/-- The four groups side by side, scaled. -/
theorem scaled_apply (d : Fin 1024) : val_main_v152 (F := Ideal) x hist ada wp ps (ix3 n r d)
    = mixRow (histAt hist n) (tokAt x ada n) (weightsAt wp) (fun d => ps (ix2 0 d)) r d := by
  obtain ⟨q, e, rfl⟩ := column_cases d
  rw [mixRow_apply]
  have h0 := mix0_apply x hist ada wp n r e
  have h1 := mix1_apply x hist ada wp n r e
  have h2 := mix2_apply x hist ada wp n r e
  have h3 := mix3_apply x hist ada wp n r e
  unfold val_main_v152 val_main_v148
  generalize val_main_v43 (F := Ideal) x hist ada wp = a0 at h0
  generalize val_main_v67 (F := Ideal) x hist ada wp = a1 at h1
  generalize val_main_v99 (F := Ideal) x hist ada wp = a2 at h2
  generalize val_main_v147 (F := Ideal) x hist ada wp = a3 at h3
  fin_cases q
  · refine Eq.trans ?_ (congrArg (· * ps _) h0)
    pointwise [val_main_v151, val_main_v150, val_main_v149]
  · refine Eq.trans ?_ (congrArg (· * ps _) h1)
    pointwise [val_main_v151, val_main_v150, val_main_v149]
  · refine Eq.trans ?_ (congrArg (· * ps _) h2)
    pointwise [val_main_v151, val_main_v150, val_main_v149]
    refine congrArg (· * ps _) ?_
    rw [dif_neg (by omega), dif_neg (by omega), dif_pos (by omega)]
    exact congrArg (fun e => a2 (ix3 n r e)) (Fin.ext (by dsimp only; omega))
  · refine Eq.trans ?_ (congrArg (· * ps _) h3)
    pointwise [val_main_v151, val_main_v150, val_main_v149]
    refine congrArg (· * ps _) ?_
    rw [dif_neg (by omega), dif_neg (by omega), dif_neg (by omega)]
    exact congrArg (fun e => a3 (ix3 n r e)) (Fin.ext (by dsimp only; omega))

/-- The residual sums. -/
theorem resid_apply (d : Fin 1024) : val_main_v157 (F := Ideal) x hist ada wp ps (ix3 n r d)
    = resid (fun d => x (ix3 n r d)) (fun d => ada (ix3 0 (modAt n) ⟨2048 + d.val, by omega⟩))
        (mixRow (histAt hist n) (tokAt x ada n) (weightsAt wp) (fun d => ps (ix2 0 d)) r) d := by
  have h := scaled_apply x hist ada wp ps n r d
  have hg := gate_apply ada n d
  unfold resid
  rw [← h]
  beta_reduce
  rw [← hg]
  unfold val_main_v157 val_main_v156 val_main_v155
  generalize val_main_v152 (F := Ideal) x hist ada wp ps = v
  generalize val_main_v10 (F := Ideal) ada = w
  pointwise [val_main_v154, val_main_v153, val_main_cst_12]

/-- The reference's tokens are the layer's first half of its arguments. -/
theorem result_apply (d : Fin 1024) : val_main_v185 (F := Ideal) x hist ada wp ps g b (ix3 n r d)
    = stepAt x hist ada wp ps g b n r d := by
  have h := funext (resid_apply x hist ada wp ps n r)
  unfold stepAt mixed
  rw [← h]
  generalize hv : val_main_v157 (F := Ideal) x hist ada wp ps = v
  pointwise [val_main_v158, val_main_v159, val_main_v160, val_main_v161, val_main_v162, val_main_v163,
    val_main_v164, val_main_v165, val_main_v166, val_main_v167, val_main_v168, val_main_v169, val_main_v170,
    val_main_v171, val_main_v172, val_main_v173, val_main_v174, val_main_v175, val_main_v176, val_main_v177,
    val_main_v178, val_main_v179, val_main_v180, val_main_v181, val_main_v182, val_main_v183, val_main_v184,
    val_main_v185, val_main_cst_13, val_main_cst_14, val_main_cst_15,
    val_main_cst_16, val_main_cst_17, hv, Rows.norm, Rows.mean]

end Result

end

end Cert.Reference7Ideal.StepMixer
-- ==== Proof.StepMixerClaims.lean ====
module
public import proofs.«01_k».proof.Defs
public import proofs.«01_k».proof.Proof.StepMixerReference
public import proofs.«01_k».proof.Proof.Gen.Reference7Ideal.Run

/-! # The sample batch's mixer: the kernel's results are the reference's -/

set_option maxRecDepth 16384

namespace Cert.Proof.StepMixer

open Idealize.ShloMosaic Idealize.SL.Sem Cert.Reference7Ideal.Read Cert.Reference7Ideal.StepMixer Cert.Kernel7Ideal.StepMixer

@[expose] public section

/-- The reference's run leaves its arguments and the semaphores as they were. -/
theorem reference_frame [hReference7Ideal : Cert.Reference7Ideal.Facts] : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

section Equal

variable (m : (ℓ : Loc Cert.Kernel7Ideal.nD Cert.Kernel7Ideal.τ Cert.Kernel7Ideal.sig) → Buf (Elt Ideal) ℓ)
  (c : Dev Cert.Kernel7Ideal.nD)

theorem result_eq : val_main_v185 (F := Ideal) (m (c.tc.loc Cert.Kernel7Ideal.main_arg0)) (m (c.tc.loc Cert.Kernel7Ideal.main_arg1))
      (m (c.tc.loc Cert.Kernel7Ideal.main_arg2)) (m (c.tc.loc Cert.Kernel7Ideal.main_arg3)) (m (c.tc.loc Cert.Kernel7Ideal.main_arg4))
      (m (c.tc.loc Cert.Kernel7Ideal.main_arg5)) (m (c.tc.loc Cert.Kernel7Ideal.main_arg6))
    = result m c := funext fun (y : Cert.Reference7Ideal.S32x8x1024.Idx) => by
  rw [eq_ix3 y]
  exact result_apply _ _ _ _ _ _ _ _ _ _

theorem history_eq : val_main_v186 (F := Ideal) (m (c.tc.loc Cert.Kernel7Ideal.main_arg0)) (m (c.tc.loc Cert.Kernel7Ideal.main_arg1))
      (m (c.tc.loc Cert.Kernel7Ideal.main_arg2))
    = history m c := funext fun (y : Cert.Reference7Ideal.S32x15x1024.Idx) => by
  rw [eq_ix3 y]
  exact history_apply _ _ _ _ _ _

end Equal

/-- Kernel and reference compute the same arrays. -/
theorem algebraic : Cert.algebraic_Kernel7Ideal_Reference7Ideal := by
  intro m g m' g' _ hagree
  refine ⟨fun c => result m c, fun c => history m c, ?_, ?_⟩
  · exact (θ_run Cert.Kernel7Ideal.defs _ _).mono
      (fun _ h c => ⟨(h c).1.trans (final9 m c), (h c).2.1.trans (final10 m c), (h c).2.2⟩)
      (Cert.Kernel7Ideal.Value.run_blocks (F := Ideal) m g)
  · refine (θ_run Cert.Reference7Ideal.defs _ _).mono
      (fun _ h c => ⟨(h c).1.trans ?_, (h c).2.1.trans ?_, (h c).2.2⟩)
      (Cert.Reference7Ideal.Value.run (F := Ideal) m' g')
    all_goals obtain ⟨h0, h1, h2, h3, h4, h5, h6⟩ := hagree c
    · refine (val_main_v185_eq _).trans (Eq.trans ?_ (result_eq m c))
      rw [← h0, ← h1, ← h2, ← h3, ← h4, ← h5, ← h6]
    · refine (val_main_v186_eq _).trans (Eq.trans ?_ (history_eq m c))
      rw [← h0, ← h1, ← h2]

end

end Cert.Proof.StepMixer
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel4
public import proofs.«01_k».proof.Proof.Gen.Kernel3.Frame
public import proofs.«01_k».proof.Proof.Gen.Kernel4.Frame
public import proofs.«01_k».proof.Proof.Gen.Kernel3Ideal.Frame
public import proofs.«01_k».proof.Proof.Gen.Kernel4Ideal.Frame
public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference4Ideal.Run
public import proofs.«01_k».proof.Proof.Gen.Reference3Ideal.Read
public import proofs.«01_k».proof.Proof.Gen.Reference4Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Claims
public import proofs.«01_k».proof.Proof.MlpClaims
public import proofs.«01_k».proof.Proof.OprojClaims
public import proofs.«01_k».proof.Proof.KvqClaims
public import proofs.«01_k».proof.Proof.StepOprojClaims
public import proofs.«01_k».proof.Proof.StepKvqClaims
public import proofs.«01_k».proof.Proof.StepMixerClaims
public import Idealize.ShloMosaic.Adequacy
public import Idealize.ShloMosaic.Init

@[expose] public section

noncomputable section

namespace Cert.Proof

open Idealize.ShloMosaic Idealize.SL.Sem Cert.Kernel

/-- The reference's run leaves its arguments and the semaphores as they were. -/
theorem reference_frame [hReferenceIdeal : Cert.ReferenceIdeal.Facts] : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The frames of the programs, and the value claims of the attention, the second layer's output projection and
feed-forward, the first layer's feed-forward, the keys, values and queries, and the sample batch's projections,
second feed-forward and pooling mixer. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_logits_in_range.facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  fun m ρ _ => Cert.Kernel2.Gen.frame m ρ,
  fun m ρ _ => Cert.Kernel2Ideal.Gen.frame m ρ,
  fun m ρ _ => Oproj.reference_frame m ρ trivial,
  fun m ρ _ => Cert.Kernel3.Gen.frame m ρ,
  fun m ρ _ => Cert.Kernel3Ideal.Gen.frame m ρ,
  fun m ρ _ => Mlp.reference_frame m ρ trivial,
  fun m ρ _ => Cert.Kernel4.Gen.frame m ρ,
  fun m ρ _ => Cert.Kernel4Ideal.Gen.frame m ρ,
  fun m ρ _ => Kvq.reference_frame m ρ trivial,
  fun m ρ _ => Cert.Kernel5.Gen.frame m ρ,
  fun m ρ _ => Cert.Kernel5Ideal.Gen.frame m ρ,
  fun m ρ _ => StepKvq.reference_frame m ρ trivial,
  fun m ρ _ => Cert.Kernel6.Gen.frame m ρ,
  fun m ρ _ => Cert.Kernel6Ideal.Gen.frame m ρ,
  fun m ρ _ => StepOproj.reference_frame m ρ trivial,
  fun m ρ _ => Cert.Kernel7.Gen.frame m ρ,
  fun m ρ _ => Cert.Kernel7Ideal.Gen.frame m ρ,
  fun m ρ _ => StepMixer.reference_frame m ρ trivial,
  trivial, Attention.algebraic, trivial, Oproj.algebraic, trivial, Mlp.algebraic, trivial, Kvq.algebraic,
  trivial, StepKvq.algebraic, trivial, StepOproj.algebraic, trivial, StepMixer.algebraic⟩

end Cert.Proof

end
